-- ==== Defs.lean ====
def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaRefIdeal (m : (ℓ : Loc Cert.GlaRefIdeal.nD Cert.GlaRefIdeal.τ Cert.GlaRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FNorm (m : (ℓ : Loc Cert.FNorm.nD Cert.FNorm.τ Cert.FNorm.sig) → Buf (Elt Bits) ℓ) : Prop :=
  True

def Pre_FNormIdeal (m : (ℓ : Loc Cert.FNormIdeal.nD Cert.FNormIdeal.τ Cert.FNormIdeal.sig) → Buf (Elt Ideal) ℓ) : Prop :=
  True

def Pre_FNormRefIdeal (m : (ℓ : Loc Cert.FNormRefIdeal.nD Cert.FNormRefIdeal.τ Cert.FNormRefIdeal.sig) → Buf (Elt Ideal) ℓ) : Prop :=
  True

def Pre_FNormS (m : (ℓ : Loc Cert.FNormS.nD Cert.FNormS.τ Cert.FNormS.sig) → Buf (Elt Bits) ℓ) : Prop :=
  True

def Pre_FNormSIdeal (m : (ℓ : Loc Cert.FNormSIdeal.nD Cert.FNormSIdeal.τ Cert.FNormSIdeal.sig) → Buf (Elt Ideal) ℓ) : Prop :=
  True

def Pre_FNormSRefIdeal (m : (ℓ : Loc Cert.FNormSRefIdeal.nD Cert.FNormSRefIdeal.τ Cert.FNormSRefIdeal.sig) → Buf (Elt Ideal) ℓ) : Prop :=
  True

def Pre_RopeS (m : (ℓ : Loc Cert.RopeS.nD Cert.RopeS.τ Cert.RopeS.sig) → Buf (Elt Bits) ℓ) : Prop :=
  True

def Pre_RopeSIdeal (m : (ℓ : Loc Cert.RopeSIdeal.nD Cert.RopeSIdeal.τ Cert.RopeSIdeal.sig) → Buf (Elt Ideal) ℓ) : Prop :=
  True

def Pre_RopeSRefIdeal (m : (ℓ : Loc Cert.RopeSRefIdeal.nD Cert.RopeSRefIdeal.τ Cert.RopeSRefIdeal.sig) → Buf (Elt Ideal) ℓ) : Prop :=
  True

def Pre_Conva (m : (ℓ : Loc Cert.Conva.nD Cert.Conva.τ Cert.Conva.sig) → Buf (Elt Bits) ℓ) : Prop :=
  True

def Pre_ConvaIdeal (m : (ℓ : Loc Cert.ConvaIdeal.nD Cert.ConvaIdeal.τ Cert.ConvaIdeal.sig) → Buf (Elt Ideal) ℓ) : Prop :=
  True

def Pre_ConvaRefIdeal (m : (ℓ : Loc Cert.ConvaRefIdeal.nD Cert.ConvaRefIdeal.τ Cert.ConvaRefIdeal.sig) → Buf (Elt Ideal) ℓ) : Prop :=
  True

def Pre_ConvaS (m : (ℓ : Loc Cert.ConvaS.nD Cert.ConvaS.τ Cert.ConvaS.sig) → Buf (Elt Bits) ℓ) : Prop :=
  True

def Pre_ConvaSIdeal (m : (ℓ : Loc Cert.ConvaSIdeal.nD Cert.ConvaSIdeal.τ Cert.ConvaSIdeal.sig) → Buf (Elt Ideal) ℓ) : Prop :=
  True

def Pre_ConvaSRefIdeal (m : (ℓ : Loc Cert.ConvaSRefIdeal.nD Cert.ConvaSRefIdeal.τ Cert.ConvaSRefIdeal.sig) → Buf (Elt Ideal) ℓ) : Prop :=
  True

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4)
      ∧ r.2.mem ((c.tc : Thread Cert.Gla.nD Cert.Gla.τ).loc Cert.Gla.main_arg5) = m ((c.tc : Thread Cert.Gla.nD Cert.Gla.τ).loc Cert.Gla.main_arg5))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4)
      ∧ r.2.mem ((c.tc : Thread Cert.GlaRefIdeal.nD Cert.GlaRefIdeal.τ).loc Cert.GlaRefIdeal.main_arg5) = m ((c.tc : Thread Cert.GlaRefIdeal.nD Cert.GlaRefIdeal.τ).loc Cert.GlaRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_FNorm [hFNorm : Cert.FNorm.Facts] : Prop :=
  ∀ (m : (ℓ : Loc Cert.FNorm.nD Cert.FNorm.τ Cert.FNorm.sig) → Buf (Elt Bits) ℓ) (g : Dev Cert.FNorm.nD → PrngReg), Pre_FNorm m →
    θ_run (Cert.FNorm.defs (F := Bits)) (onTc (τ := Cert.FNorm.τ) (Cert.FNorm.main (F := Bits))) ⟨m, fun _ => 0, g⟩ (fun r => (∀ c : Dev Cert.FNorm.nD,
      r.2.mem ((c.tc : Thread Cert.FNorm.nD Cert.FNorm.τ).loc Cert.FNorm.main_arg0) = m ((c.tc : Thread Cert.FNorm.nD Cert.FNorm.τ).loc Cert.FNorm.main_arg0)
      ∧ r.2.mem ((c.tc : Thread Cert.FNorm.nD Cert.FNorm.τ).loc Cert.FNorm.main_arg1) = m ((c.tc : Thread Cert.FNorm.nD Cert.FNorm.τ).loc Cert.FNorm.main_arg1))
      ∧ r.2.sem = fun _ => 0)

def quiescent_FNormIdeal [hFNormIdeal : Cert.FNormIdeal.Facts] : Prop :=
  ∀ (m : (ℓ : Loc Cert.FNormIdeal.nD Cert.FNormIdeal.τ Cert.FNormIdeal.sig) → Buf (Elt Ideal) ℓ) (g : Dev Cert.FNormIdeal.nD → PrngReg), Pre_FNormIdeal m →
    θ_run (Cert.FNormIdeal.defs (F := Ideal)) (onTc (τ := Cert.FNormIdeal.τ) (Cert.FNormIdeal.main (F := Ideal))) ⟨m, fun _ => 0, g⟩ (fun r => (∀ c : Dev Cert.FNormIdeal.nD,
      r.2.mem ((c.tc : Thread Cert.FNormIdeal.nD Cert.FNormIdeal.τ).loc Cert.FNormIdeal.main_arg0) = m ((c.tc : Thread Cert.FNormIdeal.nD Cert.FNormIdeal.τ).loc Cert.FNormIdeal.main_arg0)
      ∧ r.2.mem ((c.tc : Thread Cert.FNormIdeal.nD Cert.FNormIdeal.τ).loc Cert.FNormIdeal.main_arg1) = m ((c.tc : Thread Cert.FNormIdeal.nD Cert.FNormIdeal.τ).loc Cert.FNormIdeal.main_arg1))
      ∧ r.2.sem = fun _ => 0)

def quiescent_FNormRefIdeal [hFNormRefIdeal : Cert.FNormRefIdeal.Facts] : Prop :=
  ∀ (m : (ℓ : Loc Cert.FNormRefIdeal.nD Cert.FNormRefIdeal.τ Cert.FNormRefIdeal.sig) → Buf (Elt Ideal) ℓ) (g : Dev Cert.FNormRefIdeal.nD → PrngReg), Pre_FNormRefIdeal m →
    θ_run (Cert.FNormRefIdeal.defs (F := Ideal)) (onTc (τ := Cert.FNormRefIdeal.τ) (Cert.FNormRefIdeal.main (F := Ideal))) ⟨m, fun _ => 0, g⟩ (fun r => (∀ c : Dev Cert.FNormRefIdeal.nD,
      r.2.mem ((c.tc : Thread Cert.FNormRefIdeal.nD Cert.FNormRefIdeal.τ).loc Cert.FNormRefIdeal.main_arg0) = m ((c.tc : Thread Cert.FNormRefIdeal.nD Cert.FNormRefIdeal.τ).loc Cert.FNormRefIdeal.main_arg0)
      ∧ r.2.mem ((c.tc : Thread Cert.FNormRefIdeal.nD Cert.FNormRefIdeal.τ).loc Cert.FNormRefIdeal.main_arg1) = m ((c.tc : Thread Cert.FNormRefIdeal.nD Cert.FNormRefIdeal.τ).loc Cert.FNormRefIdeal.main_arg1))
      ∧ r.2.sem = fun _ => 0)

def quiescent_FNormS [hFNormS : Cert.FNormS.Facts] : Prop :=
  ∀ (m : (ℓ : Loc Cert.FNormS.nD Cert.FNormS.τ Cert.FNormS.sig) → Buf (Elt Bits) ℓ) (g : Dev Cert.FNormS.nD → PrngReg), Pre_FNormS m →
    θ_run (Cert.FNormS.defs (F := Bits)) (onTc (τ := Cert.FNormS.τ) (Cert.FNormS.main (F := Bits))) ⟨m, fun _ => 0, g⟩ (fun r => (∀ c : Dev Cert.FNormS.nD,
      r.2.mem ((c.tc : Thread Cert.FNormS.nD Cert.FNormS.τ).loc Cert.FNormS.main_arg0) = m ((c.tc : Thread Cert.FNormS.nD Cert.FNormS.τ).loc Cert.FNormS.main_arg0)
      ∧ r.2.mem ((c.tc : Thread Cert.FNormS.nD Cert.FNormS.τ).loc Cert.FNormS.main_arg1) = m ((c.tc : Thread Cert.FNormS.nD Cert.FNormS.τ).loc Cert.FNormS.main_arg1))
      ∧ r.2.sem = fun _ => 0)

def quiescent_FNormSIdeal [hFNormSIdeal : Cert.FNormSIdeal.Facts] : Prop :=
  ∀ (m : (ℓ : Loc Cert.FNormSIdeal.nD Cert.FNormSIdeal.τ Cert.FNormSIdeal.sig) → Buf (Elt Ideal) ℓ) (g : Dev Cert.FNormSIdeal.nD → PrngReg), Pre_FNormSIdeal m →
    θ_run (Cert.FNormSIdeal.defs (F := Ideal)) (onTc (τ := Cert.FNormSIdeal.τ) (Cert.FNormSIdeal.main (F := Ideal))) ⟨m, fun _ => 0, g⟩ (fun r => (∀ c : Dev Cert.FNormSIdeal.nD,
      r.2.mem ((c.tc : Thread Cert.FNormSIdeal.nD Cert.FNormSIdeal.τ).loc Cert.FNormSIdeal.main_arg0) = m ((c.tc : Thread Cert.FNormSIdeal.nD Cert.FNormSIdeal.τ).loc Cert.FNormSIdeal.main_arg0)
      ∧ r.2.mem ((c.tc : Thread Cert.FNormSIdeal.nD Cert.FNormSIdeal.τ).loc Cert.FNormSIdeal.main_arg1) = m ((c.tc : Thread Cert.FNormSIdeal.nD Cert.FNormSIdeal.τ).loc Cert.FNormSIdeal.main_arg1))
      ∧ r.2.sem = fun _ => 0)

def quiescent_FNormSRefIdeal [hFNormSRefIdeal : Cert.FNormSRefIdeal.Facts] : Prop :=
  ∀ (m : (ℓ : Loc Cert.FNormSRefIdeal.nD Cert.FNormSRefIdeal.τ Cert.FNormSRefIdeal.sig) → Buf (Elt Ideal) ℓ) (g : Dev Cert.FNormSRefIdeal.nD → PrngReg), Pre_FNormSRefIdeal m →
    θ_run (Cert.FNormSRefIdeal.defs (F := Ideal)) (onTc (τ := Cert.FNormSRefIdeal.τ) (Cert.FNormSRefIdeal.main (F := Ideal))) ⟨m, fun _ => 0, g⟩ (fun r => (∀ c : Dev Cert.FNormSRefIdeal.nD,
      r.2.mem ((c.tc : Thread Cert.FNormSRefIdeal.nD Cert.FNormSRefIdeal.τ).loc Cert.FNormSRefIdeal.main_arg0) = m ((c.tc : Thread Cert.FNormSRefIdeal.nD Cert.FNormSRefIdeal.τ).loc Cert.FNormSRefIdeal.main_arg0)
      ∧ r.2.mem ((c.tc : Thread Cert.FNormSRefIdeal.nD Cert.FNormSRefIdeal.τ).loc Cert.FNormSRefIdeal.main_arg1) = m ((c.tc : Thread Cert.FNormSRefIdeal.nD Cert.FNormSRefIdeal.τ).loc Cert.FNormSRefIdeal.main_arg1))
      ∧ r.2.sem = fun _ => 0)

def quiescent_RopeS [hRopeS : Cert.RopeS.Facts] : Prop :=
  ∀ (m : (ℓ : Loc Cert.RopeS.nD Cert.RopeS.τ Cert.RopeS.sig) → Buf (Elt Bits) ℓ) (g : Dev Cert.RopeS.nD → PrngReg), Pre_RopeS m →
    θ_run (Cert.RopeS.defs (F := Bits)) (onTc (τ := Cert.RopeS.τ) (Cert.RopeS.main (F := Bits))) ⟨m, fun _ => 0, g⟩ (fun r => (∀ c : Dev Cert.RopeS.nD,
      r.2.mem ((c.tc : Thread Cert.RopeS.nD Cert.RopeS.τ).loc Cert.RopeS.main_arg0) = m ((c.tc : Thread Cert.RopeS.nD Cert.RopeS.τ).loc Cert.RopeS.main_arg0))
      ∧ r.2.sem = fun _ => 0)

def quiescent_RopeSIdeal [hRopeSIdeal : Cert.RopeSIdeal.Facts] : Prop :=
  ∀ (m : (ℓ : Loc Cert.RopeSIdeal.nD Cert.RopeSIdeal.τ Cert.RopeSIdeal.sig) → Buf (Elt Ideal) ℓ) (g : Dev Cert.RopeSIdeal.nD → PrngReg), Pre_RopeSIdeal m →
    θ_run (Cert.RopeSIdeal.defs (F := Ideal)) (onTc (τ := Cert.RopeSIdeal.τ) (Cert.RopeSIdeal.main (F := Ideal))) ⟨m, fun _ => 0, g⟩ (fun r => (∀ c : Dev Cert.RopeSIdeal.nD,
      r.2.mem ((c.tc : Thread Cert.RopeSIdeal.nD Cert.RopeSIdeal.τ).loc Cert.RopeSIdeal.main_arg0) = m ((c.tc : Thread Cert.RopeSIdeal.nD Cert.RopeSIdeal.τ).loc Cert.RopeSIdeal.main_arg0))
      ∧ r.2.sem = fun _ => 0)

def quiescent_RopeSRefIdeal [hRopeSRefIdeal : Cert.RopeSRefIdeal.Facts] : Prop :=
  ∀ (m : (ℓ : Loc Cert.RopeSRefIdeal.nD Cert.RopeSRefIdeal.τ Cert.RopeSRefIdeal.sig) → Buf (Elt Ideal) ℓ) (g : Dev Cert.RopeSRefIdeal.nD → PrngReg), Pre_RopeSRefIdeal m →
    θ_run (Cert.RopeSRefIdeal.defs (F := Ideal)) (onTc (τ := Cert.RopeSRefIdeal.τ) (Cert.RopeSRefIdeal.main (F := Ideal))) ⟨m, fun _ => 0, g⟩ (fun r => (∀ c : Dev Cert.RopeSRefIdeal.nD,
      r.2.mem ((c.tc : Thread Cert.RopeSRefIdeal.nD Cert.RopeSRefIdeal.τ).loc Cert.RopeSRefIdeal.main_arg0) = m ((c.tc : Thread Cert.RopeSRefIdeal.nD Cert.RopeSRefIdeal.τ).loc Cert.RopeSRefIdeal.main_arg0))
      ∧ r.2.sem = fun _ => 0)

def quiescent_Conva [hConva : Cert.Conva.Facts] : Prop :=
  ∀ (m : (ℓ : Loc Cert.Conva.nD Cert.Conva.τ Cert.Conva.sig) → Buf (Elt Bits) ℓ) (g : Dev Cert.Conva.nD → PrngReg), Pre_Conva m →
    θ_run (Cert.Conva.defs (F := Bits)) (onTc (τ := Cert.Conva.τ) (Cert.Conva.main (F := Bits))) ⟨m, fun _ => 0, g⟩ (fun r => (∀ c : Dev Cert.Conva.nD,
      r.2.mem ((c.tc : Thread Cert.Conva.nD Cert.Conva.τ).loc Cert.Conva.main_arg0) = m ((c.tc : Thread Cert.Conva.nD Cert.Conva.τ).loc Cert.Conva.main_arg0)
      ∧ r.2.mem ((c.tc : Thread Cert.Conva.nD Cert.Conva.τ).loc Cert.Conva.main_arg1) = m ((c.tc : Thread Cert.Conva.nD Cert.Conva.τ).loc Cert.Conva.main_arg1)
      ∧ r.2.mem ((c.tc : Thread Cert.Conva.nD Cert.Conva.τ).loc Cert.Conva.main_arg2) = m ((c.tc : Thread Cert.Conva.nD Cert.Conva.τ).loc Cert.Conva.main_arg2))
      ∧ r.2.sem = fun _ => 0)

def quiescent_ConvaIdeal [hConvaIdeal : Cert.ConvaIdeal.Facts] : Prop :=
  ∀ (m : (ℓ : Loc Cert.ConvaIdeal.nD Cert.ConvaIdeal.τ Cert.ConvaIdeal.sig) → Buf (Elt Ideal) ℓ) (g : Dev Cert.ConvaIdeal.nD → PrngReg), Pre_ConvaIdeal m →
    θ_run (Cert.ConvaIdeal.defs (F := Ideal)) (onTc (τ := Cert.ConvaIdeal.τ) (Cert.ConvaIdeal.main (F := Ideal))) ⟨m, fun _ => 0, g⟩ (fun r => (∀ c : Dev Cert.ConvaIdeal.nD,
      r.2.mem ((c.tc : Thread Cert.ConvaIdeal.nD Cert.ConvaIdeal.τ).loc Cert.ConvaIdeal.main_arg0) = m ((c.tc : Thread Cert.ConvaIdeal.nD Cert.ConvaIdeal.τ).loc Cert.ConvaIdeal.main_arg0)
      ∧ r.2.mem ((c.tc : Thread Cert.ConvaIdeal.nD Cert.ConvaIdeal.τ).loc Cert.ConvaIdeal.main_arg1) = m ((c.tc : Thread Cert.ConvaIdeal.nD Cert.ConvaIdeal.τ).loc Cert.ConvaIdeal.main_arg1)
      ∧ r.2.mem ((c.tc : Thread Cert.ConvaIdeal.nD Cert.ConvaIdeal.τ).loc Cert.ConvaIdeal.main_arg2) = m ((c.tc : Thread Cert.ConvaIdeal.nD Cert.ConvaIdeal.τ).loc Cert.ConvaIdeal.main_arg2))
      ∧ r.2.sem = fun _ => 0)

def quiescent_ConvaRefIdeal [hConvaRefIdeal : Cert.ConvaRefIdeal.Facts] : Prop :=
  ∀ (m : (ℓ : Loc Cert.ConvaRefIdeal.nD Cert.ConvaRefIdeal.τ Cert.ConvaRefIdeal.sig) → Buf (Elt Ideal) ℓ) (g : Dev Cert.ConvaRefIdeal.nD → PrngReg), Pre_ConvaRefIdeal m →
    θ_run (Cert.ConvaRefIdeal.defs (F := Ideal)) (onTc (τ := Cert.ConvaRefIdeal.τ) (Cert.ConvaRefIdeal.main (F := Ideal))) ⟨m, fun _ => 0, g⟩ (fun r => (∀ c : Dev Cert.ConvaRefIdeal.nD,
      r.2.mem ((c.tc : Thread Cert.ConvaRefIdeal.nD Cert.ConvaRefIdeal.τ).loc Cert.ConvaRefIdeal.main_arg0) = m ((c.tc : Thread Cert.ConvaRefIdeal.nD Cert.ConvaRefIdeal.τ).loc Cert.ConvaRefIdeal.main_arg0)
      ∧ r.2.mem ((c.tc : Thread Cert.ConvaRefIdeal.nD Cert.ConvaRefIdeal.τ).loc Cert.ConvaRefIdeal.main_arg1) = m ((c.tc : Thread Cert.ConvaRefIdeal.nD Cert.ConvaRefIdeal.τ).loc Cert.ConvaRefIdeal.main_arg1)
      ∧ r.2.mem ((c.tc : Thread Cert.ConvaRefIdeal.nD Cert.ConvaRefIdeal.τ).loc Cert.ConvaRefIdeal.main_arg2) = m ((c.tc : Thread Cert.ConvaRefIdeal.nD Cert.ConvaRefIdeal.τ).loc Cert.ConvaRefIdeal.main_arg2))
      ∧ r.2.sem = fun _ => 0)

def quiescent_ConvaS [hConvaS : Cert.ConvaS.Facts] : Prop :=
  ∀ (m : (ℓ : Loc Cert.ConvaS.nD Cert.ConvaS.τ Cert.ConvaS.sig) → Buf (Elt Bits) ℓ) (g : Dev Cert.ConvaS.nD → PrngReg), Pre_ConvaS m →
    θ_run (Cert.ConvaS.defs (F := Bits)) (onTc (τ := Cert.ConvaS.τ) (Cert.ConvaS.main (F := Bits))) ⟨m, fun _ => 0, g⟩ (fun r => (∀ c : Dev Cert.ConvaS.nD,
      r.2.mem ((c.tc : Thread Cert.ConvaS.nD Cert.ConvaS.τ).loc Cert.ConvaS.main_arg0) = m ((c.tc : Thread Cert.ConvaS.nD Cert.ConvaS.τ).loc Cert.ConvaS.main_arg0)
      ∧ r.2.mem ((c.tc : Thread Cert.ConvaS.nD Cert.ConvaS.τ).loc Cert.ConvaS.main_arg1) = m ((c.tc : Thread Cert.ConvaS.nD Cert.ConvaS.τ).loc Cert.ConvaS.main_arg1)
      ∧ r.2.mem ((c.tc : Thread Cert.ConvaS.nD Cert.ConvaS.τ).loc Cert.ConvaS.main_arg2) = m ((c.tc : Thread Cert.ConvaS.nD Cert.ConvaS.τ).loc Cert.ConvaS.main_arg2))
      ∧ r.2.sem = fun _ => 0)

def quiescent_ConvaSIdeal [hConvaSIdeal : Cert.ConvaSIdeal.Facts] : Prop :=
  ∀ (m : (ℓ : Loc Cert.ConvaSIdeal.nD Cert.ConvaSIdeal.τ Cert.ConvaSIdeal.sig) → Buf (Elt Ideal) ℓ) (g : Dev Cert.ConvaSIdeal.nD → PrngReg), Pre_ConvaSIdeal m →
    θ_run (Cert.ConvaSIdeal.defs (F := Ideal)) (onTc (τ := Cert.ConvaSIdeal.τ) (Cert.ConvaSIdeal.main (F := Ideal))) ⟨m, fun _ => 0, g⟩ (fun r => (∀ c : Dev Cert.ConvaSIdeal.nD,
      r.2.mem ((c.tc : Thread Cert.ConvaSIdeal.nD Cert.ConvaSIdeal.τ).loc Cert.ConvaSIdeal.main_arg0) = m ((c.tc : Thread Cert.ConvaSIdeal.nD Cert.ConvaSIdeal.τ).loc Cert.ConvaSIdeal.main_arg0)
      ∧ r.2.mem ((c.tc : Thread Cert.ConvaSIdeal.nD Cert.ConvaSIdeal.τ).loc Cert.ConvaSIdeal.main_arg1) = m ((c.tc : Thread Cert.ConvaSIdeal.nD Cert.ConvaSIdeal.τ).loc Cert.ConvaSIdeal.main_arg1)
      ∧ r.2.mem ((c.tc : Thread Cert.ConvaSIdeal.nD Cert.ConvaSIdeal.τ).loc Cert.ConvaSIdeal.main_arg2) = m ((c.tc : Thread Cert.ConvaSIdeal.nD Cert.ConvaSIdeal.τ).loc Cert.ConvaSIdeal.main_arg2))
      ∧ r.2.sem = fun _ => 0)

def quiescent_ConvaSRefIdeal [hConvaSRefIdeal : Cert.ConvaSRefIdeal.Facts] : Prop :=
  ∀ (m : (ℓ : Loc Cert.ConvaSRefIdeal.nD Cert.ConvaSRefIdeal.τ Cert.ConvaSRefIdeal.sig) → Buf (Elt Ideal) ℓ) (g : Dev Cert.ConvaSRefIdeal.nD → PrngReg), Pre_ConvaSRefIdeal m →
    θ_run (Cert.ConvaSRefIdeal.defs (F := Ideal)) (onTc (τ := Cert.ConvaSRefIdeal.τ) (Cert.ConvaSRefIdeal.main (F := Ideal))) ⟨m, fun _ => 0, g⟩ (fun r => (∀ c : Dev Cert.ConvaSRefIdeal.nD,
      r.2.mem ((c.tc : Thread Cert.ConvaSRefIdeal.nD Cert.ConvaSRefIdeal.τ).loc Cert.ConvaSRefIdeal.main_arg0) = m ((c.tc : Thread Cert.ConvaSRefIdeal.nD Cert.ConvaSRefIdeal.τ).loc Cert.ConvaSRefIdeal.main_arg0)
      ∧ r.2.mem ((c.tc : Thread Cert.ConvaSRefIdeal.nD Cert.ConvaSRefIdeal.τ).loc Cert.ConvaSRefIdeal.main_arg1) = m ((c.tc : Thread Cert.ConvaSRefIdeal.nD Cert.ConvaSRefIdeal.τ).loc Cert.ConvaSRefIdeal.main_arg1)
      ∧ r.2.mem ((c.tc : Thread Cert.ConvaSRefIdeal.nD Cert.ConvaSRefIdeal.τ).loc Cert.ConvaSRefIdeal.main_arg2) = m ((c.tc : Thread Cert.ConvaSRefIdeal.nD Cert.ConvaSRefIdeal.τ).loc Cert.ConvaSRefIdeal.main_arg2))
      ∧ r.2.sem = fun _ => 0)

def preserves_Gla_GlaIdeal : Prop :=
  True

def algebraic_GlaIdeal_GlaRefIdeal [hGlaIdeal : Cert.GlaIdeal.Facts] [hGlaRefIdeal : Cert.GlaRefIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)
      ∧ m' ((c.tc : Thread Cert.GlaRefIdeal.nD Cert.GlaRefIdeal.τ).loc Cert.GlaRefIdeal.main_arg5) = m ((c.tc : Thread Cert.GlaIdeal.nD Cert.GlaIdeal.τ).loc Cert.GlaIdeal.main_arg5)) →
    ∃ (v0 : (c : Dev Cert.GlaIdeal.nD) → Buf (Elt Ideal) ((c.tc : Thread Cert.GlaIdeal.nD Cert.GlaIdeal.τ).loc Cert.GlaIdeal.main_v7_0)) (v1 : (c : Dev Cert.GlaIdeal.nD) → Buf (Elt Ideal) ((c.tc : Thread Cert.GlaIdeal.nD Cert.GlaIdeal.τ).loc Cert.GlaIdeal.main_v7_1)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v7_0) = v0 c
          ∧ r.2.mem ((c.tc : Thread Cert.GlaIdeal.nD Cert.GlaIdeal.τ).loc Cert.GlaIdeal.main_v7_1) = v1 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
          ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v88) = v0 c
          ∧ r.2.mem ((c.tc : Thread Cert.GlaRefIdeal.nD Cert.GlaRefIdeal.τ).loc Cert.GlaRefIdeal.main_v89) = v1 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4)
          ∧ r.2.mem ((c.tc : Thread Cert.GlaRefIdeal.nD Cert.GlaRefIdeal.τ).loc Cert.GlaRefIdeal.main_arg5) = m' ((c.tc : Thread Cert.GlaRefIdeal.nD Cert.GlaRefIdeal.τ).loc Cert.GlaRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v20) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v5)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v5) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v4) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v8) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_FNorm_FNormIdeal : Prop :=
  True

def algebraic_FNormIdeal_FNormRefIdeal [hFNormIdeal : Cert.FNormIdeal.Facts] [hFNormRefIdeal : Cert.FNormRefIdeal.Facts] : Prop :=
  ∀ (m : (ℓ : Loc Cert.FNormIdeal.nD Cert.FNormIdeal.τ Cert.FNormIdeal.sig) → Buf (Elt Ideal) ℓ) (g : Dev Cert.FNormIdeal.nD → PrngReg)
    (m' : (ℓ : Loc Cert.FNormRefIdeal.nD Cert.FNormRefIdeal.τ Cert.FNormRefIdeal.sig) → Buf (Elt Ideal) ℓ) (g' : Dev Cert.FNormRefIdeal.nD → PrngReg), Pre_FNormIdeal m →
    (∀ c : Dev Cert.FNormIdeal.nD,
      m' ((c.tc : Thread Cert.FNormRefIdeal.nD Cert.FNormRefIdeal.τ).loc Cert.FNormRefIdeal.main_arg0) = m ((c.tc : Thread Cert.FNormIdeal.nD Cert.FNormIdeal.τ).loc Cert.FNormIdeal.main_arg0)
      ∧ m' ((c.tc : Thread Cert.FNormRefIdeal.nD Cert.FNormRefIdeal.τ).loc Cert.FNormRefIdeal.main_arg1) = m ((c.tc : Thread Cert.FNormIdeal.nD Cert.FNormIdeal.τ).loc Cert.FNormIdeal.main_arg1)) →
    ∃ (v0 : (c : Dev Cert.FNormIdeal.nD) → Buf (Elt Ideal) ((c.tc : Thread Cert.FNormIdeal.nD Cert.FNormIdeal.τ).loc Cert.FNormIdeal.main_v1)),
      θ_run (Cert.FNormIdeal.defs (F := Ideal)) (onTc (τ := Cert.FNormIdeal.τ) (Cert.FNormIdeal.main (F := Ideal))) ⟨m, fun _ => 0, g⟩ (fun r => ∀ c : Dev Cert.FNormIdeal.nD,
          r.2.mem ((c.tc : Thread Cert.FNormIdeal.nD Cert.FNormIdeal.τ).loc Cert.FNormIdeal.main_v1) = v0 c
          ∧ r.2.mem ((c.tc : Thread Cert.FNormIdeal.nD Cert.FNormIdeal.τ).loc Cert.FNormIdeal.main_arg0) = m ((c.tc : Thread Cert.FNormIdeal.nD Cert.FNormIdeal.τ).loc Cert.FNormIdeal.main_arg0)
          ∧ r.2.mem ((c.tc : Thread Cert.FNormIdeal.nD Cert.FNormIdeal.τ).loc Cert.FNormIdeal.main_arg1) = m ((c.tc : Thread Cert.FNormIdeal.nD Cert.FNormIdeal.τ).loc Cert.FNormIdeal.main_arg1))
      ∧ θ_run (Cert.FNormRefIdeal.defs (F := Ideal)) (onTc (τ := Cert.FNormRefIdeal.τ) (Cert.FNormRefIdeal.main (F := Ideal))) ⟨m', fun _ => 0, g'⟩ (fun r => ∀ c : Dev Cert.FNormRefIdeal.nD,
          r.2.mem ((c.tc : Thread Cert.FNormRefIdeal.nD Cert.FNormRefIdeal.τ).loc Cert.FNormRefIdeal.main_v12) = v0 c
          ∧ r.2.mem ((c.tc : Thread Cert.FNormRefIdeal.nD Cert.FNormRefIdeal.τ).loc Cert.FNormRefIdeal.main_arg0) = m' ((c.tc : Thread Cert.FNormRefIdeal.nD Cert.FNormRefIdeal.τ).loc Cert.FNormRefIdeal.main_arg0)
          ∧ r.2.mem ((c.tc : Thread Cert.FNormRefIdeal.nD Cert.FNormRefIdeal.τ).loc Cert.FNormRefIdeal.main_arg1) = m' ((c.tc : Thread Cert.FNormRefIdeal.nD Cert.FNormRefIdeal.τ).loc Cert.FNormRefIdeal.main_arg1))

def preserves_FNormS_FNormSIdeal : Prop :=
  True

def algebraic_FNormSIdeal_FNormSRefIdeal [hFNormSIdeal : Cert.FNormSIdeal.Facts] [hFNormSRefIdeal : Cert.FNormSRefIdeal.Facts] : Prop :=
  ∀ (m : (ℓ : Loc Cert.FNormSIdeal.nD Cert.FNormSIdeal.τ Cert.FNormSIdeal.sig) → Buf (Elt Ideal) ℓ) (g : Dev Cert.FNormSIdeal.nD → PrngReg)
    (m' : (ℓ : Loc Cert.FNormSRefIdeal.nD Cert.FNormSRefIdeal.τ Cert.FNormSRefIdeal.sig) → Buf (Elt Ideal) ℓ) (g' : Dev Cert.FNormSRefIdeal.nD → PrngReg), Pre_FNormSIdeal m →
    (∀ c : Dev Cert.FNormSIdeal.nD,
      m' ((c.tc : Thread Cert.FNormSRefIdeal.nD Cert.FNormSRefIdeal.τ).loc Cert.FNormSRefIdeal.main_arg0) = m ((c.tc : Thread Cert.FNormSIdeal.nD Cert.FNormSIdeal.τ).loc Cert.FNormSIdeal.main_arg0)
      ∧ m' ((c.tc : Thread Cert.FNormSRefIdeal.nD Cert.FNormSRefIdeal.τ).loc Cert.FNormSRefIdeal.main_arg1) = m ((c.tc : Thread Cert.FNormSIdeal.nD Cert.FNormSIdeal.τ).loc Cert.FNormSIdeal.main_arg1)) →
    ∃ (v0 : (c : Dev Cert.FNormSIdeal.nD) → Buf (Elt Ideal) ((c.tc : Thread Cert.FNormSIdeal.nD Cert.FNormSIdeal.τ).loc Cert.FNormSIdeal.main_v1)),
      θ_run (Cert.FNormSIdeal.defs (F := Ideal)) (onTc (τ := Cert.FNormSIdeal.τ) (Cert.FNormSIdeal.main (F := Ideal))) ⟨m, fun _ => 0, g⟩ (fun r => ∀ c : Dev Cert.FNormSIdeal.nD,
          r.2.mem ((c.tc : Thread Cert.FNormSIdeal.nD Cert.FNormSIdeal.τ).loc Cert.FNormSIdeal.main_v1) = v0 c
          ∧ r.2.mem ((c.tc : Thread Cert.FNormSIdeal.nD Cert.FNormSIdeal.τ).loc Cert.FNormSIdeal.main_arg0) = m ((c.tc : Thread Cert.FNormSIdeal.nD Cert.FNormSIdeal.τ).loc Cert.FNormSIdeal.main_arg0)
          ∧ r.2.mem ((c.tc : Thread Cert.FNormSIdeal.nD Cert.FNormSIdeal.τ).loc Cert.FNormSIdeal.main_arg1) = m ((c.tc : Thread Cert.FNormSIdeal.nD Cert.FNormSIdeal.τ).loc Cert.FNormSIdeal.main_arg1))
      ∧ θ_run (Cert.FNormSRefIdeal.defs (F := Ideal)) (onTc (τ := Cert.FNormSRefIdeal.τ) (Cert.FNormSRefIdeal.main (F := Ideal))) ⟨m', fun _ => 0, g'⟩ (fun r => ∀ c : Dev Cert.FNormSRefIdeal.nD,
          r.2.mem ((c.tc : Thread Cert.FNormSRefIdeal.nD Cert.FNormSRefIdeal.τ).loc Cert.FNormSRefIdeal.main_v12) = v0 c
          ∧ r.2.mem ((c.tc : Thread Cert.FNormSRefIdeal.nD Cert.FNormSRefIdeal.τ).loc Cert.FNormSRefIdeal.main_arg0) = m' ((c.tc : Thread Cert.FNormSRefIdeal.nD Cert.FNormSRefIdeal.τ).loc Cert.FNormSRefIdeal.main_arg0)
          ∧ r.2.mem ((c.tc : Thread Cert.FNormSRefIdeal.nD Cert.FNormSRefIdeal.τ).loc Cert.FNormSRefIdeal.main_arg1) = m' ((c.tc : Thread Cert.FNormSRefIdeal.nD Cert.FNormSRefIdeal.τ).loc Cert.FNormSRefIdeal.main_arg1))

def preserves_RopeS_RopeSIdeal : Prop :=
  True

def algebraic_RopeSIdeal_RopeSRefIdeal [hRopeSIdeal : Cert.RopeSIdeal.Facts] [hRopeSRefIdeal : Cert.RopeSRefIdeal.Facts] : Prop :=
  ∀ (m : (ℓ : Loc Cert.RopeSIdeal.nD Cert.RopeSIdeal.τ Cert.RopeSIdeal.sig) → Buf (Elt Ideal) ℓ) (g : Dev Cert.RopeSIdeal.nD → PrngReg)
    (m' : (ℓ : Loc Cert.RopeSRefIdeal.nD Cert.RopeSRefIdeal.τ Cert.RopeSRefIdeal.sig) → Buf (Elt Ideal) ℓ) (g' : Dev Cert.RopeSRefIdeal.nD → PrngReg), Pre_RopeSIdeal m →
    (∀ c : Dev Cert.RopeSIdeal.nD,
      m' ((c.tc : Thread Cert.RopeSRefIdeal.nD Cert.RopeSRefIdeal.τ).loc Cert.RopeSRefIdeal.main_arg0) = m ((c.tc : Thread Cert.RopeSIdeal.nD Cert.RopeSIdeal.τ).loc Cert.RopeSIdeal.main_arg0)) →
    ∃ (v0 : (c : Dev Cert.RopeSIdeal.nD) → Buf (Elt Ideal) ((c.tc : Thread Cert.RopeSIdeal.nD Cert.RopeSIdeal.τ).loc Cert.RopeSIdeal.main_v35_0)) (v1 : (c : Dev Cert.RopeSIdeal.nD) → Buf (Elt Ideal) ((c.tc : Thread Cert.RopeSIdeal.nD Cert.RopeSIdeal.τ).loc Cert.RopeSIdeal.main_v35_1)) (v2 : (c : Dev Cert.RopeSIdeal.nD) → Buf (Elt Ideal) ((c.tc : Thread Cert.RopeSIdeal.nD Cert.RopeSIdeal.τ).loc Cert.RopeSIdeal.main_v35_2)) (v3 : (c : Dev Cert.RopeSIdeal.nD) → Buf (Elt Ideal) ((c.tc : Thread Cert.RopeSIdeal.nD Cert.RopeSIdeal.τ).loc Cert.RopeSIdeal.main_v35_3)) (v4 : (c : Dev Cert.RopeSIdeal.nD) → Buf (Elt Ideal) ((c.tc : Thread Cert.RopeSIdeal.nD Cert.RopeSIdeal.τ).loc Cert.RopeSIdeal.main_v35_4)),
      θ_run (Cert.RopeSIdeal.defs (F := Ideal)) (onTc (τ := Cert.RopeSIdeal.τ) (Cert.RopeSIdeal.main (F := Ideal))) ⟨m, fun _ => 0, g⟩ (fun r => ∀ c : Dev Cert.RopeSIdeal.nD,
          r.2.mem ((c.tc : Thread Cert.RopeSIdeal.nD Cert.RopeSIdeal.τ).loc Cert.RopeSIdeal.main_v35_0) = v0 c
          ∧ r.2.mem ((c.tc : Thread Cert.RopeSIdeal.nD Cert.RopeSIdeal.τ).loc Cert.RopeSIdeal.main_v35_1) = v1 c
          ∧ r.2.mem ((c.tc : Thread Cert.RopeSIdeal.nD Cert.RopeSIdeal.τ).loc Cert.RopeSIdeal.main_v35_2) = v2 c
          ∧ r.2.mem ((c.tc : Thread Cert.RopeSIdeal.nD Cert.RopeSIdeal.τ).loc Cert.RopeSIdeal.main_v35_3) = v3 c
          ∧ r.2.mem ((c.tc : Thread Cert.RopeSIdeal.nD Cert.RopeSIdeal.τ).loc Cert.RopeSIdeal.main_v35_4) = v4 c
          ∧ r.2.mem ((c.tc : Thread Cert.RopeSIdeal.nD Cert.RopeSIdeal.τ).loc Cert.RopeSIdeal.main_arg0) = m ((c.tc : Thread Cert.RopeSIdeal.nD Cert.RopeSIdeal.τ).loc Cert.RopeSIdeal.main_arg0))
      ∧ θ_run (Cert.RopeSRefIdeal.defs (F := Ideal)) (onTc (τ := Cert.RopeSRefIdeal.τ) (Cert.RopeSRefIdeal.main (F := Ideal))) ⟨m', fun _ => 0, g'⟩ (fun r => ∀ c : Dev Cert.RopeSRefIdeal.nD,
          r.2.mem ((c.tc : Thread Cert.RopeSRefIdeal.nD Cert.RopeSRefIdeal.τ).loc Cert.RopeSRefIdeal.main_v77) = v0 c
          ∧ r.2.mem ((c.tc : Thread Cert.RopeSRefIdeal.nD Cert.RopeSRefIdeal.τ).loc Cert.RopeSRefIdeal.main_v78) = v1 c
          ∧ r.2.mem ((c.tc : Thread Cert.RopeSRefIdeal.nD Cert.RopeSRefIdeal.τ).loc Cert.RopeSRefIdeal.main_v79) = v2 c
          ∧ r.2.mem ((c.tc : Thread Cert.RopeSRefIdeal.nD Cert.RopeSRefIdeal.τ).loc Cert.RopeSRefIdeal.main_v75) = v3 c
          ∧ r.2.mem ((c.tc : Thread Cert.RopeSRefIdeal.nD Cert.RopeSRefIdeal.τ).loc Cert.RopeSRefIdeal.main_v76) = v4 c
          ∧ r.2.mem ((c.tc : Thread Cert.RopeSRefIdeal.nD Cert.RopeSRefIdeal.τ).loc Cert.RopeSRefIdeal.main_arg0) = m' ((c.tc : Thread Cert.RopeSRefIdeal.nD Cert.RopeSRefIdeal.τ).loc Cert.RopeSRefIdeal.main_arg0))

def preserves_Conva_ConvaIdeal : Prop :=
  True

def algebraic_ConvaIdeal_ConvaRefIdeal [hConvaIdeal : Cert.ConvaIdeal.Facts] [hConvaRefIdeal : Cert.ConvaRefIdeal.Facts] : Prop :=
  ∀ (m : (ℓ : Loc Cert.ConvaIdeal.nD Cert.ConvaIdeal.τ Cert.ConvaIdeal.sig) → Buf (Elt Ideal) ℓ) (g : Dev Cert.ConvaIdeal.nD → PrngReg)
    (m' : (ℓ : Loc Cert.ConvaRefIdeal.nD Cert.ConvaRefIdeal.τ Cert.ConvaRefIdeal.sig) → Buf (Elt Ideal) ℓ) (g' : Dev Cert.ConvaRefIdeal.nD → PrngReg), Pre_ConvaIdeal m →
    (∀ c : Dev Cert.ConvaIdeal.nD,
      m' ((c.tc : Thread Cert.ConvaRefIdeal.nD Cert.ConvaRefIdeal.τ).loc Cert.ConvaRefIdeal.main_arg0) = m ((c.tc : Thread Cert.ConvaIdeal.nD Cert.ConvaIdeal.τ).loc Cert.ConvaIdeal.main_arg0)
      ∧ m' ((c.tc : Thread Cert.ConvaRefIdeal.nD Cert.ConvaRefIdeal.τ).loc Cert.ConvaRefIdeal.main_arg1) = m ((c.tc : Thread Cert.ConvaIdeal.nD Cert.ConvaIdeal.τ).loc Cert.ConvaIdeal.main_arg1)
      ∧ m' ((c.tc : Thread Cert.ConvaRefIdeal.nD Cert.ConvaRefIdeal.τ).loc Cert.ConvaRefIdeal.main_arg2) = m ((c.tc : Thread Cert.ConvaIdeal.nD Cert.ConvaIdeal.τ).loc Cert.ConvaIdeal.main_arg2)) →
    ∃ (v0 : (c : Dev Cert.ConvaIdeal.nD) → Buf (Elt Ideal) ((c.tc : Thread Cert.ConvaIdeal.nD Cert.ConvaIdeal.τ).loc Cert.ConvaIdeal.main_v2_0)) (v1 : (c : Dev Cert.ConvaIdeal.nD) → Buf (Elt Ideal) ((c.tc : Thread Cert.ConvaIdeal.nD Cert.ConvaIdeal.τ).loc Cert.ConvaIdeal.main_v2_1)),
      θ_run (Cert.ConvaIdeal.defs (F := Ideal)) (onTc (τ := Cert.ConvaIdeal.τ) (Cert.ConvaIdeal.main (F := Ideal))) ⟨m, fun _ => 0, g⟩ (fun r => ∀ c : Dev Cert.ConvaIdeal.nD,
          r.2.mem ((c.tc : Thread Cert.ConvaIdeal.nD Cert.ConvaIdeal.τ).loc Cert.ConvaIdeal.main_v2_0) = v0 c
          ∧ r.2.mem ((c.tc : Thread Cert.ConvaIdeal.nD Cert.ConvaIdeal.τ).loc Cert.ConvaIdeal.main_v2_1) = v1 c
          ∧ r.2.mem ((c.tc : Thread Cert.ConvaIdeal.nD Cert.ConvaIdeal.τ).loc Cert.ConvaIdeal.main_arg0) = m ((c.tc : Thread Cert.ConvaIdeal.nD Cert.ConvaIdeal.τ).loc Cert.ConvaIdeal.main_arg0)
          ∧ r.2.mem ((c.tc : Thread Cert.ConvaIdeal.nD Cert.ConvaIdeal.τ).loc Cert.ConvaIdeal.main_arg1) = m ((c.tc : Thread Cert.ConvaIdeal.nD Cert.ConvaIdeal.τ).loc Cert.ConvaIdeal.main_arg1)
          ∧ r.2.mem ((c.tc : Thread Cert.ConvaIdeal.nD Cert.ConvaIdeal.τ).loc Cert.ConvaIdeal.main_arg2) = m ((c.tc : Thread Cert.ConvaIdeal.nD Cert.ConvaIdeal.τ).loc Cert.ConvaIdeal.main_arg2))
      ∧ θ_run (Cert.ConvaRefIdeal.defs (F := Ideal)) (onTc (τ := Cert.ConvaRefIdeal.τ) (Cert.ConvaRefIdeal.main (F := Ideal))) ⟨m', fun _ => 0, g'⟩ (fun r => ∀ c : Dev Cert.ConvaRefIdeal.nD,
          r.2.mem ((c.tc : Thread Cert.ConvaRefIdeal.nD Cert.ConvaRefIdeal.τ).loc Cert.ConvaRefIdeal.main_v32) = v0 c
          ∧ r.2.mem ((c.tc : Thread Cert.ConvaRefIdeal.nD Cert.ConvaRefIdeal.τ).loc Cert.ConvaRefIdeal.main_v33) = v1 c
          ∧ r.2.mem ((c.tc : Thread Cert.ConvaRefIdeal.nD Cert.ConvaRefIdeal.τ).loc Cert.ConvaRefIdeal.main_arg0) = m' ((c.tc : Thread Cert.ConvaRefIdeal.nD Cert.ConvaRefIdeal.τ).loc Cert.ConvaRefIdeal.main_arg0)
          ∧ r.2.mem ((c.tc : Thread Cert.ConvaRefIdeal.nD Cert.ConvaRefIdeal.τ).loc Cert.ConvaRefIdeal.main_arg1) = m' ((c.tc : Thread Cert.ConvaRefIdeal.nD Cert.ConvaRefIdeal.τ).loc Cert.ConvaRefIdeal.main_arg1)
          ∧ r.2.mem ((c.tc : Thread Cert.ConvaRefIdeal.nD Cert.ConvaRefIdeal.τ).loc Cert.ConvaRefIdeal.main_arg2) = m' ((c.tc : Thread Cert.ConvaRefIdeal.nD Cert.ConvaRefIdeal.τ).loc Cert.ConvaRefIdeal.main_arg2))

def preserves_ConvaS_ConvaSIdeal : Prop :=
  True

def algebraic_ConvaSIdeal_ConvaSRefIdeal [hConvaSIdeal : Cert.ConvaSIdeal.Facts] [hConvaSRefIdeal : Cert.ConvaSRefIdeal.Facts] : Prop :=
  ∀ (m : (ℓ : Loc Cert.ConvaSIdeal.nD Cert.ConvaSIdeal.τ Cert.ConvaSIdeal.sig) → Buf (Elt Ideal) ℓ) (g : Dev Cert.ConvaSIdeal.nD → PrngReg)
    (m' : (ℓ : Loc Cert.ConvaSRefIdeal.nD Cert.ConvaSRefIdeal.τ Cert.ConvaSRefIdeal.sig) → Buf (Elt Ideal) ℓ) (g' : Dev Cert.ConvaSRefIdeal.nD → PrngReg), Pre_ConvaSIdeal m →
    (∀ c : Dev Cert.ConvaSIdeal.nD,
      m' ((c.tc : Thread Cert.ConvaSRefIdeal.nD Cert.ConvaSRefIdeal.τ).loc Cert.ConvaSRefIdeal.main_arg0) = m ((c.tc : Thread Cert.ConvaSIdeal.nD Cert.ConvaSIdeal.τ).loc Cert.ConvaSIdeal.main_arg0)
      ∧ m' ((c.tc : Thread Cert.ConvaSRefIdeal.nD Cert.ConvaSRefIdeal.τ).loc Cert.ConvaSRefIdeal.main_arg1) = m ((c.tc : Thread Cert.ConvaSIdeal.nD Cert.ConvaSIdeal.τ).loc Cert.ConvaSIdeal.main_arg1)
      ∧ m' ((c.tc : Thread Cert.ConvaSRefIdeal.nD Cert.ConvaSRefIdeal.τ).loc Cert.ConvaSRefIdeal.main_arg2) = m ((c.tc : Thread Cert.ConvaSIdeal.nD Cert.ConvaSIdeal.τ).loc Cert.ConvaSIdeal.main_arg2)) →
    ∃ (v0 : (c : Dev Cert.ConvaSIdeal.nD) → Buf (Elt Ideal) ((c.tc : Thread Cert.ConvaSIdeal.nD Cert.ConvaSIdeal.τ).loc Cert.ConvaSIdeal.main_v2_0)) (v1 : (c : Dev Cert.ConvaSIdeal.nD) → Buf (Elt Ideal) ((c.tc : Thread Cert.ConvaSIdeal.nD Cert.ConvaSIdeal.τ).loc Cert.ConvaSIdeal.main_v2_1)),
      θ_run (Cert.ConvaSIdeal.defs (F := Ideal)) (onTc (τ := Cert.ConvaSIdeal.τ) (Cert.ConvaSIdeal.main (F := Ideal))) ⟨m, fun _ => 0, g⟩ (fun r => ∀ c : Dev Cert.ConvaSIdeal.nD,
          r.2.mem ((c.tc : Thread Cert.ConvaSIdeal.nD Cert.ConvaSIdeal.τ).loc Cert.ConvaSIdeal.main_v2_0) = v0 c
          ∧ r.2.mem ((c.tc : Thread Cert.ConvaSIdeal.nD Cert.ConvaSIdeal.τ).loc Cert.ConvaSIdeal.main_v2_1) = v1 c
          ∧ r.2.mem ((c.tc : Thread Cert.ConvaSIdeal.nD Cert.ConvaSIdeal.τ).loc Cert.ConvaSIdeal.main_arg0) = m ((c.tc : Thread Cert.ConvaSIdeal.nD Cert.ConvaSIdeal.τ).loc Cert.ConvaSIdeal.main_arg0)
          ∧ r.2.mem ((c.tc : Thread Cert.ConvaSIdeal.nD Cert.ConvaSIdeal.τ).loc Cert.ConvaSIdeal.main_arg1) = m ((c.tc : Thread Cert.ConvaSIdeal.nD Cert.ConvaSIdeal.τ).loc Cert.ConvaSIdeal.main_arg1)
          ∧ r.2.mem ((c.tc : Thread Cert.ConvaSIdeal.nD Cert.ConvaSIdeal.τ).loc Cert.ConvaSIdeal.main_arg2) = m ((c.tc : Thread Cert.ConvaSIdeal.nD Cert.ConvaSIdeal.τ).loc Cert.ConvaSIdeal.main_arg2))
      ∧ θ_run (Cert.ConvaSRefIdeal.defs (F := Ideal)) (onTc (τ := Cert.ConvaSRefIdeal.τ) (Cert.ConvaSRefIdeal.main (F := Ideal))) ⟨m', fun _ => 0, g'⟩ (fun r => ∀ c : Dev Cert.ConvaSRefIdeal.nD,
          r.2.mem ((c.tc : Thread Cert.ConvaSRefIdeal.nD Cert.ConvaSRefIdeal.τ).loc Cert.ConvaSRefIdeal.main_v32) = v0 c
          ∧ r.2.mem ((c.tc : Thread Cert.ConvaSRefIdeal.nD Cert.ConvaSRefIdeal.τ).loc Cert.ConvaSRefIdeal.main_v33) = v1 c
          ∧ r.2.mem ((c.tc : Thread Cert.ConvaSRefIdeal.nD Cert.ConvaSRefIdeal.τ).loc Cert.ConvaSRefIdeal.main_arg0) = m' ((c.tc : Thread Cert.ConvaSRefIdeal.nD Cert.ConvaSRefIdeal.τ).loc Cert.ConvaSRefIdeal.main_arg0)
          ∧ r.2.mem ((c.tc : Thread Cert.ConvaSRefIdeal.nD Cert.ConvaSRefIdeal.τ).loc Cert.ConvaSRefIdeal.main_arg1) = m' ((c.tc : Thread Cert.ConvaSRefIdeal.nD Cert.ConvaSRefIdeal.τ).loc Cert.ConvaSRefIdeal.main_arg1)
          ∧ r.2.mem ((c.tc : Thread Cert.ConvaSRefIdeal.nD Cert.ConvaSRefIdeal.τ).loc Cert.ConvaSRefIdeal.main_arg2) = m' ((c.tc : Thread Cert.ConvaSRefIdeal.nD Cert.ConvaSRefIdeal.τ).loc Cert.ConvaSRefIdeal.main_arg2))

def Claim : Prop :=
  ∃ (hGla : Cert.Gla.Facts) (hGlaIdeal : Cert.GlaIdeal.Facts) (hGlaRefIdeal : Cert.GlaRefIdeal.Facts) (hMerge : Cert.Merge.Facts) (hMergeIdeal : Cert.MergeIdeal.Facts) (hMergeRefIdeal : Cert.MergeRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hFNorm : Cert.FNorm.Facts) (hFNormIdeal : Cert.FNormIdeal.Facts) (hFNormRefIdeal : Cert.FNormRefIdeal.Facts) (hFNormS : Cert.FNormS.Facts) (hFNormSIdeal : Cert.FNormSIdeal.Facts) (hFNormSRefIdeal : Cert.FNormSRefIdeal.Facts) (hRopeS : Cert.RopeS.Facts) (hRopeSIdeal : Cert.RopeSIdeal.Facts) (hRopeSRefIdeal : Cert.RopeSRefIdeal.Facts) (hConva : Cert.Conva.Facts) (hConvaIdeal : Cert.ConvaIdeal.Facts) (hConvaRefIdeal : Cert.ConvaRefIdeal.Facts) (hConvaS : Cert.ConvaS.Facts) (hConvaSIdeal : Cert.ConvaSIdeal.Facts) (hConvaSRefIdeal : Cert.ConvaSRefIdeal.Facts),
    quiescent_Gla (hGla := hGla)
    ∧ quiescent_GlaIdeal (hGlaIdeal := hGlaIdeal)
    ∧ quiescent_GlaRefIdeal (hGlaRefIdeal := hGlaRefIdeal)
    ∧ quiescent_Merge (hMerge := hMerge)
    ∧ quiescent_MergeIdeal (hMergeIdeal := hMergeIdeal)
    ∧ quiescent_MergeRefIdeal (hMergeRefIdeal := hMergeRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FNorm (hFNorm := hFNorm)
    ∧ quiescent_FNormIdeal (hFNormIdeal := hFNormIdeal)
    ∧ quiescent_FNormRefIdeal (hFNormRefIdeal := hFNormRefIdeal)
    ∧ quiescent_FNormS (hFNormS := hFNormS)
    ∧ quiescent_FNormSIdeal (hFNormSIdeal := hFNormSIdeal)
    ∧ quiescent_FNormSRefIdeal (hFNormSRefIdeal := hFNormSRefIdeal)
    ∧ quiescent_RopeS (hRopeS := hRopeS)
    ∧ quiescent_RopeSIdeal (hRopeSIdeal := hRopeSIdeal)
    ∧ quiescent_RopeSRefIdeal (hRopeSRefIdeal := hRopeSRefIdeal)
    ∧ quiescent_Conva (hConva := hConva)
    ∧ quiescent_ConvaIdeal (hConvaIdeal := hConvaIdeal)
    ∧ quiescent_ConvaRefIdeal (hConvaRefIdeal := hConvaRefIdeal)
    ∧ quiescent_ConvaS (hConvaS := hConvaS)
    ∧ quiescent_ConvaSIdeal (hConvaSIdeal := hConvaSIdeal)
    ∧ quiescent_ConvaSRefIdeal (hConvaSRefIdeal := hConvaSRefIdeal)
    ∧ preserves_Gla_GlaIdeal
    ∧ algebraic_GlaIdeal_GlaRefIdeal (hGlaIdeal := hGlaIdeal) (hGlaRefIdeal := hGlaRefIdeal)
    ∧ preserves_Merge_MergeIdeal
    ∧ algebraic_MergeIdeal_MergeRefIdeal (hMergeIdeal := hMergeIdeal) (hMergeRefIdeal := hMergeRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_FNorm_FNormIdeal
    ∧ algebraic_FNormIdeal_FNormRefIdeal (hFNormIdeal := hFNormIdeal) (hFNormRefIdeal := hFNormRefIdeal)
    ∧ preserves_FNormS_FNormSIdeal
    ∧ algebraic_FNormSIdeal_FNormSRefIdeal (hFNormSIdeal := hFNormSIdeal) (hFNormSRefIdeal := hFNormSRefIdeal)
    ∧ preserves_RopeS_RopeSIdeal
    ∧ algebraic_RopeSIdeal_RopeSRefIdeal (hRopeSIdeal := hRopeSIdeal) (hRopeSRefIdeal := hRopeSRefIdeal)
    ∧ preserves_Conva_ConvaIdeal
    ∧ algebraic_ConvaIdeal_ConvaRefIdeal (hConvaIdeal := hConvaIdeal) (hConvaRefIdeal := hConvaRefIdeal)
    ∧ preserves_ConvaS_ConvaSIdeal
    ∧ algebraic_ConvaSIdeal_ConvaSRefIdeal (hConvaSIdeal := hConvaSIdeal) (hConvaSRefIdeal := hConvaSRefIdeal)
-- ==== Gla.lean ====
abbrev S8192x15360 : Shape := ⟨2, ![8192, 15360]⟩
abbrev S8192x128 : Shape := ⟨2, ![8192, 128]⟩
abbrev S16x512 : Shape := ⟨2, ![16, 512]⟩
abbrev S512 : Shape := ⟨1, ![512]⟩
abbrev S256 : Shape := ⟨1, ![256]⟩
abbrev S4x4x128x256 : Shape := ⟨4, ![4, 4, 128, 256]⟩
abbrev S_ : Shape := ⟨0, ![]⟩
abbrev S96x512 : Shape := ⟨2, ![96, 512]⟩
abbrev S128x512 : Shape := ⟨2, ![128, 512]⟩
abbrev S1x512 : Shape := ⟨2, ![1, 512]⟩
abbrev S1x256 : Shape := ⟨2, ![1, 256]⟩
abbrev S4x4x256x128 : Shape := ⟨4, ![4, 4, 256, 128]⟩
abbrev S8192x1024 : Shape := ⟨2, ![8192, 1024]⟩
abbrev S32x3072 : Shape := ⟨2, ![32, 3072]⟩
abbrev S32x128 : Shape := ⟨2, ![32, 128]⟩
abbrev S1x4x256x128 : Shape := ⟨4, ![1, 4, 256, 128]⟩
abbrev S32x1024 : Shape := ⟨2, ![32, 1024]⟩
abbrev S4x256x128 : Shape := ⟨3, ![4, 256, 128]⟩
abbrev S32x1 : Shape := ⟨2, ![32, 1]⟩
abbrev S32x512 : Shape := ⟨2, ![32, 512]⟩
abbrev S32x32 : Shape := ⟨2, ![32, 32]⟩
abbrev S32x256 : Shape := ⟨2, ![32, 256]⟩
abbrev S1x256x128 : Shape := ⟨3, ![1, 256, 128]⟩
abbrev S256x128 : Shape := ⟨2, ![256, 128]⟩
abbrev S1x128 : Shape := ⟨2, ![1, 128]⟩
abbrev S32 : Shape := ⟨1, ![32]⟩

abbrev nBuf : Space → Nat
  | .hbm => 17
  | .vmem => 14
  | .smem => 0
  | _ => 0

abbrev bufTy : (tb : Table) → Fin (tcTables nBuf tb) → BufTy
  | .hbm, ⟨0, _⟩ => ⟨S8192x15360, .f32⟩
  | .hbm, ⟨1, _⟩ => ⟨S8192x128, .f32⟩
  | .hbm, ⟨2, _⟩ => ⟨S16x512, .f32⟩
  | .hbm, ⟨3, _⟩ => ⟨S512, .f32⟩
  | .hbm, ⟨4, _⟩ => ⟨S256, .f32⟩
  | .hbm, ⟨5, _⟩ => ⟨S4x4x128x256, .f32⟩
  | .hbm, ⟨6, _⟩ => ⟨S_, .f32⟩
  | .hbm, ⟨7, _⟩ => ⟨S16x512, .f32⟩
  | .hbm, ⟨8, _⟩ => ⟨S_, .f32⟩
  | .hbm, ⟨9, _⟩ => ⟨S96x512, .f32⟩
  | .hbm, ⟨10, _⟩ => ⟨S128x512, .f32⟩
  | .hbm, ⟨11, _⟩ => ⟨S128x512, .bf16⟩
  | .hbm, ⟨12, _⟩ => ⟨S1x512, .f32⟩
  | .hbm, ⟨13, _⟩ => ⟨S1x256, .f32⟩
  | .hbm, ⟨14, _⟩ => ⟨S4x4x256x128, .f32⟩
  | .hbm, ⟨15, _⟩ => ⟨S8192x1024, .bf16⟩
  | .hbm, ⟨16, _⟩ => ⟨S4x4x256x128, .f32⟩
  | .local _ .vmem, ⟨0, _⟩ => ⟨S32x3072, .f32⟩
  | .local _ .vmem, ⟨1, _⟩ => ⟨S32x3072, .f32⟩
  | .local _ .vmem, ⟨2, _⟩ => ⟨S32x128, .f32⟩
  | .local _ .vmem, ⟨3, _⟩ => ⟨S32x128, .f32⟩
  | .local _ .vmem, ⟨4, _⟩ => ⟨S128x512, .bf16⟩
  | .local _ .vmem, ⟨5, _⟩ => ⟨S1x512, .f32⟩
  | .local _ .vmem, ⟨6, _⟩ => ⟨S1x256, .f32⟩
  | .local _ .vmem, ⟨7, _⟩ => ⟨S1x4x256x128, .f32⟩
  | .local _ .vmem, ⟨8, _⟩ => ⟨S1x4x256x128, .f32⟩
  | .local _ .vmem, ⟨9, _⟩ => ⟨S32x1024, .bf16⟩
  | .local _ .vmem, ⟨10, _⟩ => ⟨S32x1024, .bf16⟩
  | .local _ .vmem, ⟨11, _⟩ => ⟨S1x4x256x128, .f32⟩
  | .local _ .vmem, ⟨12, _⟩ => ⟨S1x4x256x128, .f32⟩
  | .local _ .vmem, ⟨13, _⟩ => ⟨S4x256x128, .f32⟩
  | _, _ => ⟨S8192x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![4, 64], ![false, false]⟩

def k0_cond2 (i : grid0.Coords) : BitVec 1 :=
  let arg1 : BitVec 32 := BitVec.ofNat 32 (i 1).val
  let c63_i32 : BitVec 32 := 63#32
  let v306 : BitVec 1 := Scalar.cmpi .eq arg1 c63_i32
  let v307 : BitVec 32 := Scalar.extui v306
  let c0_i32_94 : BitVec 32 := 0#32
  let v308 : BitVec 1 := Scalar.cmpi .ne v307 c0_i32_94
  v308

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c4_i32 : BitVec 32 := 4#32
  let c0_i32 : BitVec 32 := 0#32
  ![v1.toNat, c4_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S32x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S32x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== GlaRefIdeal.lean ====
abbrev S8192x15360 : Shape := ⟨2, ![8192, 15360]⟩
abbrev S8192x128 : Shape := ⟨2, ![8192, 128]⟩
abbrev S16x512 : Shape := ⟨2, ![16, 512]⟩
abbrev S512 : Shape := ⟨1, ![512]⟩
abbrev S256 : Shape := ⟨1, ![256]⟩
abbrev S4x4x128x256 : Shape := ⟨4, ![4, 4, 128, 256]⟩
abbrev S8192x2048 : Shape := ⟨2, ![8192, 2048]⟩
abbrev S4x2048x2048 : Shape := ⟨3, ![4, 2048, 2048]⟩
abbrev S4x2048x512 : Shape := ⟨3, ![4, 2048, 512]⟩
abbrev S4x2048x1024 : Shape := ⟨3, ![4, 2048, 1024]⟩
abbrev S8192x16 : Shape := ⟨2, ![8192, 16]⟩
abbrev S4x2048x16 : Shape := ⟨3, ![4, 2048, 16]⟩
abbrev S4x2048x4x128 : Shape := ⟨4, ![4, 2048, 4, 128]⟩
abbrev S_ : Shape := ⟨0, ![]⟩
abbrev S4x2048x4x256 : Shape := ⟨4, ![4, 2048, 4, 256]⟩
abbrev S1x1x512 : Shape := ⟨3, ![1, 1, 512]⟩
abbrev S4x64x32x4x128 : Shape := ⟨5, ![4, 64, 32, 4, 128]⟩
abbrev S64x4x32x4x128 : Shape := ⟨5, ![64, 4, 32, 4, 128]⟩
abbrev S64x4x4x32x128 : Shape := ⟨5, ![64, 4, 4, 32, 128]⟩
abbrev S4x64x32x4x256 : Shape := ⟨5, ![4, 64, 32, 4, 256]⟩
abbrev S64x4x32x4x256 : Shape := ⟨5, ![64, 4, 32, 4, 256]⟩
abbrev S64x4x4x32x256 : Shape := ⟨5, ![64, 4, 4, 32, 256]⟩
abbrev S32x32 : Shape := ⟨2, ![32, 32]⟩
abbrev S64x4x4x32x32 : Shape := ⟨5, ![64, 4, 4, 32, 32]⟩
abbrev S64x4x4x1x128 : Shape := ⟨5, ![64, 4, 4, 1, 128]⟩
abbrev S64x4x4x128 : Shape := ⟨4, ![64, 4, 4, 128]⟩
abbrev S1x4x4x32x128 : Shape := ⟨5, ![1, 4, 4, 32, 128]⟩
abbrev S4x4x32x128 : Shape := ⟨4, ![4, 4, 32, 128]⟩
abbrev S1x4x4x32x256 : Shape := ⟨5, ![1, 4, 4, 32, 256]⟩
abbrev S4x4x32x256 : Shape := ⟨4, ![4, 4, 32, 256]⟩
abbrev S1x4x4x128 : Shape := ⟨4, ![1, 4, 4, 128]⟩
abbrev S4x4x128 : Shape := ⟨3, ![4, 4, 128]⟩
abbrev S1x4x4x32x32 : Shape := ⟨5, ![1, 4, 4, 32, 32]⟩
abbrev S4x4x32x32 : Shape := ⟨4, ![4, 4, 32, 32]⟩
abbrev S4x4x128x1 : Shape := ⟨4, ![4, 4, 128, 1]⟩
abbrev S4x64x4x32x256 : Shape := ⟨5, ![4, 64, 4, 32, 256]⟩
abbrev S8192x1024 : Shape := ⟨2, ![8192, 1024]⟩
abbrev S4x2048x4 : Shape := ⟨3, ![4, 2048, 4]⟩
abbrev S4x2048x4x1 : Shape := ⟨4, ![4, 2048, 4, 1]⟩
abbrev S1x1x1x256 : Shape := ⟨4, ![1, 1, 1, 256]⟩
abbrev S4x4x256x128 : Shape := ⟨4, ![4, 4, 256, 128]⟩

abbrev nBuf : Space → Nat
  | .hbm => 181
  | .vmem => 0
  | .smem => 0
  | _ => 0

abbrev hbmTy0_0 (i : Nat) : BufTy := match i % 128 with
  | 0 => ⟨S8192x15360, .f32⟩
  | 1 => ⟨S8192x128, .f32⟩
  | 2 => ⟨S16x512, .f32⟩
  | 3 => ⟨S512, .f32⟩
  | 4 => ⟨S256, .f32⟩
  | 5 => ⟨S4x4x128x256, .f32⟩
  | 6 => ⟨S8192x2048, .f32⟩
  | 7 => ⟨S4x2048x2048, .f32⟩
  | 8 => ⟨S4x2048x512, .f32⟩
  | 9 => ⟨S4x2048x512, .f32⟩
  | 10 => ⟨S4x2048x1024, .f32⟩
  | 11 => ⟨S8192x16, .f32⟩
  | 12 => ⟨S4x2048x16, .f32⟩
  | 13 => ⟨S4x2048x4x128, .f32⟩
  | 14 => ⟨S_, .f32⟩
  | 15 => ⟨S4x2048x4x128, .f32⟩
  | 16 => ⟨S4x2048x4x128, .f32⟩
  | 17 => ⟨S4x2048x4x128, .f32⟩
  | 18 => ⟨S4x2048x4x256, .f32⟩
  | 19 => ⟨S4x2048x512, .f32⟩
  | 20 => ⟨S1x1x512, .f32⟩
  | 21 => ⟨S4x2048x512, .f32⟩
  | 22 => ⟨S4x2048x512, .f32⟩
  | 23 => ⟨S4x2048x512, .f32⟩
  | 24 => ⟨S_, .f32⟩
  | 25 => ⟨S4x2048x512, .f32⟩
  | 26 => ⟨S4x2048x512, .f32⟩
  | 27 => ⟨S4x2048x512, .f32⟩
  | 28 => ⟨S4x2048x512, .f32⟩
  | 29 => ⟨S4x2048x512, .i1⟩
  | 30 => ⟨S4x2048x512, .f32⟩
  | 31 => ⟨S4x2048x512, .f32⟩
  | 32 => ⟨S4x2048x512, .f32⟩
  | 33 => ⟨S4x2048x512, .f32⟩
  | 34 => ⟨S4x2048x512, .f32⟩
  | 35 => ⟨S4x2048x512, .f32⟩
  | 36 => ⟨S4x2048x512, .f32⟩
  | 37 => ⟨S4x2048x512, .f32⟩
  | 38 => ⟨S4x2048x512, .f32⟩
  | 39 => ⟨S_, .f32⟩
  | 40 => ⟨S4x2048x512, .f32⟩
  | 41 => ⟨S4x2048x512, .f32⟩
  | 42 => ⟨S4x2048x4x128, .f32⟩
  | 43 => ⟨S4x64x32x4x128, .f32⟩
  | 44 => ⟨S64x4x32x4x128, .f32⟩
  | 45 => ⟨S64x4x4x32x128, .f32⟩
  | 46 => ⟨S4x64x32x4x128, .f32⟩
  | 47 => ⟨S64x4x32x4x128, .f32⟩
  | 48 => ⟨S64x4x4x32x128, .f32⟩
  | 49 => ⟨S4x64x32x4x256, .f32⟩
  | 50 => ⟨S64x4x32x4x256, .f32⟩
  | 51 => ⟨S64x4x4x32x256, .f32⟩
  | 52 => ⟨S4x64x32x4x128, .f32⟩
  | 53 => ⟨S64x4x32x4x128, .f32⟩
  | 54 => ⟨S64x4x4x32x128, .f32⟩
  | 55 => ⟨S_, .f32⟩
  | 56 => ⟨S_, .f32⟩
  | 57 => ⟨S64x4x4x32x128, .f32⟩
  | 58 => ⟨S_, .i1⟩
  | 59 => ⟨S32x32, .i1⟩
  | 60 => ⟨S32x32, .i32⟩
  | 61 => ⟨S_, .i32⟩
  | 62 => ⟨S32x32, .i32⟩
  | 63 => ⟨S32x32, .i32⟩
  | 64 => ⟨S32x32, .i32⟩
  | 65 => ⟨S32x32, .i1⟩
  | 66 => ⟨S_, .i1⟩
  | 67 => ⟨S32x32, .i1⟩
  | 68 => ⟨S32x32, .i1⟩
  | 69 => ⟨S64x4x4x32x128, .f32⟩
  | 70 => ⟨S64x4x4x32x128, .f32⟩
  | 71 => ⟨S64x4x4x32x128, .f32⟩
  | 72 => ⟨S64x4x4x32x128, .f32⟩
  | 73 => ⟨S64x4x4x32x128, .f32⟩
  | 74 => ⟨S64x4x4x32x32, .f32⟩
  | 75 => ⟨S_, .f32⟩
  | 76 => ⟨S_, .f32⟩
  | 77 => ⟨S64x4x4x32x32, .i1⟩
  | 78 => ⟨S64x4x4x32x32, .f32⟩
  | 79 => ⟨S64x4x4x32x32, .f32⟩
  | 80 => ⟨S64x4x4x1x128, .f32⟩
  | 81 => ⟨S64x4x4x32x128, .f32⟩
  | 82 => ⟨S64x4x4x32x128, .f32⟩
  | 83 => ⟨S64x4x4x32x128, .f32⟩
  | 84 => ⟨S64x4x4x32x128, .f32⟩
  | 85 => ⟨S64x4x4x1x128, .f32⟩
  | 86 => ⟨S64x4x4x128, .f32⟩
  | 87 => ⟨S64x4x4x128, .f32⟩
  | 88 => ⟨S_, .f32⟩
  | 89 => ⟨S64x4x4x32x256, .f32⟩
  | 90 => ⟨S_, .i32⟩
  | 91 => ⟨S64x4x4x32x128, .f32⟩
  | 92 => ⟨S64x4x4x32x128, .f32⟩
  | 93 => ⟨S64x4x4x32x256, .f32⟩
  | 94 => ⟨S64x4x4x128, .f32⟩
  | 95 => ⟨S64x4x4x32x32, .f32⟩
  | 96 => ⟨S_, .i32⟩
  | 97 => ⟨S4x4x128x256, .f32⟩
  | 98 => ⟨S64x4x4x32x256, .f32⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S1x4x4x32x128, .f32⟩
  | 106 => ⟨S4x4x32x128, .f32⟩
  | 107 => ⟨S_, .i32⟩
  | 108 => ⟨S_, .i32⟩
  | 109 => ⟨S_, .i32⟩
  | 110 => ⟨S_, .i32⟩
  | 111 => ⟨S1x4x4x32x128, .f32⟩
  | 112 => ⟨S4x4x32x128, .f32⟩
  | 113 => ⟨S_, .i32⟩
  | 114 => ⟨S_, .i32⟩
  | 115 => ⟨S_, .i32⟩
  | 116 => ⟨S_, .i32⟩
  | 117 => ⟨S1x4x4x32x256, .f32⟩
  | 118 => ⟨S4x4x32x256, .f32⟩
  | 119 => ⟨S_, .i32⟩
  | 120 => ⟨S_, .i32⟩
  | 121 => ⟨S_, .i32⟩
  | 122 => ⟨S1x4x4x128, .f32⟩
  | 123 => ⟨S4x4x128, .f32⟩
  | 124 => ⟨S_, .i32⟩
  | 125 => ⟨S_, .i32⟩
  | 126 => ⟨S_, .i32⟩
  | 127 => ⟨S_, .i32⟩
  | _ => ⟨S8192x15360, .f32⟩

abbrev hbmTy0_1 (i : Nat) : BufTy := match i % 128 with
  | 0 => ⟨S1x4x4x32x32, .f32⟩
  | 1 => ⟨S4x4x32x32, .f32⟩
  | 2 => ⟨S4x4x32x256, .f32⟩
  | 3 => ⟨S4x4x32x256, .f32⟩
  | 4 => ⟨S4x4x32x256, .f32⟩
  | 5 => ⟨S4x4x128x1, .f32⟩
  | 6 => ⟨S4x4x128x256, .f32⟩
  | 7 => ⟨S4x4x128x256, .f32⟩
  | 8 => ⟨S4x4x128x256, .f32⟩
  | 9 => ⟨S4x4x128x256, .f32⟩
  | 10 => ⟨S1x4x4x32x256, .f32⟩
  | 11 => ⟨S_, .i32⟩
  | 12 => ⟨S_, .i32⟩
  | 13 => ⟨S_, .i32⟩
  | 14 => ⟨S_, .i32⟩
  | 15 => ⟨S64x4x4x32x256, .f32⟩
  | 16 => ⟨S_, .i32⟩
  | 17 => ⟨S_, .i32⟩
  | 18 => ⟨S4x64x4x32x256, .f32⟩
  | 19 => ⟨S4x64x32x4x256, .f32⟩
  | 20 => ⟨S4x2048x4x256, .f32⟩
  | 21 => ⟨S8192x1024, .f32⟩
  | 22 => ⟨S4x2048x1024, .f32⟩
  | 23 => ⟨S4x2048x4x256, .f32⟩
  | 24 => ⟨S_, .f32⟩
  | 25 => ⟨S4x2048x4, .f32⟩
  | 26 => ⟨S4x2048x4x1, .f32⟩
  | 27 => ⟨S_, .f32⟩
  | 28 => ⟨S4x2048x4x1, .f32⟩
  | 29 => ⟨S4x2048x4x1, .f32⟩
  | 30 => ⟨S_, .f32⟩
  | 31 => ⟨S4x2048x4x1, .f32⟩
  | 32 => ⟨S4x2048x4x1, .f32⟩
  | 33 => ⟨S4x2048x4x1, .f32⟩
  | 34 => ⟨S4x2048x4x256, .f32⟩
  | 35 => ⟨S4x2048x4x256, .f32⟩
  | 36 => ⟨S1x1x1x256, .f32⟩
  | 37 => ⟨S4x2048x4x256, .f32⟩
  | 38 => ⟨S4x2048x4x256, .f32⟩
  | 39 => ⟨S4x2048x1024, .f32⟩
  | 40 => ⟨S4x2048x1024, .f32⟩
  | 41 => ⟨S4x2048x1024, .f32⟩
  | 42 => ⟨S_, .f32⟩
  | 43 => ⟨S4x2048x1024, .f32⟩
  | 44 => ⟨S4x2048x1024, .f32⟩
  | 45 => ⟨S_, .f32⟩
  | 46 => ⟨S4x2048x1024, .f32⟩
  | 47 => ⟨S4x2048x1024, .f32⟩
  | 48 => ⟨S4x2048x1024, .f32⟩
  | 49 => ⟨S4x2048x1024, .f32⟩
  | 50 => ⟨S8192x1024, .f32⟩
  | 51 => ⟨S8192x1024, .bf16⟩
  | 52 => ⟨S4x4x256x128, .f32⟩
  | _ => ⟨S8192x15360, .f32⟩

abbrev hbmTy (i : Nat) : BufTy := match i / 128 with
  | 0 => hbmTy0_0 i
  | 1 => hbmTy0_1 i
  | _ => ⟨S8192x15360, .f32⟩

abbrev bufTy : (tb : Table) → Fin (tcTables nBuf tb) → BufTy
  | .hbm, ⟨i, _⟩ => hbmTy i
  | _, _ => ⟨S8192x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_1 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_call0_call0_cst : Ref sig .tc := ⟨.hbm, 55, rfl⟩
abbrev main_call0_call0_v0 : Ref sig .tc := ⟨.hbm, 56, rfl⟩
abbrev main_v46 : Ref sig .tc := ⟨.hbm, 57, rfl⟩
abbrev main_c : Ref sig .tc := ⟨.hbm, 58, rfl⟩
abbrev main_v47 : Ref sig .tc := ⟨.hbm, 59, rfl⟩
abbrev main_call1_v0 : Ref sig .tc := ⟨.hbm, 60, rfl⟩
abbrev main_call1_c : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_c_0 : Ref sig .tc := ⟨.hbm, 66, rfl⟩
abbrev main_call1_v5 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_2 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_3 : Ref sig .tc := ⟨.hbm, 88, rfl⟩
abbrev main_v64 : Ref sig .tc := ⟨.hbm, 89, rfl⟩
abbrev main_c_4 : Ref sig .tc := ⟨.hbm, 90, rfl⟩
abbrev main_v65_0 : Ref sig .tc := ⟨.hbm, 91, rfl⟩
abbrev main_v65_1 : Ref sig .tc := ⟨.hbm, 92, rfl⟩
abbrev main_v65_2 : Ref sig .tc := ⟨.hbm, 93, rfl⟩
abbrev main_v65_3 : Ref sig .tc := ⟨.hbm, 94, rfl⟩
abbrev main_v65_4 : Ref sig .tc := ⟨.hbm, 95, rfl⟩
abbrev main_v65_5 : Ref sig .tc := ⟨.hbm, 96, rfl⟩
abbrev main_v65_6 : Ref sig .tc := ⟨.hbm, 97, rfl⟩
abbrev main_v65_7 : Ref sig .tc := ⟨.hbm, 98, rfl⟩
abbrev main_while0c_c_15 : Ref sig .tc := ⟨.hbm, 99, rfl⟩
abbrev main_while0c_v90 : Ref sig .tc := ⟨.hbm, 100, rfl⟩
abbrev main_while0b_call3_c : Ref sig .tc := ⟨.hbm, 101, rfl⟩
abbrev main_while0b_call3_c_0 : Ref sig .tc := ⟨.hbm, 102, rfl⟩
abbrev main_while0b_call3_c_1 : Ref sig .tc := ⟨.hbm, 103, rfl⟩
abbrev main_while0b_call3_c_2 : Ref sig .tc := ⟨.hbm, 104, rfl⟩
abbrev main_while0b_call3_v0 : Ref sig .tc := ⟨.hbm, 105, rfl⟩
abbrev main_while0b_v90 : Ref sig .tc := ⟨.hbm, 106, rfl⟩
abbrev main_while0b_call4_c : Ref sig .tc := ⟨.hbm, 107, rfl⟩
abbrev main_while0b_call4_c_0 : Ref sig .tc := ⟨.hbm, 108, rfl⟩
abbrev main_while0b_call4_c_1 : Ref sig .tc := ⟨.hbm, 109, rfl⟩
abbrev main_while0b_call4_c_2 : Ref sig .tc := ⟨.hbm, 110, rfl⟩
abbrev main_while0b_call4_v0 : Ref sig .tc := ⟨.hbm, 111, rfl⟩
abbrev main_while0b_v91 : Ref sig .tc := ⟨.hbm, 112, rfl⟩
abbrev main_while0b_call5_c : Ref sig .tc := ⟨.hbm, 113, rfl⟩
abbrev main_while0b_call5_c_0 : Ref sig .tc := ⟨.hbm, 114, rfl⟩
abbrev main_while0b_call5_c_1 : Ref sig .tc := ⟨.hbm, 115, rfl⟩
abbrev main_while0b_call5_c_2 : Ref sig .tc := ⟨.hbm, 116, rfl⟩
abbrev main_while0b_call5_v0 : Ref sig .tc := ⟨.hbm, 117, rfl⟩
abbrev main_while0b_v92 : Ref sig .tc := ⟨.hbm, 118, rfl⟩
abbrev main_while0b_call6_c : Ref sig .tc := ⟨.hbm, 119, rfl⟩
abbrev main_while0b_call6_c_0 : Ref sig .tc := ⟨.hbm, 120, rfl⟩
abbrev main_while0b_call6_c_1 : Ref sig .tc := ⟨.hbm, 121, rfl⟩
abbrev main_while0b_call6_v0 : Ref sig .tc := ⟨.hbm, 122, rfl⟩
abbrev main_while0b_v93 : Ref sig .tc := ⟨.hbm, 123, rfl⟩
abbrev main_while0b_call7_c : Ref sig .tc := ⟨.hbm, 124, rfl⟩
abbrev main_while0b_call7_c_0 : Ref sig .tc := ⟨.hbm, 125, rfl⟩
abbrev main_while0b_call7_c_1 : Ref sig .tc := ⟨.hbm, 126, rfl⟩
abbrev main_while0b_call7_c_2 : Ref sig .tc := ⟨.hbm, 127, rfl⟩
abbrev main_while0b_call7_v0 : Ref sig .tc := ⟨.hbm, 128, rfl⟩
abbrev main_while0b_v94 : Ref sig .tc := ⟨.hbm, 129, rfl⟩
abbrev main_while0b_v95 : Ref sig .tc := ⟨.hbm, 130, rfl⟩
abbrev main_while0b_v96 : Ref sig .tc := ⟨.hbm, 131, rfl⟩
abbrev main_while0b_v97 : Ref sig .tc := ⟨.hbm, 132, rfl⟩
abbrev main_while0b_v98 : Ref sig .tc := ⟨.hbm, 133, rfl⟩
abbrev main_while0b_v99 : Ref sig .tc := ⟨.hbm, 134, rfl⟩
abbrev main_while0b_v100 : Ref sig .tc := ⟨.hbm, 135, rfl⟩
abbrev main_while0b_v101 : Ref sig .tc := ⟨.hbm, 136, rfl⟩
abbrev main_while0b_v102 : Ref sig .tc := ⟨.hbm, 137, rfl⟩
abbrev main_while0b_call8_v0 : Ref sig .tc := ⟨.hbm, 138, rfl⟩
abbrev main_while0b_call8_c : Ref sig .tc := ⟨.hbm, 139, rfl⟩
abbrev main_while0b_call8_c_0 : Ref sig .tc := ⟨.hbm, 140, rfl⟩
abbrev main_while0b_call8_c_1 : Ref sig .tc := ⟨.hbm, 141, rfl⟩
abbrev main_while0b_call8_c_2 : Ref sig .tc := ⟨.hbm, 142, rfl⟩
abbrev main_while0b_v103 : Ref sig .tc := ⟨.hbm, 143, rfl⟩
abbrev main_while0b_c_15 : Ref sig .tc := ⟨.hbm, 144, rfl⟩
abbrev main_while0b_v104 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_cst_5 : Ref sig .tc := ⟨.hbm, 152, rfl⟩
abbrev main_v72 : Ref sig .tc := ⟨.hbm, 153, rfl⟩
abbrev main_v73 : Ref sig .tc := ⟨.hbm, 154, rfl⟩
abbrev main_cst_6 : Ref sig .tc := ⟨.hbm, 155, rfl⟩
abbrev main_v74 : Ref sig .tc := ⟨.hbm, 156, rfl⟩
abbrev main_v75 : Ref sig .tc := ⟨.hbm, 157, rfl⟩
abbrev main_cst_7 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_call9_v0 : Ref sig .tc := ⟨.hbm, 168, rfl⟩
abbrev main_call9_v1 : Ref sig .tc := ⟨.hbm, 169, rfl⟩
abbrev main_call9_cst : Ref sig .tc := ⟨.hbm, 170, rfl⟩
abbrev main_call9_v2 : Ref sig .tc := ⟨.hbm, 171, rfl⟩
abbrev main_call9_v3 : Ref sig .tc := ⟨.hbm, 172, rfl⟩
abbrev main_call9_cst_0 : Ref sig .tc := ⟨.hbm, 173, rfl⟩
abbrev main_call9_v4 : Ref sig .tc := ⟨.hbm, 174, rfl⟩
abbrev main_call9_v5 : Ref sig .tc := ⟨.hbm, 175, rfl⟩
abbrev main_v85 : Ref sig .tc := ⟨.hbm, 176, rfl⟩
abbrev main_v86 : Ref sig .tc := ⟨.hbm, 177, rfl⟩
abbrev main_v87 : Ref sig .tc := ⟨.hbm, 178, rfl⟩
abbrev main_v88 : Ref sig .tc := ⟨.hbm, 179, rfl⟩
abbrev main_v89 : Ref sig .tc := ⟨.hbm, 180, rfl⟩

abbrev nD : Nat := 1
abbrev τ : Topo := Topo.v7x

variable {F : FTy → Type} [FloatOps F]

abbrev main_while0_count : Scf.Loop 32 := ⟨0#32, 64#32, 1#32⟩
-- ==== Merge.lean ====
abbrev S8192x4096 : Shape := ⟨2, ![8192, 4096]⟩
abbrev S8192x1024 : Shape := ⟨2, ![8192, 1024]⟩
abbrev S4096x31776 : Shape := ⟨2, ![4096, 31776]⟩
abbrev S4x1024x4096 : Shape := ⟨3, ![4, 1024, 4096]⟩
abbrev S4096x16384 : Shape := ⟨2, ![4096, 16384]⟩
abbrev S512x4096 : Shape := ⟨2, ![512, 4096]⟩
abbrev S512x1024 : Shape := ⟨2, ![512, 1024]⟩
abbrev S4096x256 : Shape := ⟨2, ![4096, 256]⟩
abbrev S4x1024x256 : Shape := ⟨3, ![4, 1024, 256]⟩
abbrev S512x256 : Shape := ⟨2, ![512, 256]⟩
abbrev S1x1024x256 : Shape := ⟨3, ![1, 1024, 256]⟩
abbrev S1024x256 : Shape := ⟨2, ![1024, 256]⟩

abbrev nBuf : Space → Nat
  | .hbm => 11
  | .vmem => 22
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S4096x31776, .f32⟩
  | .hbm, ⟨6, _⟩ => ⟨S4x1024x4096, .f32⟩
  | .hbm, ⟨7, _⟩ => ⟨S4096x16384, .f32⟩
  | .hbm, ⟨8, _⟩ => ⟨S4096x16384, .bf16⟩
  | .hbm, ⟨9, _⟩ => ⟨S4x1024x4096, .bf16⟩
  | .hbm, ⟨10, _⟩ => ⟨S8192x4096, .bf16⟩
  | .local _ .vmem, ⟨0, _⟩ => ⟨S512x4096, .bf16⟩
  | .local _ .vmem, ⟨1, _⟩ => ⟨S512x4096, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S4096x256, .bf16⟩
  | .local _ .vmem, ⟨11, _⟩ => ⟨S4096x256, .bf16⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | .local _ .vmem, ⟨15, _⟩ => ⟨S4096x256, .bf16⟩
  | .local _ .vmem, ⟨16, _⟩ => ⟨S4096x256, .bf16⟩
  | .local _ .vmem, ⟨17, _⟩ => ⟨S4096x256, .bf16⟩
  | .local _ .vmem, ⟨18, _⟩ => ⟨S4x1024x256, .bf16⟩
  | .local _ .vmem, ⟨19, _⟩ => ⟨S4x1024x256, .bf16⟩
  | .local _ .vmem, ⟨20, _⟩ => ⟨S512x256, .bf16⟩
  | .local _ .vmem, ⟨21, _⟩ => ⟨S512x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  ![c0_i32.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S4096x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S4x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MergeRefIdeal.lean ====
abbrev S8192x4096 : Shape := ⟨2, ![8192, 4096]⟩
abbrev S8192x1024 : Shape := ⟨2, ![8192, 1024]⟩
abbrev S4096x31776 : Shape := ⟨2, ![4096, 31776]⟩
abbrev S4x1024x4096 : Shape := ⟨3, ![4, 1024, 4096]⟩
abbrev S4096x16384 : Shape := ⟨2, ![4096, 16384]⟩
abbrev S8192x16384 : Shape := ⟨2, ![8192, 16384]⟩
abbrev S8192x1x1024 : Shape := ⟨3, ![8192, 1, 1024]⟩
abbrev S8192x4x1024 : Shape := ⟨3, ![8192, 4, 1024]⟩
abbrev S4x4096x8192 : Shape := ⟨3, ![4, 4096, 8192]⟩
abbrev S8192x4x4096 : Shape := ⟨3, ![8192, 4, 4096]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S4096x31776, .f32⟩
  | .hbm, ⟨6, _⟩ => ⟨S4x1024x4096, .f32⟩
  | .hbm, ⟨7, _⟩ => ⟨S8192x4096, .f32⟩
  | .hbm, ⟨8, _⟩ => ⟨S4096x16384, .f32⟩
  | .hbm, ⟨9, _⟩ => ⟨S8192x16384, .f32⟩
  | .hbm, ⟨10, _⟩ => ⟨S8192x1x1024, .bf16⟩
  | .hbm, ⟨11, _⟩ => ⟨S8192x1x1024, .bf16⟩
  | .hbm, ⟨12, _⟩ => ⟨S8192x1x1024, .bf16⟩
  | .hbm, ⟨13, _⟩ => ⟨S8192x1x1024, .bf16⟩
  | .hbm, ⟨14, _⟩ => ⟨S8192x4x1024, .bf16⟩
  | .hbm, ⟨15, _⟩ => ⟨S8192x4x1024, .f32⟩
  | .hbm, ⟨16, _⟩ => ⟨S4x4096x8192, .f32⟩
  | .hbm, ⟨17, _⟩ => ⟨S8192x4x4096, .f32⟩
  | .hbm, ⟨18, _⟩ => ⟨S8192x4x4096, .f32⟩
  | .hbm, ⟨19, _⟩ => ⟨S8192x4x4096, .f32⟩
  | .hbm, ⟨20, _⟩ => ⟨S8192x4x4096, .f32⟩
  | .hbm, ⟨21, _⟩ => ⟨S_, .f32⟩
  | .hbm, ⟨22, _⟩ => ⟨S8192x4x4096, .f32⟩
  | .hbm, ⟨23, _⟩ => ⟨S8192x4x4096, .f32⟩
  | .hbm, ⟨24, _⟩ => ⟨S_, .f32⟩
  | .hbm, ⟨25, _⟩ => ⟨S8192x4x4096, .f32⟩
  | .hbm, ⟨26, _⟩ => ⟨S8192x4x4096, .f32⟩
  | .hbm, ⟨27, _⟩ => ⟨S8192x4x4096, .f32⟩
  | .hbm, ⟨28, _⟩ => ⟨S_, .f32⟩
  | .hbm, ⟨29, _⟩ => ⟨S8192x4096, .f32⟩
  | .hbm, ⟨30, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== InProj.lean ====
abbrev S8192x4096 : Shape := ⟨2, ![8192, 4096]⟩
abbrev S4096x31776 : Shape := ⟨2, ![4096, 31776]⟩
abbrev S4096x8192 : Shape := ⟨2, ![4096, 8192]⟩
abbrev S4096x4096 : Shape := ⟨2, ![4096, 4096]⟩
abbrev S4096x3072 : Shape := ⟨2, ![4096, 3072]⟩
abbrev S4096x15360 : Shape := ⟨2, ![4096, 15360]⟩
abbrev S8192x15360 : Shape := ⟨2, ![8192, 15360]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 8
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x31776, .f32⟩
  | .hbm, ⟨2, _⟩ => ⟨S4096x8192, .f32⟩
  | .hbm, ⟨3, _⟩ => ⟨S4096x4096, .f32⟩
  | .hbm, ⟨4, _⟩ => ⟨S4096x3072, .f32⟩
  | .hbm, ⟨5, _⟩ => ⟨S4096x15360, .f32⟩
  | .hbm, ⟨6, _⟩ => ⟨S4096x15360, .bf16⟩
  | .hbm, ⟨7, _⟩ => ⟨S8192x15360, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 30], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S8192x4096 : Shape := ⟨2, ![8192, 4096]⟩
abbrev S4096x31776 : Shape := ⟨2, ![4096, 31776]⟩
abbrev S8192x31776 : Shape := ⟨2, ![8192, 31776]⟩
abbrev S8192x8192 : Shape := ⟨2, ![8192, 8192]⟩
abbrev S8192x7168 : Shape := ⟨2, ![8192, 7168]⟩
abbrev S8192x15360 : Shape := ⟨2, ![8192, 15360]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x31776, .f32⟩
  | .hbm, ⟨2, _⟩ => ⟨S8192x4096, .f32⟩
  | .hbm, ⟨3, _⟩ => ⟨S8192x31776, .f32⟩
  | .hbm, ⟨4, _⟩ => ⟨S8192x8192, .f32⟩
  | .hbm, ⟨5, _⟩ => ⟨S8192x7168, .f32⟩
  | .hbm, ⟨6, _⟩ => ⟨S8192x15360, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutProj.lean ====
abbrev S8192x4096 : Shape := ⟨2, ![8192, 4096]⟩
abbrev S4096x4096 : Shape := ⟨2, ![4096, 4096]⟩
abbrev S4x4096 : Shape := ⟨2, ![4, 4096]⟩
abbrev S4x1x4096 : Shape := ⟨3, ![4, 1, 4096]⟩
abbrev S1024x4096 : Shape := ⟨2, ![1024, 4096]⟩
abbrev S4096x512 : Shape := ⟨2, ![4096, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 7
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S4x4096, .f32⟩
  | .hbm, ⟨4, _⟩ => ⟨S4096x4096, .bf16⟩
  | .hbm, ⟨5, _⟩ => ⟨S4x1x4096, .f32⟩
  | .hbm, ⟨6, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjRefIdeal.lean ====
abbrev S8192x4096 : Shape := ⟨2, ![8192, 4096]⟩
abbrev S4096x4096 : Shape := ⟨2, ![4096, 4096]⟩
abbrev S4x4096 : Shape := ⟨2, ![4, 4096]⟩
abbrev S4x2048x4096 : Shape := ⟨3, ![4, 2048, 4096]⟩
abbrev S4x1x4096 : Shape := ⟨3, ![4, 1, 4096]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S4x4096, .f32⟩
  | .hbm, ⟨4, _⟩ => ⟨S8192x4096, .f32⟩
  | .hbm, ⟨5, _⟩ => ⟨S4x2048x4096, .f32⟩
  | .hbm, ⟨6, _⟩ => ⟨S4x2048x4096, .f32⟩
  | .hbm, ⟨7, _⟩ => ⟨S4x2048x4096, .f32⟩
  | .hbm, ⟨8, _⟩ => ⟨S4x1x4096, .f32⟩
  | .hbm, ⟨9, _⟩ => ⟨S4x2048x4096, .f32⟩
  | .hbm, ⟨10, _⟩ => ⟨S4x2048x4096, .f32⟩
  | .hbm, ⟨11, _⟩ => ⟨S4x2048x4096, .f32⟩
  | .hbm, ⟨12, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== FNorm.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FNormIdeal.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FNormRefIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== FNormS.lean ====
abbrev S64x4096 : Shape := ⟨2, ![64, 4096]⟩
abbrev S4096 : Shape := ⟨1, ![4096]⟩
abbrev S1x4096 : Shape := ⟨2, ![1, 4096]⟩
abbrev S64 : Shape := ⟨1, ![64]⟩
abbrev S64x1 : Shape := ⟨2, ![64, 1]⟩

abbrev nBuf : Space → Nat
  | .hbm => 4
  | .vmem => 3
  | .smem => 0
  | _ => 0

abbrev bufTy : (tb : Table) → Fin (tcTables nBuf tb) → BufTy
  | .hbm, ⟨0, _⟩ => ⟨S64x4096, .f32⟩
  | .hbm, ⟨1, _⟩ => ⟨S4096, .f32⟩
  | .hbm, ⟨2, _⟩ => ⟨S1x4096, .f32⟩
  | .hbm, ⟨3, _⟩ => ⟨S64x4096, .f32⟩
  | .local _ .vmem, ⟨0, _⟩ => ⟨S64x4096, .f32⟩
  | .local _ .vmem, ⟨1, _⟩ => ⟨S1x4096, .f32⟩
  | .local _ .vmem, ⟨2, _⟩ => ⟨S64x4096, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== FNormSRefIdeal.lean ====
abbrev S64x4096 : Shape := ⟨2, ![64, 4096]⟩
abbrev S4096 : Shape := ⟨1, ![4096]⟩
abbrev S_ : Shape := ⟨0, ![]⟩
abbrev S64 : Shape := ⟨1, ![64]⟩
abbrev S64x1 : Shape := ⟨2, ![64, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S4096, .f32⟩
  | .hbm, ⟨2, _⟩ => ⟨S64x4096, .f32⟩
  | .hbm, ⟨3, _⟩ => ⟨S_, .f32⟩
  | .hbm, ⟨4, _⟩ => ⟨S64, .f32⟩
  | .hbm, ⟨5, _⟩ => ⟨S64x1, .f32⟩
  | .hbm, ⟨6, _⟩ => ⟨S_, .f32⟩
  | .hbm, ⟨7, _⟩ => ⟨S64x1, .f32⟩
  | .hbm, ⟨8, _⟩ => ⟨S64x1, .f32⟩
  | .hbm, ⟨9, _⟩ => ⟨S_, .f32⟩
  | .hbm, ⟨10, _⟩ => ⟨S64x1, .f32⟩
  | .hbm, ⟨11, _⟩ => ⟨S64x1, .f32⟩
  | .hbm, ⟨12, _⟩ => ⟨S64x1, .f32⟩
  | .hbm, ⟨13, _⟩ => ⟨S64x4096, .f32⟩
  | .hbm, ⟨14, _⟩ => ⟨S64x4096, .f32⟩
  | .hbm, ⟨15, _⟩ => ⟨S1x4096, .f32⟩
  | .hbm, ⟨16, _⟩ => ⟨S64x4096, .f32⟩
  | .hbm, ⟨17, _⟩ => ⟨S64x4096, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== RopeS.lean ====
abbrev S64x15360 : Shape := ⟨2, ![64, 15360]⟩
abbrev S8 : Shape := ⟨1, ![8]⟩
abbrev S_ : Shape := ⟨0, ![]⟩
abbrev S8x1 : Shape := ⟨2, ![8, 1]⟩
abbrev S1x8 : Shape := ⟨2, ![1, 8]⟩
abbrev S8x8 : Shape := ⟨2, ![8, 8]⟩
abbrev S8x48 : Shape := ⟨2, ![8, 48]⟩
abbrev S8x64 : Shape := ⟨2, ![8, 64]⟩
abbrev S1x8x1x64 : Shape := ⟨4, ![1, 8, 1, 64]⟩
abbrev S1x8x2x64 : Shape := ⟨4, ![1, 8, 2, 64]⟩
abbrev S8x128 : Shape := ⟨2, ![8, 128]⟩
abbrev S64x1024 : Shape := ⟨2, ![64, 1024]⟩
abbrev S8x4096 : Shape := ⟨2, ![8, 4096]⟩
abbrev S8x1024 : Shape := ⟨2, ![8, 1024]⟩

abbrev nBuf : Space → Nat
  | .hbm => 48
  | .vmem => 15
  | .smem => 0
  | _ => 0

abbrev bufTy : (tb : Table) → Fin (tcTables nBuf tb) → BufTy
  | .hbm, ⟨0, _⟩ => ⟨S64x15360, .f32⟩
  | .hbm, ⟨1, _⟩ => ⟨S8, .i32⟩
  | .hbm, ⟨2, _⟩ => ⟨S_, .i32⟩
  | .hbm, ⟨3, _⟩ => ⟨S8, .i32⟩
  | .hbm, ⟨4, _⟩ => ⟨S8, .i32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S8x1, .f32⟩
  | .hbm, ⟨15, _⟩ => ⟨S1x8, .f32⟩
  | .hbm, ⟨16, _⟩ => ⟨S8x8, .f32⟩
  | .hbm, ⟨17, _⟩ => ⟨S8x8, .f32⟩
  | .hbm, ⟨18, _⟩ => ⟨S8x8, .f32⟩
  | .hbm, ⟨19, _⟩ => ⟨S8x8, .f32⟩
  | .hbm, ⟨20, _⟩ => ⟨S8x8, .f32⟩
  | .hbm, ⟨21, _⟩ => ⟨S_, .f32⟩
  | .hbm, ⟨22, _⟩ => ⟨S8x48, .f32⟩
  | .hbm, ⟨23, _⟩ => ⟨S_, .f32⟩
  | .hbm, ⟨24, _⟩ => ⟨S8x48, .f32⟩
  | .hbm, ⟨25, _⟩ => ⟨S8x48, .f32⟩
  | .hbm, ⟨26, _⟩ => ⟨S8x64, .f32⟩
  | .hbm, ⟨27, _⟩ => ⟨S8x8, .f32⟩
  | .hbm, ⟨28, _⟩ => ⟨S_, .f32⟩
  | .hbm, ⟨29, _⟩ => ⟨S8x8, .f32⟩
  | .hbm, ⟨30, _⟩ => ⟨S8x64, .f32⟩
  | .hbm, ⟨31, _⟩ => ⟨S_, .f32⟩
  | .hbm, ⟨32, _⟩ => ⟨S8x8, .f32⟩
  | .hbm, ⟨33, _⟩ => ⟨S8x64, .f32⟩
  | .hbm, ⟨34, _⟩ => ⟨S1x8x1x64, .f32⟩
  | .hbm, ⟨35, _⟩ => ⟨S1x8x2x64, .f32⟩
  | .hbm, ⟨36, _⟩ => ⟨S8x128, .f32⟩
  | .hbm, ⟨37, _⟩ => ⟨S1x8x1x64, .f32⟩
  | .hbm, ⟨38, _⟩ => ⟨S1x8x2x64, .f32⟩
  | .hbm, ⟨39, _⟩ => ⟨S8x128, .f32⟩
  | .hbm, ⟨40, _⟩ => ⟨S1x8x1x64, .f32⟩
  | .hbm, ⟨41, _⟩ => ⟨S1x8x2x64, .f32⟩
  | .hbm, ⟨42, _⟩ => ⟨S8x128, .f32⟩
  | .hbm, ⟨43, _⟩ => ⟨S64x1024, .bf16⟩
  | .hbm, ⟨44, _⟩ => ⟨S64x1024, .bf16⟩
  | .hbm, ⟨45, _⟩ => ⟨S64x1024, .bf16⟩
  | .hbm, ⟨46, _⟩ => ⟨S64x1024, .f32⟩
  | .hbm, ⟨47, _⟩ => ⟨S64x1024, .f32⟩
  | .local _ .vmem, ⟨0, _⟩ => ⟨S8x4096, .f32⟩
  | .local _ .vmem, ⟨1, _⟩ => ⟨S8x4096, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x1024, .bf16⟩
  | .local _ .vmem, ⟨6, _⟩ => ⟨S8x1024, .bf16⟩
  | .local _ .vmem, ⟨7, _⟩ => ⟨S8x1024, .bf16⟩
  | .local _ .vmem, ⟨8, _⟩ => ⟨S8x1024, .bf16⟩
  | .local _ .vmem, ⟨9, _⟩ => ⟨S8x1024, .bf16⟩
  | .local _ .vmem, ⟨10, _⟩ => ⟨S8x1024, .bf16⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S8x1024, .f32⟩
  | _, _ => ⟨S64x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35_0 : Ref sig .tc := ⟨.hbm, 43, rfl⟩
abbrev main_v35_1 : Ref sig .tc := ⟨.hbm, 44, rfl⟩
abbrev main_v35_2 : Ref sig .tc := ⟨.hbm, 45, rfl⟩
abbrev main_v35_3 : Ref sig .tc := ⟨.hbm, 46, rfl⟩
abbrev main_v35_4 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RopeSRefIdeal.lean ====
abbrev S64x15360 : Shape := ⟨2, ![64, 15360]⟩
abbrev S8 : Shape := ⟨1, ![8]⟩
abbrev S_ : Shape := ⟨0, ![]⟩
abbrev S64x3072 : Shape := ⟨2, ![64, 3072]⟩
abbrev S8x8x3072 : Shape := ⟨3, ![8, 8, 3072]⟩
abbrev S8x8x1024 : Shape := ⟨3, ![8, 8, 1024]⟩
abbrev S8x8x8x2x64 : Shape := ⟨5, ![8, 8, 8, 2, 64]⟩
abbrev S8x1 : Shape := ⟨2, ![8, 1]⟩
abbrev S1x8 : Shape := ⟨2, ![1, 8]⟩
abbrev S8x8 : Shape := ⟨2, ![8, 8]⟩
abbrev S1x8x1x1x8 : Shape := ⟨5, ![1, 8, 1, 1, 8]⟩
abbrev S8x8x8x2x8 : Shape := ⟨5, ![8, 8, 8, 2, 8]⟩
abbrev S8x8x8x2x16 : Shape := ⟨5, ![8, 8, 8, 2, 16]⟩
abbrev S8x8x8x2x48 : Shape := ⟨5, ![8, 8, 8, 2, 48]⟩
abbrev S64x1024 : Shape := ⟨2, ![64, 1024]⟩

abbrev nBuf : Space → Nat
  | .hbm => 87
  | .vmem => 0
  | .smem => 0
  | _ => 0

abbrev bufTy : (tb : Table) → Fin (tcTables nBuf tb) → BufTy
  | .hbm, ⟨0, _⟩ => ⟨S64x15360, .f32⟩
  | .hbm, ⟨1, _⟩ => ⟨S8, .i32⟩
  | .hbm, ⟨2, _⟩ => ⟨S_, .i32⟩
  | .hbm, ⟨3, _⟩ => ⟨S8, .i32⟩
  | .hbm, ⟨4, _⟩ => ⟨S8, .i32⟩
  | .hbm, ⟨5, _⟩ => ⟨S64x3072, .f32⟩
  | .hbm, ⟨6, _⟩ => ⟨S8x8x3072, .f32⟩
  | .hbm, ⟨7, _⟩ => ⟨S8x8x1024, .f32⟩
  | .hbm, ⟨8, _⟩ => ⟨S8x8x1024, .f32⟩
  | .hbm, ⟨9, _⟩ => ⟨S8x8x1024, .f32⟩
  | .hbm, ⟨10, _⟩ => ⟨S8x8x8x2x64, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S8, .f32⟩
  | .hbm, ⟨20, _⟩ => ⟨S8x1, .f32⟩
  | .hbm, ⟨21, _⟩ => ⟨S1x8, .f32⟩
  | .hbm, ⟨22, _⟩ => ⟨S8x8, .f32⟩
  | .hbm, ⟨23, _⟩ => ⟨S8x8, .f32⟩
  | .hbm, ⟨24, _⟩ => ⟨S8x8, .f32⟩
  | .hbm, ⟨25, _⟩ => ⟨S8x8, .f32⟩
  | .hbm, ⟨26, _⟩ => ⟨S1x8x1x1x8, .f32⟩
  | .hbm, ⟨27, _⟩ => ⟨S8x8, .f32⟩
  | .hbm, ⟨28, _⟩ => ⟨S1x8x1x1x8, .f32⟩
  | .hbm, ⟨29, _⟩ => ⟨S8x8x8x2x8, .f32⟩
  | .hbm, ⟨30, _⟩ => ⟨S8x8x8x2x8, .f32⟩
  | .hbm, ⟨31, _⟩ => ⟨S8x8x8x2x8, .f32⟩
  | .hbm, ⟨32, _⟩ => ⟨S8x8x8x2x8, .f32⟩
  | .hbm, ⟨33, _⟩ => ⟨S8x8x8x2x8, .f32⟩
  | .hbm, ⟨34, _⟩ => ⟨S8x8x8x2x8, .f32⟩
  | .hbm, ⟨35, _⟩ => ⟨S8x8x8x2x8, .f32⟩
  | .hbm, ⟨36, _⟩ => ⟨S8x8x8x2x8, .f32⟩
  | .hbm, ⟨37, _⟩ => ⟨S8x8x8x2x8, .f32⟩
  | .hbm, ⟨38, _⟩ => ⟨S8x8x8x2x8, .f32⟩
  | .hbm, ⟨39, _⟩ => ⟨S8x8x8x2x8, .f32⟩
  | .hbm, ⟨40, _⟩ => ⟨S8x8x8x2x8, .f32⟩
  | .hbm, ⟨41, _⟩ => ⟨S8x8x8x2x16, .f32⟩
  | .hbm, ⟨42, _⟩ => ⟨S8x8x8x2x48, .f32⟩
  | .hbm, ⟨43, _⟩ => ⟨S8x8x8x2x64, .f32⟩
  | .hbm, ⟨44, _⟩ => ⟨S_, .f32⟩
  | .hbm, ⟨45, _⟩ => ⟨S8x8x8x2x64, .f32⟩
  | .hbm, ⟨46, _⟩ => ⟨S8x8x8x2x64, .f32⟩
  | .hbm, ⟨47, _⟩ => ⟨S8x8x8x2x64, .f32⟩
  | .hbm, ⟨48, _⟩ => ⟨S8, .f32⟩
  | .hbm, ⟨49, _⟩ => ⟨S8, .f32⟩
  | .hbm, ⟨50, _⟩ => ⟨S_, .f32⟩
  | .hbm, ⟨51, _⟩ => ⟨S8, .f32⟩
  | .hbm, ⟨52, _⟩ => ⟨S8, .f32⟩
  | .hbm, ⟨53, _⟩ => ⟨S_, .f32⟩
  | .hbm, ⟨54, _⟩ => ⟨S8, .f32⟩
  | .hbm, ⟨55, _⟩ => ⟨S8, .f32⟩
  | .hbm, ⟨56, _⟩ => ⟨S8, .f32⟩
  | .hbm, ⟨57, _⟩ => ⟨S8x1, .f32⟩
  | .hbm, ⟨58, _⟩ => ⟨S1x8, .f32⟩
  | .hbm, ⟨59, _⟩ => ⟨S8x8, .f32⟩
  | .hbm, ⟨60, _⟩ => ⟨S8x8, .f32⟩
  | .hbm, ⟨61, _⟩ => ⟨S8x8, .f32⟩
  | .hbm, ⟨62, _⟩ => ⟨S8x8, .f32⟩
  | .hbm, ⟨63, _⟩ => ⟨S1x8x1x1x8, .f32⟩
  | .hbm, ⟨64, _⟩ => ⟨S8x8, .f32⟩
  | .hbm, ⟨65, _⟩ => ⟨S1x8x1x1x8, .f32⟩
  | .hbm, ⟨66, _⟩ => ⟨S8x8x8x2x8, .f32⟩
  | .hbm, ⟨67, _⟩ => ⟨S8x8x8x2x8, .f32⟩
  | .hbm, ⟨68, _⟩ => ⟨S8x8x8x2x8, .f32⟩
  | .hbm, ⟨69, _⟩ => ⟨S8x8x8x2x8, .f32⟩
  | .hbm, ⟨70, _⟩ => ⟨S8x8x8x2x8, .f32⟩
  | .hbm, ⟨71, _⟩ => ⟨S8x8x8x2x8, .f32⟩
  | .hbm, ⟨72, _⟩ => ⟨S8x8x8x2x8, .f32⟩
  | .hbm, ⟨73, _⟩ => ⟨S8x8x8x2x8, .f32⟩
  | .hbm, ⟨74, _⟩ => ⟨S8x8x8x2x8, .f32⟩
  | .hbm, ⟨75, _⟩ => ⟨S8x8x8x2x8, .f32⟩
  | .hbm, ⟨76, _⟩ => ⟨S8x8x8x2x8, .f32⟩
  | .hbm, ⟨77, _⟩ => ⟨S8x8x8x2x8, .f32⟩
  | .hbm, ⟨78, _⟩ => ⟨S8x8x8x2x16, .f32⟩
  | .hbm, ⟨79, _⟩ => ⟨S8x8x8x2x48, .f32⟩
  | .hbm, ⟨80, _⟩ => ⟨S8x8x8x2x64, .f32⟩
  | .hbm, ⟨81, _⟩ => ⟨S64x1024, .f32⟩
  | .hbm, ⟨82, _⟩ => ⟨S64x1024, .f32⟩
  | .hbm, ⟨83, _⟩ => ⟨S64x1024, .f32⟩
  | .hbm, ⟨84, _⟩ => ⟨S64x1024, .bf16⟩
  | .hbm, ⟨85, _⟩ => ⟨S64x1024, .bf16⟩
  | .hbm, ⟨86, _⟩ => ⟨S64x1024, .bf16⟩
  | _, _ => ⟨S64x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_cst_1 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_cst_2 : Ref sig .tc := ⟨.hbm, 50, rfl⟩
abbrev main_v45 : Ref sig .tc := ⟨.hbm, 51, rfl⟩
abbrev main_v46 : Ref sig .tc := ⟨.hbm, 52, rfl⟩
abbrev main_cst_3 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩

abbrev nD : Nat := 1
abbrev τ : Topo := Topo.v7x

variable {F : FTy → Type} [FloatOps F]
-- ==== Conva.lean ====
abbrev S8192x15360 : Shape := ⟨2, ![8192, 15360]⟩
abbrev S4x2x1024 : Shape := ⟨3, ![4, 2, 1024]⟩
abbrev S3x1024 : Shape := ⟨2, ![3, 1024]⟩
abbrev S_ : Shape := ⟨0, ![]⟩
abbrev S4x6x1024 : Shape := ⟨3, ![4, 6, 1024]⟩
abbrev S4x8x1024 : Shape := ⟨3, ![4, 8, 1024]⟩
abbrev S8192x1024 : Shape := ⟨2, ![8192, 1024]⟩
abbrev S256x4096 : Shape := ⟨2, ![256, 4096]⟩
abbrev S1x8x1024 : Shape := ⟨3, ![1, 8, 1024]⟩
abbrev S256x1024 : Shape := ⟨2, ![256, 1024]⟩
abbrev S8x1024 : Shape := ⟨2, ![8, 1024]⟩
abbrev S264x1024 : Shape := ⟨2, ![264, 1024]⟩
abbrev S1x1024 : Shape := ⟨2, ![1, 1024]⟩

abbrev nBuf : Space → Nat
  | .hbm => 8
  | .vmem => 10
  | .smem => 0
  | _ => 0

abbrev bufTy : (tb : Table) → Fin (tcTables nBuf tb) → BufTy
  | .hbm, ⟨0, _⟩ => ⟨S8192x15360, .f32⟩
  | .hbm, ⟨1, _⟩ => ⟨S4x2x1024, .f32⟩
  | .hbm, ⟨2, _⟩ => ⟨S3x1024, .f32⟩
  | .hbm, ⟨3, _⟩ => ⟨S_, .f32⟩
  | .hbm, ⟨4, _⟩ => ⟨S4x6x1024, .f32⟩
  | .hbm, ⟨5, _⟩ => ⟨S4x8x1024, .f32⟩
  | .hbm, ⟨6, _⟩ => ⟨S8192x1024, .bf16⟩
  | .hbm, ⟨7, _⟩ => ⟨S4x8x1024, .f32⟩
  | .local _ .vmem, ⟨0, _⟩ => ⟨S256x4096, .f32⟩
  | .local _ .vmem, ⟨1, _⟩ => ⟨S256x4096, .f32⟩
  | .local _ .vmem, ⟨2, _⟩ => ⟨S1x8x1024, .f32⟩
  | .local _ .vmem, ⟨3, _⟩ => ⟨S1x8x1024, .f32⟩
  | .local _ .vmem, ⟨4, _⟩ => ⟨S3x1024, .f32⟩
  | .local _ .vmem, ⟨5, _⟩ => ⟨S256x1024, .bf16⟩
  | .local _ .vmem, ⟨6, _⟩ => ⟨S256x1024, .bf16⟩
  | .local _ .vmem, ⟨7, _⟩ => ⟨S1x8x1024, .f32⟩
  | .local _ .vmem, ⟨8, _⟩ => ⟨S1x8x1024, .f32⟩
  | .local _ .vmem, ⟨9, _⟩ => ⟨S8x1024, .f32⟩
  | _, _ => ⟨S8192x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ConvaRefIdeal.lean ====
abbrev S8192x15360 : Shape := ⟨2, ![8192, 15360]⟩
abbrev S4x2x1024 : Shape := ⟨3, ![4, 2, 1024]⟩
abbrev S3x1024 : Shape := ⟨2, ![3, 1024]⟩
abbrev S8192x4096 : Shape := ⟨2, ![8192, 4096]⟩
abbrev S4x2048x4096 : Shape := ⟨3, ![4, 2048, 4096]⟩
abbrev S4x2048x1024 : Shape := ⟨3, ![4, 2048, 1024]⟩
abbrev S4x2050x1024 : Shape := ⟨3, ![4, 2050, 1024]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩
abbrev S8192x1024 : Shape := ⟨2, ![8192, 1024]⟩
abbrev S4x8x1024 : Shape := ⟨3, ![4, 8, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8192x15360, .f32⟩
  | .hbm, ⟨1, _⟩ => ⟨S4x2x1024, .f32⟩
  | .hbm, ⟨2, _⟩ => ⟨S3x1024, .f32⟩
  | .hbm, ⟨3, _⟩ => ⟨S8192x4096, .f32⟩
  | .hbm, ⟨4, _⟩ => ⟨S4x2048x4096, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S4x2050x1024, .f32⟩
  | .hbm, ⟨11, _⟩ => ⟨S4x2048x1024, .f32⟩
  | .hbm, ⟨12, _⟩ => ⟨S1x1024, .f32⟩
  | .hbm, ⟨13, _⟩ => ⟨S1024, .f32⟩
  | .hbm, ⟨14, _⟩ => ⟨S1x1x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S1x1024, .f32⟩
  | .hbm, ⟨19, _⟩ => ⟨S1024, .f32⟩
  | .hbm, ⟨20, _⟩ => ⟨S1x1x1024, .f32⟩
  | .hbm, ⟨21, _⟩ => ⟨S4x2048x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S1x1024, .f32⟩
  | .hbm, ⟨26, _⟩ => ⟨S1024, .f32⟩
  | .hbm, ⟨27, _⟩ => ⟨S1x1x1024, .f32⟩
  | .hbm, ⟨28, _⟩ => ⟨S4x2048x1024, .f32⟩
  | .hbm, ⟨29, _⟩ => ⟨S4x2048x1024, .f32⟩
  | .hbm, ⟨30, _⟩ => ⟨S4x2048x1024, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S_, .f32⟩
  | .hbm, ⟨35, _⟩ => ⟨S4x2048x1024, .f32⟩
  | .hbm, ⟨36, _⟩ => ⟨S4x2048x1024, .f32⟩
  | .hbm, ⟨37, _⟩ => ⟨S_, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S8192x1024, .f32⟩
  | .hbm, ⟨43, _⟩ => ⟨S8192x1024, .bf16⟩
  | .hbm, ⟨44, _⟩ => ⟨S4x8x1024, .f32⟩
  | _, _ => ⟨S8192x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== ConvaS.lean ====
abbrev S64x15360 : Shape := ⟨2, ![64, 15360]⟩
abbrev S8x2x1024 : Shape := ⟨3, ![8, 2, 1024]⟩
abbrev S3x1024 : Shape := ⟨2, ![3, 1024]⟩
abbrev S_ : Shape := ⟨0, ![]⟩
abbrev S8x6x1024 : Shape := ⟨3, ![8, 6, 1024]⟩
abbrev S8x8x1024 : Shape := ⟨3, ![8, 8, 1024]⟩
abbrev S64x1024 : Shape := ⟨2, ![64, 1024]⟩
abbrev S8x4096 : Shape := ⟨2, ![8, 4096]⟩
abbrev S1x8x1024 : Shape := ⟨3, ![1, 8, 1024]⟩
abbrev S8x1024 : Shape := ⟨2, ![8, 1024]⟩
abbrev S16x1024 : Shape := ⟨2, ![16, 1024]⟩
abbrev S1x1024 : Shape := ⟨2, ![1, 1024]⟩

abbrev nBuf : Space → Nat
  | .hbm => 8
  | .vmem => 10
  | .smem => 0
  | _ => 0

abbrev bufTy : (tb : Table) → Fin (tcTables nBuf tb) → BufTy
  | .hbm, ⟨0, _⟩ => ⟨S64x15360, .f32⟩
  | .hbm, ⟨1, _⟩ => ⟨S8x2x1024, .f32⟩
  | .hbm, ⟨2, _⟩ => ⟨S3x1024, .f32⟩
  | .hbm, ⟨3, _⟩ => ⟨S_, .f32⟩
  | .hbm, ⟨4, _⟩ => ⟨S8x6x1024, .f32⟩
  | .hbm, ⟨5, _⟩ => ⟨S8x8x1024, .f32⟩
  | .hbm, ⟨6, _⟩ => ⟨S64x1024, .bf16⟩
  | .hbm, ⟨7, _⟩ => ⟨S8x8x1024, .f32⟩
  | .local _ .vmem, ⟨0, _⟩ => ⟨S8x4096, .f32⟩
  | .local _ .vmem, ⟨1, _⟩ => ⟨S8x4096, .f32⟩
  | .local _ .vmem, ⟨2, _⟩ => ⟨S1x8x1024, .f32⟩
  | .local _ .vmem, ⟨3, _⟩ => ⟨S1x8x1024, .f32⟩
  | .local _ .vmem, ⟨4, _⟩ => ⟨S3x1024, .f32⟩
  | .local _ .vmem, ⟨5, _⟩ => ⟨S8x1024, .bf16⟩
  | .local _ .vmem, ⟨6, _⟩ => ⟨S8x1024, .bf16⟩
  | .local _ .vmem, ⟨7, _⟩ => ⟨S1x8x1024, .f32⟩
  | .local _ .vmem, ⟨8, _⟩ => ⟨S1x8x1024, .f32⟩
  | .local _ .vmem, ⟨9, _⟩ => ⟨S8x1024, .f32⟩
  | _, _ => ⟨S64x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ConvaSRefIdeal.lean ====
abbrev S64x15360 : Shape := ⟨2, ![64, 15360]⟩
abbrev S8x2x1024 : Shape := ⟨3, ![8, 2, 1024]⟩
abbrev S3x1024 : Shape := ⟨2, ![3, 1024]⟩
abbrev S64x4096 : Shape := ⟨2, ![64, 4096]⟩
abbrev S8x8x4096 : Shape := ⟨3, ![8, 8, 4096]⟩
abbrev S8x8x1024 : Shape := ⟨3, ![8, 8, 1024]⟩
abbrev S8x10x1024 : Shape := ⟨3, ![8, 10, 1024]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩
abbrev S64x1024 : Shape := ⟨2, ![64, 1024]⟩

abbrev nBuf : Space → Nat
  | .hbm => 45
  | .vmem => 0
  | .smem => 0
  | _ => 0

abbrev bufTy : (tb : Table) → Fin (tcTables nBuf tb) → BufTy
  | .hbm, ⟨0, _⟩ => ⟨S64x15360, .f32⟩
  | .hbm, ⟨1, _⟩ => ⟨S8x2x1024, .f32⟩
  | .hbm, ⟨2, _⟩ => ⟨S3x1024, .f32⟩
  | .hbm, ⟨3, _⟩ => ⟨S64x4096, .f32⟩
  | .hbm, ⟨4, _⟩ => ⟨S8x8x4096, .f32⟩
  | .hbm, ⟨5, _⟩ => ⟨S8x8x1024, .f32⟩
  | .hbm, ⟨6, _⟩ => ⟨S8x8x1024, .f32⟩
  | .hbm, ⟨7, _⟩ => ⟨S8x8x1024, .f32⟩
  | .hbm, ⟨8, _⟩ => ⟨S8x8x1024, .f32⟩
  | .hbm, ⟨9, _⟩ => ⟨S8x8x1024, .f32⟩
  | .hbm, ⟨10, _⟩ => ⟨S8x10x1024, .f32⟩
  | .hbm, ⟨11, _⟩ => ⟨S8x8x1024, .f32⟩
  | .hbm, ⟨12, _⟩ => ⟨S1x1024, .f32⟩
  | .hbm, ⟨13, _⟩ => ⟨S1024, .f32⟩
  | .hbm, ⟨14, _⟩ => ⟨S1x1x1024, .f32⟩
  | .hbm, ⟨15, _⟩ => ⟨S8x8x1024, .f32⟩
  | .hbm, ⟨16, _⟩ => ⟨S8x8x1024, .f32⟩
  | .hbm, ⟨17, _⟩ => ⟨S8x8x1024, .f32⟩
  | .hbm, ⟨18, _⟩ => ⟨S1x1024, .f32⟩
  | .hbm, ⟨19, _⟩ => ⟨S1024, .f32⟩
  | .hbm, ⟨20, _⟩ => ⟨S1x1x1024, .f32⟩
  | .hbm, ⟨21, _⟩ => ⟨S8x8x1024, .f32⟩
  | .hbm, ⟨22, _⟩ => ⟨S8x8x1024, .f32⟩
  | .hbm, ⟨23, _⟩ => ⟨S8x8x1024, .f32⟩
  | .hbm, ⟨24, _⟩ => ⟨S8x8x1024, .f32⟩
  | .hbm, ⟨25, _⟩ => ⟨S1x1024, .f32⟩
  | .hbm, ⟨26, _⟩ => ⟨S1024, .f32⟩
  | .hbm, ⟨27, _⟩ => ⟨S1x1x1024, .f32⟩
  | .hbm, ⟨28, _⟩ => ⟨S8x8x1024, .f32⟩
  | .hbm, ⟨29, _⟩ => ⟨S8x8x1024, .f32⟩
  | .hbm, ⟨30, _⟩ => ⟨S8x8x1024, .f32⟩
  | .hbm, ⟨31, _⟩ => ⟨S8x8x1024, .f32⟩
  | .hbm, ⟨32, _⟩ => ⟨S8x8x1024, .f32⟩
  | .hbm, ⟨33, _⟩ => ⟨S8x8x1024, .f32⟩
  | .hbm, ⟨34, _⟩ => ⟨S_, .f32⟩
  | .hbm, ⟨35, _⟩ => ⟨S8x8x1024, .f32⟩
  | .hbm, ⟨36, _⟩ => ⟨S8x8x1024, .f32⟩
  | .hbm, ⟨37, _⟩ => ⟨S_, .f32⟩
  | .hbm, ⟨38, _⟩ => ⟨S8x8x1024, .f32⟩
  | .hbm, ⟨39, _⟩ => ⟨S8x8x1024, .f32⟩
  | .hbm, ⟨40, _⟩ => ⟨S8x8x1024, .f32⟩
  | .hbm, ⟨41, _⟩ => ⟨S8x8x1024, .f32⟩
  | .hbm, ⟨42, _⟩ => ⟨S64x1024, .f32⟩
  | .hbm, ⟨43, _⟩ => ⟨S64x1024, .bf16⟩
  | .hbm, ⟨44, _⟩ => ⟨S8x8x1024, .f32⟩
  | _, _ => ⟨S64x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Proof.GlaHead.lean ====
/- The kernel of the gated linear attention, head by head: what one grid point makes of a head's queries, keys, values, running
   decays and state, read as scalars. -/
module

public import proofs.«01_k».proof.Proof.Gen.GlaIdeal.Value
public import Idealize.ShloMosaic.Lib.Pipeline.ValueKit
public import Idealize.ShloMosaic.Lib.Pointwise
public import Idealize.ShloMosaic.Lib.Claim

@[expose] public section

set_option maxRecDepth 16384

noncomputable section

namespace Cert.GlaIdeal.Hand

open Idealize.ShloMosaic Idealize.ShloMosaic.TcCoe Idealize.SL.Sem
open Idealize.ShloMosaic.Pipeline (Dat)
open Cert.GlaIdeal Cert.GlaIdeal.Gen

/-- A head's new state, from its keys, values, running decays and old state. -/
def kst (K : Fin 32 → Fin 128 → EReal) (W : Fin 32 → Fin 256 → EReal) (G : Fin 32 → Fin 128 → EReal) (X : Fin 256 → Fin 128 → EReal)
    (e : Fin 256) (d : Fin 128) : EReal :=
  X e d * Ideal.exp (G 31 d) + ∑ c : Fin 32, W c e * (K c d * Ideal.exp (G 31 d - G c d))

/-- What a head's token reads, from its queries, keys, values, running decays and old state. -/
def ko (Q K : Fin 32 → Fin 128 → EReal) (W : Fin 32 → Fin 256 → EReal) (G : Fin 32 → Fin 128 → EReal) (X : Fin 256 → Fin 128 → EReal)
    (i : Fin 32) (e : Fin 256) : EReal :=
  (∑ j : Fin 32, (if j ≤ i then ∑ d : Fin 128, Q i d * Ideal.ofBits .f32 0x3DB504F3#32 * Ideal.exp (G i d) * (K j d * Ideal.exp (0 - G j d)) else 0) * W j e)
    + ∑ d : Fin 128, Q i d * Ideal.ofBits .f32 0x3DB504F3#32 * Ideal.exp (G i d) * X e d

/-- A head's token: the read normalised, weighted and gated. -/
def ky (O : Fin 32 → Fin 256 → EReal) (N : Fin 256 → EReal) (H : Fin 32 → Fin 256 → EReal) (i : Fin 32) (e : Fin 256) : EReal :=
  O i e * Ideal.rsqrt (Ideal.div (∑ x : Fin 256, O i x * O i x) (Ideal.ofBits .f32 0x43800000#32) + Ideal.ofBits .f32 0x358637BD#32)
    * N e * (H i e * Ideal.logistic (H i e))

section heads

variable (Z : Vec Ideal S32x3072 .f32) (g : FVec Ideal S32x512 .f32) (N : Vec Ideal S1x256 .f32) (X : Vec Ideal S1x256x128 .f32)
  (v34 : FVec Ideal S32x512 .f32) (c0 : Ideal .f32) (v36 : IVec S32x512 1)

/-- The causal mask. -/
theorem mask_at (i j : Fin 32) : k0_pay6 (ix2 i j) = if j ≤ i then 1#1 else 0#1 := by
  revert i j; decide +kernel

/-- A choice by a decided bit is the conditional. -/
theorem sel (p : Prop) [Decidable p] (a b : EReal) : Scalar.select (if p then 1#1 else 0#1) a b = if p then a else b := by
  by_cases h : p
  · rw [if_pos h, if_pos h]; rfl
  · rw [if_neg h, if_neg h]; rfl

theorem st0_at (e : Fin 256) (d : Fin 128) :
    k0_pay18 (F := Ideal) (k0_pay15 v34 c0 v36 X) (k0_pay16 Z) (k0_pay17 Z (fun _ => 1#1) v34 c0 v36) (ix3 0 e d)
      = kst (fun i d => Z (ix2 i ⟨512 + d.val, by omega⟩)) (fun i e => Z (ix2 i ⟨1024 + e.val, by omega⟩))
          (fun i d => k0_pay7 (F := Ideal) v34 c0 v36 (ix2 i ⟨d.val, by omega⟩)) (fun e d => X (ix3 0 e d)) e d := by
  pointwise [k0_pay18, k0_pay15, k0_pay16, k0_pay17, k0_pay14, k0_pay12, k0_pay11, k0_pay10, k0_pay9, kst]

theorem st1_at (e : Fin 256) (d : Fin 128) :
    k0_pay27 (F := Ideal) (k0_pay20 Z (fun _ => 1#1)) (k0_pay21 Z) (k0_pay22 g) X (ix3 0 e d)
      = kst (fun i d => Z (ix2 i ⟨640 + d.val, by omega⟩)) (fun i e => Z (ix2 i ⟨1280 + e.val, by omega⟩))
          (fun i d => g (ix2 i ⟨128 + d.val, by omega⟩)) (fun e d => X (ix3 0 e d)) e d := by
  pointwise [k0_pay27, k0_pay20, k0_pay21, k0_pay22, k0_pay26, kst]

theorem st2_at (e : Fin 256) (d : Fin 128) :
    k0_pay37 (F := Ideal) (k0_pay36 Z (fun _ => 1#1) g X) (ix3 0 e d)
      = kst (fun i d => Z (ix2 i ⟨768 + d.val, by omega⟩)) (fun i e => Z (ix2 i ⟨1536 + e.val, by omega⟩))
          (fun i d => g (ix2 i ⟨256 + d.val, by omega⟩)) (fun e d => X (ix3 0 e d)) e d := by
  pointwise [k0_pay37, k0_pay36, k0_pay34, k0_pay33, k0_pay32, k0_pay31, kst]

theorem st3_at (e : Fin 256) (d : Fin 128) :
    k0_pay45 (F := Ideal) (k0_pay39 Z (fun _ => 1#1)) (k0_pay40 Z) (k0_pay41 g) X (ix3 0 e d)
      = kst (fun i d => Z (ix2 i ⟨896 + d.val, by omega⟩)) (fun i e => Z (ix2 i ⟨1792 + e.val, by omega⟩))
          (fun i d => g (ix2 i ⟨384 + d.val, by omega⟩)) (fun e d => X (ix3 0 e d)) e d := by
  pointwise [k0_pay45, k0_pay44, k0_pay41, k0_pay40, k0_pay39, kst]

theorem o0_at (i : Fin 32) (e : Fin 256) :
    k0_pay13 (F := Ideal) Z (fun _ => 1#1) v34 c0 v36 X (ix2 i e)
      = ko (fun i d => Z (ix2 i ⟨d.val, by omega⟩)) (fun i d => Z (ix2 i ⟨512 + d.val, by omega⟩)) (fun i e => Z (ix2 i ⟨1024 + e.val, by omega⟩))
          (fun i d => k0_pay7 (F := Ideal) v34 c0 v36 (ix2 i ⟨d.val, by omega⟩)) (fun e d => X (ix3 0 e d)) i e := by
  pointwise [k0_pay13, k0_pay12, k0_pay11, k0_pay10, k0_pay9, mask_at, sel, ko]

theorem y0_at (O : FVec Ideal S32x256 .f32) (i : Fin 32) (e : Fin 256) :
    k0_pay19 (F := Ideal) (k0_pay8 Z) O N (ix2 i e)
      = ky (fun i e => O (ix2 i e)) (fun e => N (ix2 0 e)) (fun i e => Z (ix2 i ⟨2048 + e.val, by omega⟩)) i e := by
  pointwise [k0_pay19, k0_pay8, ky]

theorem y1_at (i : Fin 32) (e : Fin 256) :
    k0_pay30 (F := Ideal) (k0_pay28 k0_pay6 (k0_pay21 Z) (k0_pay23 Z g) (k0_pay24 Z g) (k0_pay25 Z (fun _ => 1#1) g) (constant S32x32 FTy.f32 0#32) X N)
        (k0_pay29 (k0_pay8 Z)) (ix2 i e)
      = ky (ko (fun i d => Z (ix2 i ⟨128 + d.val, by omega⟩)) (fun i d => Z (ix2 i ⟨640 + d.val, by omega⟩)) (fun i e => Z (ix2 i ⟨1280 + e.val, by omega⟩))
          (fun i d => g (ix2 i ⟨128 + d.val, by omega⟩)) (fun e d => X (ix3 0 e d))) (fun e => N (ix2 0 e)) (fun i e => Z (ix2 i ⟨2048 + (256 + e.val), by omega⟩)) i e := by
  pointwise [k0_pay30, k0_pay29, k0_pay28, k0_pay26, k0_pay25, k0_pay24, k0_pay23, k0_pay22, k0_pay21, k0_pay20, k0_pay8, mask_at, sel, ky, ko]

theorem y2_at (i : Fin 32) (e : Fin 256) :
    k0_pay38 (F := Ideal) (k0_pay8 Z) (k0_pay35 Z (fun _ => 1#1) k0_pay6 g X) N (ix2 i e)
      = ky (ko (fun i d => Z (ix2 i ⟨256 + d.val, by omega⟩)) (fun i d => Z (ix2 i ⟨768 + d.val, by omega⟩)) (fun i e => Z (ix2 i ⟨1536 + e.val, by omega⟩))
          (fun i d => g (ix2 i ⟨256 + d.val, by omega⟩)) (fun e d => X (ix3 0 e d))) (fun e => N (ix2 0 e)) (fun i e => Z (ix2 i ⟨2048 + (512 + e.val), by omega⟩)) i e := by
  pointwise [k0_pay38, k0_pay35, k0_pay34, k0_pay33, k0_pay32, k0_pay31, k0_pay8, mask_at, sel, ky, ko]

theorem y3_at (i : Fin 32) (e : Fin 256) :
    k0_pay46 (F := Ideal) (k0_pay8 Z) (k0_pay40 Z) (k0_pay42 Z g) (k0_pay43 Z (fun _ => 1#1) k0_pay6 g) X N (ix2 i e)
      = ky (ko (fun i d => Z (ix2 i ⟨384 + d.val, by omega⟩)) (fun i d => Z (ix2 i ⟨896 + d.val, by omega⟩)) (fun i e => Z (ix2 i ⟨1792 + e.val, by omega⟩))
          (fun i d => g (ix2 i ⟨384 + d.val, by omega⟩)) (fun e d => X (ix3 0 e d))) (fun e => N (ix2 0 e)) (fun i e => Z (ix2 i ⟨2048 + (768 + e.val), by omega⟩)) i e := by
  pointwise [k0_pay46, k0_pay44, k0_pay43, k0_pay42, k0_pay41, k0_pay40, k0_pay39, k0_pay8, mask_at, sel, ky, ko]

/-- The running decays: the sum of the decays of the tokens up to one's own. -/
theorem sum_at (i : Fin 32) (e : Fin 512) :
    k0_pay7 (F := Ideal) v34 c0 (fun _ => 1#1) (ix2 i e) = ∑ k : Fin 32, if k ≤ i then v34 (ix2 k e) else 0 := by
  have e1 : FloatOps.sitofp (F := Ideal) .f32 (BitVec.setWidth 32 (1#1 : BitVec 1)) = (1 : EReal) := by
    show (((1 : ℤ) : ℝ) : EReal) = 1
    norm_num
  have e0 : FloatOps.sitofp (F := Ideal) .f32 (BitVec.setWidth 32 (0#1 : BitVec 1)) = (0 : EReal) := by
    show (((0 : ℤ) : ℝ) : EReal) = 0
    norm_num
  pointwise [k0_pay7, mask_at]
  refine Finset.sum_congr rfl fun k _ => ?_
  by_cases h : k ≤ i
  · rw [if_pos h, if_pos h, e1, one_mul]
  · rw [if_neg h, if_neg h, e0, zero_mul]

/-- Every token of the grid is one of the sequence's. -/
theorem valid (t : Fin cfg0.N) : k0_pay3 (grid0.coords t) = fun _ => 1#1 := by
  funext y
  obtain ⟨i, j, rfl⟩ : ∃ (i : Fin 32) (j : Fin 1), y = ix2 i j := ⟨y 0, y 1, by ext a; fin_cases a <;> rfl⟩
  revert t i j
  decide +kernel

theorem valid512 (t : Fin cfg0.N) : k0_pay5 (grid0.coords t) = fun _ => 1#1 := by
  unfold k0_pay5
  rw [valid]
  rfl

/-- The decay of a token, from its logit. -/
def decay (P : EReal) : EReal :=
  Ideal.div (0 - (max (0 - P) 0 + Ideal.log (1 + Ideal.exp (0 - FloatOps.absf (F := Ideal) (φ := .f32) (0 - P))))) (Ideal.ofBits .f32 0x41800000#32)

theorem gk_at (A : Vec Ideal S32x128 .f32) (B : Vec Ideal S128x512 .bf16) (C : Vec Ideal S1x512 .f32) (i : Fin 32) (e : Fin 512) :
    k0_pay4 (F := Ideal) A B C (ix2 i e) = decay (∑ x : Fin 128, A (ix2 i x) * B (ix2 x e) + C (ix2 0 e)) := by
  pointwise [k0_pay4, decay]

/-- A head's token, with its read inlined, for head 0. -/
theorem y00_at (i : Fin 32) (e : Fin 256) :
    k0_pay19 (F := Ideal) (k0_pay8 Z) (k0_pay13 Z (fun _ => 1#1) v34 c0 v36 X) N (ix2 i e)
      = ky (ko (fun i d => Z (ix2 i ⟨d.val, by omega⟩)) (fun i d => Z (ix2 i ⟨512 + d.val, by omega⟩)) (fun i e => Z (ix2 i ⟨1024 + e.val, by omega⟩))
          (fun i d => k0_pay7 (F := Ideal) v34 c0 v36 (ix2 i ⟨d.val, by omega⟩)) (fun e d => X (ix3 0 e d))) (fun e => N (ix2 0 e)) (fun i e => Z (ix2 i ⟨2048 + e.val, by omega⟩)) i e := by
  rw [y0_at]
  exact congrArg (fun O => ky O _ _ i e) (funext₂ fun i e => o0_at Z X v34 c0 v36 i e)

end heads

end Cert.GlaIdeal.Hand
-- ==== Proof.GlaRef.lean ====
/- The reference of the gated linear attention, read as scalars: the decays, their running sums over a chunk, the scores and the
   state of every chunk are plain functions of the arguments' entries, and the reference's results are those functions. -/
module

public import proofs.«01_k».proof.Proof.Gen.GlaRefIdeal.Step
public import proofs.«01_k».proof.Proof.Gen.GlaRefIdeal.Run
public import Idealize.ShloMosaic.Lib.Pipeline.ValueKit
public import Idealize.ShloMosaic.Lib.Pointwise
public import Idealize.ShloMosaic.Lib.Claim
public import Idealize.ShloMosaic.Lib.WordCmp
public import Idealize.ShloMosaic.Lib.DynamicIndex
public import proofs.«01_k».proof.Defs

@[expose] public section

set_option maxRecDepth 16384

noncomputable section

namespace Cert.GlaRefIdeal.Hand

open Idealize.ShloMosaic Idealize.ShloMosaic.TcCoe Idealize.SL.Sem Idealize.ShloMosaic.StableHlo
open Cert.GlaRefIdeal Cert.GlaRefIdeal.Gen Cert.GlaRefIdeal.Value Cert.GlaRefIdeal.Step

/-- The row of token `i` of chunk `n` of sequence `s`. -/
abbrev row (s : Fin 4) (n : Fin 64) (i : Fin 32) : Fin 8192 := ⟨s.val * 2048 + (n.val * 32 + i.val), by omega⟩
/-- The column of key feature `d` of head `h`. -/
abbrev kcol (h : Fin 4) (d : Fin 128) : Fin 512 := ⟨h.val * 128 + d.val, by omega⟩

variable (z : (⟨S8192x15360, .f32⟩ : BufTy).Contents (Elt Ideal)) (zs : (⟨S8192x128, .f32⟩ : BufTy).Contents (Elt Ideal))
  (w : (⟨S16x512, .f32⟩ : BufTy).Contents (Elt Ideal)) (b : (⟨S512, .f32⟩ : BufTy).Contents (Elt Ideal))
  (nw : (⟨S256, .f32⟩ : BufTy).Contents (Elt Ideal))
  (s0 : (⟨S4x4x128x256, .f32⟩ : BufTy).Contents (Elt Ideal))

/-- The decay's logit. -/
def pre (r : Fin 8192) (e : Fin 512) : EReal :=
  ∑ x : Fin 16, zs (ix2 r (⟨16 + x.val, by omega⟩ : Fin 128)) * w (ix2 x e) + b (ix1 e)

/-- The logarithm of the decay. -/
def gk (r : Fin 8192) (e : Fin 512) : EReal :=
  Ideal.div (-(max (-(pre zs w b r e)) 0 + Ideal.log1p (Ideal.exp (-(FloatOps.absf (F := Ideal) (φ := .f32) (-(pre zs w b r e)))))))
    (Ideal.ofBits .f32 0x41800000#32)

/-- The running sum of the decays over a chunk. -/
def gs (n : Fin 64) (s h : Fin 4) (i : Fin 32) (d : Fin 128) : EReal :=
  ∑ k : Fin 32, if k ≤ i then gk zs w b (row s n k) (kcol h d) else 0

/-- The scaled query, decayed. -/
def qd (n : Fin 64) (s h : Fin 4) (i : Fin 32) (d : Fin 128) : EReal :=
  z (ix2 (row s n i) (⟨12288 + (h.val * 128 + d.val), by omega⟩ : Fin 15360)) * Ideal.ofBits .f32 0x3DB504F3#32
    * Ideal.exp (gs zs w b n s h i d)

/-- The key. -/
def kk (n : Fin 64) (s h : Fin 4) (i : Fin 32) (d : Fin 128) : EReal :=
  z (ix2 (row s n i) (⟨12288 + (512 + (h.val * 128 + d.val)), by omega⟩ : Fin 15360))

/-- The value. -/
def vv (n : Fin 64) (s h : Fin 4) (i : Fin 32) (e : Fin 256) : EReal :=
  z (ix2 (row s n i) (⟨12288 + (1024 + (h.val * 256 + e.val)), by omega⟩ : Fin 15360))

/-- The masked scores inside a chunk. -/
def at' (n : Fin 64) (s h : Fin 4) (i j : Fin 32) : EReal :=
  if j ≤ i then ∑ d : Fin 128, qd z zs w b n s h i d * (kk z n s h j d * Ideal.exp (-(gs zs w b n s h j d))) else 0

/-- The key, decayed to the chunk's end. -/
def kd (n : Fin 64) (s h : Fin 4) (i : Fin 32) (d : Fin 128) : EReal :=
  kk z n s h i d * Ideal.exp (gs zs w b n s h 31 d - gs zs w b n s h i d)

/-- The decay of a whole chunk. -/
def gl (n : Fin 64) (s h : Fin 4) (d : Fin 128) : EReal := Ideal.exp (gs zs w b n s h 31 d)

/-- Chunk number `n`, as an index. -/
abbrev chunk (n : ℕ) : Fin 64 := ⟨n % 64, Nat.mod_lt _ (by decide)⟩

/-- The state before chunk `n`. -/
def st : ℕ → Fin 4 → Fin 4 → Fin 128 → Fin 256 → EReal
  | 0, s, h, d, e => s0 (ix4 s h d e)
  | n + 1, s, h, d, e => st n s h d e * gl zs w b (chunk n) s h d
      + ∑ c : Fin 32, kd z zs w b (chunk n) s h c d * vv z (chunk n) s h c e

/-- What a chunk's token reads: the state before the chunk and the tokens of the chunk up to its own. -/
def oo (n : ℕ) (s h : Fin 4) (i : Fin 32) (e : Fin 256) : EReal :=
  ∑ d : Fin 128, qd z zs w b (chunk n) s h i d * st z zs w b s0 n s h d e
    + ∑ j : Fin 32, at' z zs w b (chunk n) s h i j * vv z (chunk n) s h j e

theorem q_at (n : Fin 64) (s h : Fin 4) (i : Fin 32) (d : Fin 128) :
    A_main_v36 z zs w b (ix5 n s h i d) = z (ix2 (row s n i) (⟨12288 + (h.val * 128 + d.val), by omega⟩ : Fin 15360)) * Ideal.ofBits .f32 0x3DB504F3#32 := by
  pointwise [A_main_v36, A_main_v35, A_main_v34, A_main_v9, A_main_v7, K_main_v8, K_main_cst, A_main_v2, A_main_v1, A_main_v0]

theorem k_at (n : Fin 64) (s h : Fin 4) (i : Fin 32) (d : Fin 128) : A_main_v39 z zs w b (ix5 n s h i d) = kk z n s h i d := by
  pointwise [A_main_v39, A_main_v38, A_main_v37, A_main_v10, A_main_v3, A_main_v1, A_main_v0, kk]

theorem v_at (n : Fin 64) (s h : Fin 4) (i : Fin 32) (e : Fin 256) : A_main_v42 z zs w b (ix5 n s h i e) = vv z n s h i e := by
  pointwise [A_main_v42, A_main_v41, A_main_v40, A_main_v11, A_main_v4, A_main_v1, A_main_v0, vv]

theorem gk_at (s : Fin 4) (t : Fin 2048) (e : Fin 512) :
    A_main_v32 z zs w b (ix3 s t e) = gk zs w b ⟨s.val * 2048 + t.val, by omega⟩ e := by
  pointwise [A_main_v32, A_main_v30, A_main_v29, A_main_v28, A_main_v27, A_main_v26, A_main_v25, A_main_v24, A_main_v23, A_main_v21, A_main_v20, A_main_v18, A_main_v16, A_main_v15, A_main_v14, A_main_v13, A_main_v12, A_main_v6, A_main_v5, K_main_v17, K_main_v19, K_main_v22, K_main_v31, K_main_cst_0, K_main_cst_1, gk, pre]
  simp only [ne_eq, not_true_eq_false, if_false]

theorem g_at (n : Fin 64) (s h : Fin 4) (i : Fin 32) (d : Fin 128) :
    A_main_v45 z zs w b (ix5 n s h i d) = gk zs w b (row s n i) (kcol h d) := by
  refine Eq.trans ?_ (gk_at z zs w b s ⟨n.val * 32 + i.val, by omega⟩ (kcol h d))
  pointwise [A_main_v45, A_main_v44, A_main_v43, A_main_v33]

/-- Folding an addition over a finite range is the sum. -/
theorem foldl_add {N : ℕ} (f : Fin N → EReal) (a : EReal) : (List.finRange N).foldl (fun r n => r + f n) a = a + ∑ n, f n := by
  rw [← List.sum_ofFn, List.ofFn_eq_map]
  generalize List.finRange N = l
  induction l generalizing a with
  | nil => simp
  | cons x l ih => rw [List.foldl_cons, ih, List.map_cons, List.sum_cons, add_assoc]

/-- A running sum over the fourth axis, as it prints: a window of the whole axis padded low. -/
theorem cumsum_at (x : S64x4x4x32x128.Idx → EReal) (init : S_.Idx → EReal) (hi : ∀ i, init i = 0) (hr) (hu) (n : Fin 64) (s h : Fin 4) (i : Fin 32) (d : Fin 128) :
    Host.reduceWindowAdd (F := Ideal) (φ := .f32) (s := S64x4x4x32x128) (t := S64x4x4x32x128) (u := S_) ![1, 1, 1, 32, 1] ![1, 1, 1, 1, 1] ![0, 0, 0, 31, 0] ![0, 0, 0, 0, 0] x init hr hu (ix5 n s h i d)
      = ∑ k : Fin 32, if k ≤ i then x (ix5 n s h k d) else 0 := by
  show Host.reduceWindow (fun a b : EReal => a + b) ![1, 1, 1, 32, 1] ![1, 1, 1, 1, 1] ![0, 0, 0, 31, 0] ![0, 0, 0, 0, 0] x (fun _ : (⟨0, ![]⟩ : Shape).Idx => init (Shape.Idx.first hu)) hr (by decide) (ix5 n s h i d) = _
  unfold Host.reduceWindow
  dsimp only
  rw [foldl_add, hi, zero_add]
  refine (Fintype.sum_equiv (⟨5, ![1, 1, 1, 32, 1]⟩ : Shape).rowMajor.symm _
    (fun w => if 31 ≤ i.val + (w 3).val then x (ix5 n s h (i + 1 + (show Fin 32 from w 3)) d) else 0) (fun q => ?_)).trans ?_
  · have u0 : ((⟨5, ![1, 1, 1, 32, 1]⟩ : Shape).rowMajor.symm q 0).val = 0 := Nat.lt_one_iff.mp ((⟨5, ![1, 1, 1, 32, 1]⟩ : Shape).rowMajor.symm q 0).isLt
    have u1 : ((⟨5, ![1, 1, 1, 32, 1]⟩ : Shape).rowMajor.symm q 1).val = 0 := Nat.lt_one_iff.mp ((⟨5, ![1, 1, 1, 32, 1]⟩ : Shape).rowMajor.symm q 1).isLt
    have u2 : ((⟨5, ![1, 1, 1, 32, 1]⟩ : Shape).rowMajor.symm q 2).val = 0 := Nat.lt_one_iff.mp ((⟨5, ![1, 1, 1, 32, 1]⟩ : Shape).rowMajor.symm q 2).isLt
    have u4 : ((⟨5, ![1, 1, 1, 32, 1]⟩ : Shape).rowMajor.symm q 4).val = 0 := Nat.lt_one_iff.mp ((⟨5, ![1, 1, 1, 32, 1]⟩ : Shape).rowMajor.symm q 4).isLt
    have u3 : ((⟨5, ![1, 1, 1, 32, 1]⟩ : Shape).rowMajor.symm q 3).val < 32 := ((⟨5, ![1, 1, 1, 32, 1]⟩ : Shape).rowMajor.symm q 3).isLt
    have hn := n.isLt; have hs := s.isLt; have hh := h.isLt; have hi := i.isLt; have hd := d.isLt
    have hv : (i + 1 + (show Fin 32 from (⟨5, ![1, 1, 1, 32, 1]⟩ : Shape).rowMajor.symm q 3) : Fin 32).val = (i.val + 1 + ((⟨5, ![1, 1, 1, 32, 1]⟩ : Shape).rowMajor.symm q 3).val) % 32 := by
      rw [Fin.val_add, Fin.val_add]; show ((i.val + 1) % 32 + ((⟨5, ![1, 1, 1, 32, 1]⟩ : Shape).rowMajor.symm q 3).val) % 32 = _; omega
    split
    · next hin =>
      have h3 := hin 3
      change 31 ≤ i.val * 1 + ((⟨5, ![1, 1, 1, 32, 1]⟩ : Shape).rowMajor.symm q 3).val ∧ i.val * 1 + ((⟨5, ![1, 1, 1, 32, 1]⟩ : Shape).rowMajor.symm q 3).val - 31 < 32 at h3
      rw [if_pos (by omega)]
      refine congrArg x (funext fun a => Fin.ext ?_)
      match a with
      | ⟨0, _⟩ => show n.val * 1 + ((⟨5, ![1, 1, 1, 32, 1]⟩ : Shape).rowMajor.symm q 0).val - 0 = n.val; omega
      | ⟨1, _⟩ => show s.val * 1 + ((⟨5, ![1, 1, 1, 32, 1]⟩ : Shape).rowMajor.symm q 1).val - 0 = s.val; omega
      | ⟨2, _⟩ => show h.val * 1 + ((⟨5, ![1, 1, 1, 32, 1]⟩ : Shape).rowMajor.symm q 2).val - 0 = h.val; omega
      | ⟨3, _⟩ => show i.val * 1 + ((⟨5, ![1, 1, 1, 32, 1]⟩ : Shape).rowMajor.symm q 3).val - 31 = (i + 1 + (show Fin 32 from (⟨5, ![1, 1, 1, 32, 1]⟩ : Shape).rowMajor.symm q 3) : Fin 32).val; omega
      | ⟨4, _⟩ => show d.val * 1 + ((⟨5, ![1, 1, 1, 32, 1]⟩ : Shape).rowMajor.symm q 4).val - 0 = d.val; omega
    · next hin =>
      rw [if_neg fun hle => hin fun a => by
        match a with
        | ⟨0, _⟩ => show 0 ≤ n.val * 1 + ((⟨5, ![1, 1, 1, 32, 1]⟩ : Shape).rowMajor.symm q 0).val ∧ n.val * 1 + ((⟨5, ![1, 1, 1, 32, 1]⟩ : Shape).rowMajor.symm q 0).val - 0 < 64; omega
        | ⟨1, _⟩ => show 0 ≤ s.val * 1 + ((⟨5, ![1, 1, 1, 32, 1]⟩ : Shape).rowMajor.symm q 1).val ∧ s.val * 1 + ((⟨5, ![1, 1, 1, 32, 1]⟩ : Shape).rowMajor.symm q 1).val - 0 < 4; omega
        | ⟨2, _⟩ => show 0 ≤ h.val * 1 + ((⟨5, ![1, 1, 1, 32, 1]⟩ : Shape).rowMajor.symm q 2).val ∧ h.val * 1 + ((⟨5, ![1, 1, 1, 32, 1]⟩ : Shape).rowMajor.symm q 2).val - 0 < 4; omega
        | ⟨3, _⟩ => show 31 ≤ i.val * 1 + ((⟨5, ![1, 1, 1, 32, 1]⟩ : Shape).rowMajor.symm q 3).val ∧ i.val * 1 + ((⟨5, ![1, 1, 1, 32, 1]⟩ : Shape).rowMajor.symm q 3).val - 31 < 32; omega
        | ⟨4, _⟩ => show 0 ≤ d.val * 1 + ((⟨5, ![1, 1, 1, 32, 1]⟩ : Shape).rowMajor.symm q 4).val ∧ d.val * 1 + ((⟨5, ![1, 1, 1, 32, 1]⟩ : Shape).rowMajor.symm q 4).val - 0 < 128; omega]
  · rw [sum_idx5]
    simp only [Finset.univ_unique, Finset.sum_singleton]
    refine Fintype.sum_equiv (Equiv.addLeft (i + 1)) _ _ fun k => ?_
    have hv : (i + 1 + k : Fin 32).val = (i.val + 1 + k.val) % 32 := by
      rw [Fin.val_add, Fin.val_add]; show ((i.val + 1) % 32 + k.val) % 32 = _; omega
    have hi := i.isLt; have hk := k.isLt
    show (if 31 ≤ i.val + k.val then x (ix5 n s h (i + 1 + k) d) else 0) = if (i + 1 + k : Fin 32).val ≤ i.val then x (ix5 n s h (i + 1 + k) d) else 0
    by_cases hc : 31 ≤ i.val + k.val
    · rw [if_pos hc, if_pos (by omega)]
    · rw [if_neg hc, if_neg (by omega)]

section loop

variable (x6 : (⟨S4x4x128x256, .f32⟩ : BufTy).Contents (Elt Ideal)) (x7 : (⟨S64x4x4x32x256, .f32⟩ : BufTy).Contents (Elt Ideal))
  (x0 : (⟨S64x4x4x32x128, .f32⟩ : BufTy).Contents (Elt Ideal)) (x1 : (⟨S64x4x4x32x128, .f32⟩ : BufTy).Contents (Elt Ideal))
  (x2 : (⟨S64x4x4x32x256, .f32⟩ : BufTy).Contents (Elt Ideal)) (x3 : (⟨S64x4x4x128, .f32⟩ : BufTy).Contents (Elt Ideal))
  (x4 : (⟨S64x4x4x32x32, .f32⟩ : BufTy).Contents (Elt Ideal)) (k : ℕ) (hk : k < 64)

include hk

/-- Trip `k` takes chunk `k` of the decayed queries. -/
theorem slice_q (s h : Fin 4) (i : Fin 32) (d : Fin 128) : b5 k ⟨x6, x7, x0, x1, x2, x3, x4⟩ (ix4 s h i d) = x0 (ix5 ⟨k, hk⟩ s h i d) := by
  have e : b4 k ⟨x6, x7, x0, x1, x2, x3, x4⟩ = extractStridedSlice S1x4x4x32x128 ![k, 0, 0, 0, 0] x0 ⟨rfl, fun a => by
      fin_cases a <;> simp <;> omega⟩ :=
    Host.dynamicSlice_eq_extractStridedSlice _ _ _ _ _ _ fun a => by
      fin_cases a
      · exact toInt_ofNat_of_lt (show k < 2 ^ 31 by omega)
      all_goals rfl
  pointwise [b5, e]

/-- Trip `k` takes chunk `k` of the decayed keys. -/
theorem slice_k (s h : Fin 4) (i : Fin 32) (d : Fin 128) : b11 k ⟨x6, x7, x0, x1, x2, x3, x4⟩ (ix4 s h i d) = x1 (ix5 ⟨k, hk⟩ s h i d) := by
  have e : b10 k ⟨x6, x7, x0, x1, x2, x3, x4⟩ = extractStridedSlice S1x4x4x32x128 ![k, 0, 0, 0, 0] x1 ⟨rfl, fun a => by
      fin_cases a <;> simp <;> omega⟩ :=
    Host.dynamicSlice_eq_extractStridedSlice _ _ _ _ _ _ fun a => by
      fin_cases a
      · exact toInt_ofNat_of_lt (show k < 2 ^ 31 by omega)
      all_goals rfl
  pointwise [b11, e]

/-- Trip `k` takes chunk `k` of the values. -/
theorem slice_v (s h : Fin 4) (i : Fin 32) (d : Fin 256) : b17 k ⟨x6, x7, x0, x1, x2, x3, x4⟩ (ix4 s h i d) = x2 (ix5 ⟨k, hk⟩ s h i d) := by
  have e : b16 k ⟨x6, x7, x0, x1, x2, x3, x4⟩ = extractStridedSlice S1x4x4x32x256 ![k, 0, 0, 0, 0] x2 ⟨rfl, fun a => by
      fin_cases a <;> simp <;> omega⟩ :=
    Host.dynamicSlice_eq_extractStridedSlice _ _ _ _ _ _ fun a => by
      fin_cases a
      · exact toInt_ofNat_of_lt (show k < 2 ^ 31 by omega)
      all_goals rfl
  pointwise [b17, e]

/-- Trip `k` takes chunk `k`'s decay. -/
theorem slice_g (s h : Fin 4) (d : Fin 128) : b22 k ⟨x6, x7, x0, x1, x2, x3, x4⟩ (ix3 s h d) = x3 (ix4 ⟨k, hk⟩ s h d) := by
  have e : b21 k ⟨x6, x7, x0, x1, x2, x3, x4⟩ = extractStridedSlice S1x4x4x128 ![k, 0, 0, 0] x3 ⟨rfl, fun a => by
      fin_cases a <;> simp <;> omega⟩ :=
    Host.dynamicSlice_eq_extractStridedSlice _ _ _ _ _ _ fun a => by
      fin_cases a
      · exact toInt_ofNat_of_lt (show k < 2 ^ 31 by omega)
      all_goals rfl
  pointwise [b22, e]

/-- Trip `k` takes chunk `k` of the masked scores. -/
theorem slice_a (s h : Fin 4) (i j : Fin 32) : b28 k ⟨x6, x7, x0, x1, x2, x3, x4⟩ (ix4 s h i j) = x4 (ix5 ⟨k, hk⟩ s h i j) := by
  have e : b27 k ⟨x6, x7, x0, x1, x2, x3, x4⟩ = extractStridedSlice S1x4x4x32x32 ![k, 0, 0, 0, 0] x4 ⟨rfl, fun a => by
      fin_cases a <;> simp <;> omega⟩ :=
    Host.dynamicSlice_eq_extractStridedSlice _ _ _ _ _ _ fun a => by
      fin_cases a
      · exact toInt_ofNat_of_lt (show k < 2 ^ 31 by omega)
      all_goals rfl
  pointwise [b28, e]

/-- One trip's state: the state before, decayed, plus the chunk's keys and values. -/
theorem state_at (s h : Fin 4) (d : Fin 128) (e : Fin 256) :
    b36 k ⟨x6, x7, x0, x1, x2, x3, x4⟩ (ix4 s h d e)
      = x6 (ix4 s h d e) * x3 (ix4 ⟨k, hk⟩ s h d) + ∑ c : Fin 32, x1 (ix5 ⟨k, hk⟩ s h c d) * x2 (ix5 ⟨k, hk⟩ s h c e) := by
  pointwise [b36, b35, b34, b33, b32, slice_g x6 x7 x0 x1 x2 x3 x4 k hk, slice_k x6 x7 x0 x1 x2 x3 x4 k hk, slice_v x6 x7 x0 x1 x2 x3 x4 k hk]

/-- One trip's tokens. -/
theorem tok_at (s h : Fin 4) (i : Fin 32) (e : Fin 256) :
    b31 k ⟨x6, x7, x0, x1, x2, x3, x4⟩ (ix4 s h i e)
      = ∑ d : Fin 128, x0 (ix5 ⟨k, hk⟩ s h i d) * x6 (ix4 s h d e) + ∑ j : Fin 32, x4 (ix5 ⟨k, hk⟩ s h i j) * x2 (ix5 ⟨k, hk⟩ s h j e) := by
  pointwise [b31, b30, b29, slice_q x6 x7 x0 x1 x2 x3 x4 k hk, slice_a x6 x7 x0 x1 x2 x3 x4 k hk, slice_v x6 x7 x0 x1 x2 x3 x4 k hk]

/-- One trip writes its own chunk of the tokens and leaves the others. -/
theorem toks_at (n : Fin 64) (s h : Fin 4) (i : Fin 32) (e : Fin 256) :
    b42 k ⟨x6, x7, x0, x1, x2, x3, x4⟩ (ix5 n s h i e)
      = if n.val = k then b31 k ⟨x6, x7, x0, x1, x2, x3, x4⟩ (ix4 s h i e) else x7 (ix5 n s h i e) := by
  have e' : b42 k ⟨x6, x7, x0, x1, x2, x3, x4⟩ = updateSlice x7 (b37 k ⟨x6, x7, x0, x1, x2, x3, x4⟩) ![k, 0, 0, 0, 0] ⟨rfl, fun a => by
      fin_cases a <;> simp <;> omega⟩ :=
    Host.dynamicUpdateSlice_eq_updateSlice _ _ _ _ _ (fun a => by
      fin_cases a
      · show (min (max (BitVec.ofNat 32 k).toInt 0) ((64 - 1 : ℕ) : Int)).toNat = k
        rw [toInt_ofNat_of_lt (show k < 2 ^ 31 by omega)]; omega
      all_goals rfl) _
  rw [e']
  pointwise [b37]
  by_cases hn : n.val = k
  · rw [dif_pos (by omega), if_pos hn]
  · rw [dif_neg (by omega), if_neg hn]

end loop

theorem step6_eq (V0 : Valuation τ sig (Elt Ideal)) (k : ℕ) (x6 x7 x0 x1 x2 x3 x4)
    (hc : V0 (Proc.devRef .tc main_v65_5) = constantI S_ 32 (BitVec.ofNat 32 k)) (h6 : V0 (Proc.devRef .tc main_v65_6) = x6)
    (h3 : V0 (Proc.devRef .tc main_v65_3) = x3) (h1 : V0 (Proc.devRef .tc main_v65_1) = x1) (h2 : V0 (Proc.devRef .tc main_v65_2) = x2) :
    STEP V0 (Proc.devRef .tc main_v65_6) = b36 k ⟨x6, x7, x0, x1, x2, x3, x4⟩ := by
  rw [STEP_main_v65_6]
  unfold Value.step_main_v65_6 res_main_while0b_v92
  rw [hc, h6, h3, h1, h2]
  rfl

theorem step7_eq (V0 : Valuation τ sig (Elt Ideal)) (k : ℕ) (x6 x7 x0 x1 x2 x3 x4)
    (hc : V0 (Proc.devRef .tc main_v65_5) = constantI S_ 32 (BitVec.ofNat 32 k)) (h6 : V0 (Proc.devRef .tc main_v65_6) = x6)
    (h7 : V0 (Proc.devRef .tc main_v65_7) = x7)
    (h0 : V0 (Proc.devRef .tc main_v65_0) = x0) (h4 : V0 (Proc.devRef .tc main_v65_4) = x4) (h2 : V0 (Proc.devRef .tc main_v65_2) = x2) :
    STEP V0 (Proc.devRef .tc main_v65_7) = b42 k ⟨x6, x7, x0, x1, x2, x3, x4⟩ := by
  rw [STEP_main_v65_7]
  unfold Value.step_main_v65_7 res_main_while0b_v92
  rw [hc, h6, h7, h0, h4, h2]
  rfl

end Cert.GlaRefIdeal.Hand
-- ==== Proof.GlaBlocks.lean ====
/- The blocks the gated linear attention's kernel stages, read at the arguments' entries. -/
module

public import proofs.«01_k».proof.Proof.GlaHead
public import proofs.«01_k».proof.Proof.GlaRef

@[expose] public section

set_option maxRecDepth 16384

noncomputable section

namespace Cert.GlaIdeal.Hand

open Idealize.ShloMosaic Idealize.ShloMosaic.TcCoe Idealize.SL.Sem
open Idealize.ShloMosaic.Pipeline (Dat)
open Cert.GlaIdeal Cert.GlaIdeal.Gen
open Cert.GlaRefIdeal.Hand (row kcol gk gs pre kk vv qd at' kd gl st oo)

variable (m : (ℓ : Loc nD τ sig) → Buf (Elt Ideal) ℓ)

/-- Which block each window shows at a grid point. -/
theorem maps : ∀ t : Fin cfg0.N, win0_0.index t = ![t.val, 4] ∧ win0_1.index t = ![t.val, 0] ∧ win0_2.index t = ![0, 0]
    ∧ win0_3.index t = ![0, 0] ∧ win0_4.index t = ![0, 0] ∧ win0_5.index t = ![t.val / 64, 0, 0, 0] :=
  (by decide +kernel : ∀ t : Fin grid0.N, _)

theorem weight_eq (c : Dev nD) : V m c main_v3
    = (truncf .bf16 (concatenate S128x512 0 [⟨S16x512, broadcastInDim S16x512 ![] bcast_S_S16x512 (constant (F := Ideal) S_ .f32 0x00000000#32)⟩,
        ⟨S16x512, (m ((c : Thread nD τ).loc main_arg2) : FVec Ideal S16x512 .f32)⟩,
        ⟨S96x512, broadcastInDim S96x512 ![] bcast_S_S96x512 (constant (F := Ideal) S_ .f32 0x00000000#32)⟩]
        concatenates_S16x512_S16x512_S96x512_S128x512_d0 : FVec Ideal S128x512 .f32) bitsLt_bf16_f32 : FVec Ideal S128x512 .bf16) := rfl

theorem bias_eq (c : Dev nD) : V m c main_v4 = (shapeCast S1x512 (m ((c : Thread nD τ).loc main_arg3) : FVec Ideal S512 .f32) shapeCasts_S512_S1x512 : FVec Ideal S1x512 .f32) := rfl

theorem norm_eq (c : Dev nD) : V m c main_v5 = (shapeCast S1x256 (m ((c : Thread nD τ).loc main_arg4) : FVec Ideal S256 .f32) shapeCasts_S256_S1x256 : FVec Ideal S1x256 .f32) := rfl

theorem state_eq (c : Dev nD) : V m c main_v6 = (transpose S4x4x256x128 [0, 1, 3, 2] (m ((c : Thread nD τ).loc main_arg5) : FVec Ideal S4x4x128x256 .f32) transposes_S4x4x128x256_S4x4x256x128_0_1_3_2 : FVec Ideal S4x4x256x128 .f32) := rfl

/-- The gate's weight, padded with zero rows. -/
def padw (X : FVec Ideal S16x512 .f32) (k : Fin 128) (e : Fin 512) : EReal :=
  if h : 16 ≤ k.val ∧ k.val < 32 then X (ix2 (⟨k.val - 16, by omega⟩ : Fin 16) e) else 0

theorem weight_at (c : Dev nD) (k : Fin 128) (e : Fin 512) :
    V m c main_v3 (ix2 k e : S128x512.Idx) = padw (m ((c : Thread nD τ).loc main_arg2)) k e := by
  rw [weight_eq]
  generalize m ((c : Thread nD τ).loc main_arg2) = X
  pointwise [padw]
  by_cases h1 : k.val < 16
  · rw [dif_pos h1, dif_neg (by omega)]
  · rw [dif_neg h1]
    by_cases h2 : k.val - 16 < 16
    · rw [dif_pos h2, dif_pos (by omega)]
    · rw [dif_neg h2, dif_neg (by omega)]

theorem bias_at (c : Dev nD) (e : Fin 512) : V m c main_v4 (ix2 0 e : S1x512.Idx) = m ((c : Thread nD τ).loc main_arg3) (ix1 e : S512.Idx) := by
  rw [bias_eq]
  generalize m ((c : Thread nD τ).loc main_arg3) = X
  pointwise

theorem norm_at (c : Dev nD) (e : Fin 256) : V m c main_v5 (ix2 0 e : S1x256.Idx) = m ((c : Thread nD τ).loc main_arg4) (ix1 e : S256.Idx) := by
  rw [norm_eq]
  generalize m ((c : Thread nD τ).loc main_arg4) = X
  pointwise

theorem state_at (c : Dev nD) (s h : Fin 4) (e : Fin 256) (d : Fin 128) :
    V m c main_v6 (ix4 s h e d : S4x4x256x128.Idx) = m ((c : Thread nD τ).loc main_arg5) (ix4 s h d e : S4x4x128x256.Idx) := by
  rw [state_eq]
  generalize m ((c : Thread nD τ).loc main_arg5) = X
  pointwise

theorem blk0 (c : Dev nD) (t : Fin cfg0.N) (i : Fin 32) (q : Fin 3072) (r : Fin 8192) (p : Fin 15360) (hr : r.val = t.val * 32 + i.val) (hp : p.val = 12288 + q.val) :
    iblk m c 0 t (ix2 i q : S32x3072.Idx) = m ((c : Thread nD τ).loc main_arg0) (ix2 r p : S8192x15360.Idx) := by
  blk_ext [iblk, V, maps t]

theorem blk1 (c : Dev nD) (t : Fin cfg0.N) (i : Fin 32) (q : Fin 128) (r : Fin 8192) (hr : r.val = t.val * 32 + i.val) :
    iblk m c 1 t (ix2 i q : S32x128.Idx) = m ((c : Thread nD τ).loc main_arg1) (ix2 r q : S8192x128.Idx) := by
  blk_ext [iblk, V, maps t]

theorem blk2 (c : Dev nD) (t : Fin cfg0.N) (k : Fin 128) (e : Fin 512) :
    iblk m c 2 t (ix2 k e : S128x512.Idx) = padw (m ((c : Thread nD τ).loc main_arg2)) k e := by
  refine Eq.trans ?_ (weight_at m c k e)
  blk_ext [iblk, maps t]

theorem blk3 (c : Dev nD) (t : Fin cfg0.N) (e : Fin 512) :
    iblk m c 3 t (ix2 0 e : S1x512.Idx) = m ((c : Thread nD τ).loc main_arg3) (ix1 e : S512.Idx) := by
  refine Eq.trans ?_ (bias_at m c e)
  blk_ext [iblk, maps t]

theorem blk4 (c : Dev nD) (t : Fin cfg0.N) (e : Fin 256) :
    iblk m c 4 t (ix2 0 e : S1x256.Idx) = m ((c : Thread nD τ).loc main_arg4) (ix1 e : S256.Idx) := by
  refine Eq.trans ?_ (norm_at m c e)
  blk_ext [iblk, maps t]

theorem blk5 (c : Dev nD) (t : Fin cfg0.N) (s h : Fin 4) (e : Fin 256) (d : Fin 128) (hs : s.val = t.val / 64) :
    iblk m c 5 t (ix4 0 h e d : S1x4x256x128.Idx) = m ((c : Thread nD τ).loc main_arg5) (ix4 s h d e : S4x4x128x256.Idx) := by
  refine Eq.trans ?_ (state_at m c s h e d)
  blk_ext [iblk, maps t]

/-- A sum over the padded rows is the sum over the rows that hold the weight. -/
theorem sum_pad (f : Fin 128 → EReal) (g : Fin 16 → EReal) (h1 : ∀ k : Fin 16, f ⟨16 + k.val, by omega⟩ = g k)
    (h0 : ∀ k : Fin 128, ¬(16 ≤ k.val ∧ k.val < 32) → f k = 0) : ∑ k, f k = ∑ k, g k := by
  symm
  refine Finset.sum_of_injOn (fun k : Fin 16 => (⟨16 + k.val, by omega⟩ : Fin 128)) ?_ ?_ ?_ ?_
  · intro a _ b _ hab
    have := congrArg Fin.val hab
    exact Fin.ext (by change 16 + a.val = 16 + b.val at this; omega)
  · intro _ _; exact Finset.mem_coe.2 (Finset.mem_univ _)
  · intro k _ hk
    refine h0 k fun hh => hk ⟨⟨k.val - 16, by omega⟩, Finset.mem_coe.2 (Finset.mem_univ _), Fin.ext ?_⟩
    show 16 + (k.val - 16) = k.val
    omega
  · intro k _; exact (h1 k).symm

theorem decay_pre (zs : FVec Ideal S8192x128 .f32) (w : FVec Ideal S16x512 .f32) (b : FVec Ideal S512 .f32) (r : Fin 8192) (e : Fin 512) :
    decay (pre zs w b r e) = gk zs w b r e := by
  unfold decay gk Ideal.log1p
  simp only [zero_sub]

/-- The decay the kernel makes of a staged block is the reference's. -/
theorem gk_blk (c : Dev nD) (t : Fin cfg0.N) (i : Fin 32) (e : Fin 512) (r : Fin 8192) (hr : r.val = t.val * 32 + i.val) :
    k0_pay4 (F := Ideal) (iblk m c 1 t) (iblk m c 2 t) (iblk m c 3 t) (ix2 i e)
      = gk (m ((c : Thread nD τ).loc main_arg1)) (m ((c : Thread nD τ).loc main_arg2)) (m ((c : Thread nD τ).loc main_arg3)) r e := by
  rw [gk_at, ← decay_pre]
  refine congrArg decay (Ideal.add_congr ?_ (blk3 m c t e))
  refine sum_pad _ _ (fun k => ?_) (fun k hk => ?_)
  · refine Ideal.mul_congr (blk1 m c t i _ r hr) ((blk2 m c t _ e).trans ?_)
    unfold padw
    rw [dif_pos ⟨by simp, by simp; omega⟩]
    refine congrArg _ ((ix2_inj ..).2 ⟨Fin.ext ?_, rfl⟩)
    show 16 + k.val - 16 = k.val
    omega
  · have e0 : iblk m c 2 t (ix2 k e : S128x512.Idx) = (0 : EReal) := (blk2 m c t k e).trans (dif_neg hk)
    exact (Ideal.mul_congr rfl e0).trans (mul_zero _)

/-- The running decay of a staged block is the reference's. -/
theorem gs_blk (c : Dev nD) (t : Fin cfg0.N) (s : Fin 4) (n : Fin 64) (ht : t.val = s.val * 64 + n.val) (z0 : Ideal .f32) (h : Fin 4) (i : Fin 32) (d : Fin 128) (q : Fin 512)
    (hq : q.val = h.val * 128 + d.val) :
    k0_pay7 (F := Ideal) (k0_pay4 (iblk m c 1 t) (iblk m c 2 t) (iblk m c 3 t)) z0 (fun _ => 1#1) (ix2 i q)
      = gs (m ((c : Thread nD τ).loc main_arg1)) (m ((c : Thread nD τ).loc main_arg2)) (m ((c : Thread nD τ).loc main_arg3)) n s h i d := by
  have e : q = kcol h d := Fin.ext hq
  rw [sum_at, e]
  refine Finset.sum_congr rfl fun k _ => ?_
  rw [gk_blk m c t k (kcol h d) (row s n k) (by show s.val * 2048 + (n.val * 32 + k.val) = _; omega)]

end Cert.GlaIdeal.Hand
-- ==== Proof.GlaRun.lean ====
/- The reference of the gated linear attention runs: its loop over the chunks keeps the state and the tokens written so far at the
   scalar functions of `GlaRef`, and its two results are read off from them. -/
module

public import proofs.«01_k».proof.Proof.GlaRef

@[expose] public section

set_option maxRecDepth 65536

noncomputable section

namespace Cert.GlaRefIdeal.Hand

open Idealize.ShloMosaic Idealize.ShloMosaic.TcCoe Idealize.SL.Sem Idealize.ShloMosaic.StableHlo
open Cert.GlaRefIdeal Cert.GlaRefIdeal.Gen Cert.GlaRefIdeal.Value Cert.GlaRefIdeal.Step

variable (z : (⟨S8192x15360, .f32⟩ : BufTy).Contents (Elt Ideal)) (zs : (⟨S8192x128, .f32⟩ : BufTy).Contents (Elt Ideal))
  (w : (⟨S16x512, .f32⟩ : BufTy).Contents (Elt Ideal)) (b : (⟨S512, .f32⟩ : BufTy).Contents (Elt Ideal))
  (nw : (⟨S256, .f32⟩ : BufTy).Contents (Elt Ideal))
  (s0 : (⟨S4x4x128x256, .f32⟩ : BufTy).Contents (Elt Ideal))

/-- The reference's running sums are the scalar ones. -/
theorem gs_at (n : Fin 64) (s h : Fin 4) (i : Fin 32) (d : Fin 128) : A_main_v46 z zs w b (ix5 n s h i d) = gs zs w b n s h i d := by
  unfold A_main_v46
  rw [cumsum_at _ _ (fun i => by pointwise [K_main_call0_call0_v0, K_main_call0_call0_cst])]
  exact Finset.sum_congr rfl fun k _ => by rw [g_at]

/-- The decayed queries. -/
theorem qd_at (n : Fin 64) (s h : Fin 4) (i : Fin 32) (d : Fin 128) : A_main_v50 z zs w b (ix5 n s h i d) = qd z zs w b n s h i d := by
  pointwise [A_main_v50, A_main_v49, q_at, gs_at, qd]

/-- The keys decayed to the chunk's end. -/
theorem kd_at (n : Fin 64) (s h : Fin 4) (i : Fin 32) (d : Fin 128) : A_main_v60 z zs w b (ix5 n s h i d) = kd z zs w b n s h i d := by
  pointwise [A_main_v60, A_main_v59, A_main_v58, A_main_v57, A_main_v56, k_at, gs_at, kd]

/-- The chunks' decays. -/
theorem gl_at (n : Fin 64) (s h : Fin 4) (d : Fin 128) : A_main_v63 z zs w b (ix4 n s h d) = gl zs w b n s h d := by
  pointwise [A_main_v63, A_main_v62, A_main_v61, gs_at, gl]

/-- The causal mask. -/
theorem mask_at (n : Fin 64) (s h : Fin 4) (i j : Fin 32) : K_main_call2_v1 (F := Ideal) (ix5 n s h i j) = if j ≤ i then 1#1 else 0#1 := by
  have e : K_main_call2_v1 (F := Ideal) (ix5 n s h i j) = K_main_v48 (F := Ideal) (ix2 i j) := by pointwise [K_main_call2_v1]
  rw [e]
  clear e
  revert i j
  decide +kernel

/-- The masked scores. -/
theorem at_at (n : Fin 64) (s h : Fin 4) (i j : Fin 32) : A_main_v55 z zs w b (ix5 n s h i j) = at' z zs w b n s h i j := by
  pointwise [A_main_v55, A_main_v54, A_main_v53, A_main_v52, A_main_v51, mask_at, K_main_call2_v2, K_main_call2_v0, K_main_cst_2, k_at, gs_at, qd_at, at', id]
  by_cases h : j ≤ i
  · rw [if_pos h, if_pos h]; rfl
  · rw [if_neg h, if_neg h]; exact rfl

/-- What holds before chunk `k`. -/
def Inv (V0 : Valuation τ sig (Elt Ideal)) (k : ℕ) : Prop :=
  ∃ (x6 : (⟨S4x4x128x256, .f32⟩ : BufTy).Contents (Elt Ideal)) (x7 : (⟨S64x4x4x32x256, .f32⟩ : BufTy).Contents (Elt Ideal)),
    V0 (Proc.devRef .tc main_v65_6) = x6 ∧ V0 (Proc.devRef .tc main_v65_7) = x7
    ∧ V0 (Proc.devRef .tc main_v65_5) = constantI S_ 32 (BitVec.ofNat 32 k)
    ∧ V0 (Proc.devRef .tc main_v65_0) = A_main_v50 z zs w b ∧ V0 (Proc.devRef .tc main_v65_1) = A_main_v60 z zs w b
    ∧ V0 (Proc.devRef .tc main_v65_2) = A_main_v42 z zs w b ∧ V0 (Proc.devRef .tc main_v65_3) = A_main_v63 z zs w b
    ∧ V0 (Proc.devRef .tc main_v65_4) = A_main_v55 z zs w b
    ∧ (∀ s h d e, x6 (ix4 s h d e) = st z zs w b s0 k s h d e)
    ∧ (∀ (n : Fin 64) s h i e, n.val < k → x7 (ix5 n s h i e) = oo z zs w b s0 n.val s h i e)

theorem step5_eq (V0 : Valuation τ sig (Elt Ideal)) (k : ℕ) (hc : V0 (Proc.devRef .tc main_v65_5) = constantI S_ 32 (BitVec.ofNat 32 k)) :
    STEP V0 (Proc.devRef .tc main_v65_5) = constantI S_ 32 (BitVec.ofNat 32 (k + 1)) := by
  rw [STEP_main_v65_5]
  unfold Value.step_main_v65_5
  rw [hc]
  funext i
  show BitVec.ofNat 32 k + 1#32 = BitVec.ofNat 32 (k + 1)
  simp only [BitVec.ofNat_add]

/-- One trip takes the invariant from chunk `k` to chunk `k + 1`. -/
theorem inv_step (V0 : Valuation τ sig (Elt Ideal)) (k : ℕ) (hk : k < 64) (h : Inv z zs w b s0 V0 k) : Inv z zs w b s0 (STEP V0) (k + 1) := by
  obtain ⟨x6, x7, h6, h7, hc, h0, h1, h2, h3, h4, hs, ho⟩ := h
  have hch : (⟨k, hk⟩ : Fin 64) = chunk k := Fin.ext (Nat.mod_eq_of_lt hk).symm
  refine ⟨_, _, step6_eq V0 k x6 x7 (A_main_v50 z zs w b) _ _ _ (A_main_v55 z zs w b) hc h6 h3 h1 h2, step7_eq V0 k x6 x7 _ (A_main_v60 z zs w b) _ (A_main_v63 z zs w b) _ hc h6 h7 h0 h4 h2,
    step5_eq V0 k hc, (STEP_main_v65_0 V0).trans h0, (STEP_main_v65_1 V0).trans h1, (STEP_main_v65_2 V0).trans h2,
    (STEP_main_v65_3 V0).trans h3, (STEP_main_v65_4 V0).trans h4, ?_, ?_⟩
  · intro s h d e
    rw [state_at _ _ _ _ _ _ _ k hk, hs, gl_at, hch]
    exact congrArg _ (Finset.sum_congr rfl fun c _ => by rw [kd_at, v_at])
  · intro n s h i e hn
    rw [toks_at _ _ _ _ _ _ _ k hk]
    by_cases hnk : n.val = k
    · rw [if_pos hnk, tok_at _ _ _ _ _ _ _ k hk, hch, hnk]
      exact Ideal.add_congr (Finset.sum_congr rfl fun d _ => by rw [qd_at, hs]) (Finset.sum_congr rfl fun j _ => by rw [at_at, v_at])
    · rw [if_neg hnk]
      exact ho n s h i e (by omega)

variable (m : (ℓ : Loc nD τ sig) → Buf (Elt Ideal) ℓ)

section entry
set_option maxHeartbeats 700000
variable (c : Dev nD)

theorem entry_6 : entryContents preI m c (Proc.devRef .tc main_v65_6) = (m ((c.tc : Thread nD τ).loc main_arg5)) := by
  (simp only [entryContents, afterL_cons, afterL_nil]; after_reads_simp) <;> rfl
theorem entry_5 : entryContents preI m c (Proc.devRef .tc main_v65_5) = constantI S_ 32 (BitVec.ofNat 32 0) := ctr_entry m c
theorem entry_0 : entryContents preI m c (Proc.devRef .tc main_v65_0) = A_main_v50 (m ((c.tc : Thread nD τ).loc main_arg0)) (m ((c.tc : Thread nD τ).loc main_arg1)) (m ((c.tc : Thread nD τ).loc main_arg2)) (m ((c.tc : Thread nD τ).loc main_arg3)) := by
  (simp only [entryContents, afterL_cons, afterL_nil]; after_reads_simp) <;> rfl
theorem entry_1 : entryContents preI m c (Proc.devRef .tc main_v65_1) = A_main_v60 (m ((c.tc : Thread nD τ).loc main_arg0)) (m ((c.tc : Thread nD τ).loc main_arg1)) (m ((c.tc : Thread nD τ).loc main_arg2)) (m ((c.tc : Thread nD τ).loc main_arg3)) := by
  (simp only [entryContents, afterL_cons, afterL_nil]; after_reads_simp) <;> rfl
theorem entry_2 : entryContents preI m c (Proc.devRef .tc main_v65_2) = A_main_v42 (m ((c.tc : Thread nD τ).loc main_arg0)) (m ((c.tc : Thread nD τ).loc main_arg1)) (m ((c.tc : Thread nD τ).loc main_arg2)) (m ((c.tc : Thread nD τ).loc main_arg3)) := by
  (simp only [entryContents, afterL_cons, afterL_nil]; after_reads_simp) <;> rfl
theorem entry_3 : entryContents preI m c (Proc.devRef .tc main_v65_3) = A_main_v63 (m ((c.tc : Thread nD τ).loc main_arg0)) (m ((c.tc : Thread nD τ).loc main_arg1)) (m ((c.tc : Thread nD τ).loc main_arg2)) (m ((c.tc : Thread nD τ).loc main_arg3)) := by
  (simp only [entryContents, afterL_cons, afterL_nil]; after_reads_simp) <;> rfl
theorem entry_4 : entryContents preI m c (Proc.devRef .tc main_v65_4) = A_main_v55 (m ((c.tc : Thread nD τ).loc main_arg0)) (m ((c.tc : Thread nD τ).loc main_arg1)) (m ((c.tc : Thread nD τ).loc main_arg2)) (m ((c.tc : Thread nD τ).loc main_arg3)) := by
  (simp only [entryContents, afterL_cons, afterL_nil]; after_reads_simp) <;> rfl

end entry

/-- The invariant before every chunk, and after the last one. -/
theorem inv_all (c : Dev nD) : ∀ k : ℕ, k ≤ 64 → Inv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (STEP^[k] (entryContents preI m c)) k
  | 0, _ => ⟨_, _, entry_6 m c, rfl, entry_5 m c, entry_0 m c, entry_1 m c, entry_2 m c, entry_3 m c, entry_4 m c, fun _ _ _ _ => rfl,
      fun _ _ _ _ _ h => absurd h (by omega)⟩
  | k + 1, hk => by
    rw [Function.iterate_succ_apply']
    exact inv_step _ _ _ _ _ _ k (by omega) (inv_all c k (by omega))

/-- The gate of a token's feature. -/
def gx (n : Fin 64) (s h : Fin 4) (i : Fin 32) (e : Fin 256) : EReal :=
  z (ix2 (row s n i) (⟨14336 + (h.val * 256 + e.val), by omega⟩ : Fin 15360))

/-- A token's result: its read normalised over the head, weighted, and gated. -/
def yy (n : Fin 64) (s h : Fin 4) (i : Fin 32) (e : Fin 256) : EReal :=
  oo z zs w b s0 n.val s h i e
    * Ideal.rsqrt (Ideal.div (∑ x : Fin 256, oo z zs w b s0 n.val s h i x * oo z zs w b s0 n.val s h i x) (Ideal.ofBits .f32 0x43800000#32) + Ideal.ofBits .f32 0x358637BD#32)
    * nw (ix1 e) * (gx z n s h i e * Ideal.div (Ideal.ofBits .f32 0x3F800000#32) (Ideal.ofBits .f32 0x3F800000#32 + Ideal.exp (-(gx z n s h i e))))

theorem out88_at (V0 : Valuation τ sig (Elt Ideal)) (x7 : (⟨S64x4x4x32x256, .f32⟩ : BufTy).Contents (Elt Ideal))
    (h7 : V0 (Proc.devRef .tc main_v65_7) = x7) (h4 : V0 (Proc.devRef .tc main_arg4) = nw) (h0 : V0 (Proc.devRef .tc main_arg0) = z)
    (ho : ∀ (n : Fin 64) s h i e, x7 (ix5 n s h i e) = oo z zs w b s0 n.val s h i e)
    (n : Fin 64) (s h : Fin 4) (i : Fin 32) (e : Fin 256) :
    (out_main_v88 V0 : (⟨S8192x1024, .bf16⟩ : BufTy).Contents (Elt Ideal)) (ix2 (row s n i) (⟨h.val * 256 + e.val, by omega⟩ : Fin 1024)) = yy z zs w b nw s0 n s h i e := by
  unfold out_main_v88
  rw [h7, h4, h0]
  have e1 : (s.val * 2048 + (n.val * 32 + i.val)) / 2048 = s.val := by omega
  have e2 : (s.val * 2048 + (n.val * 32 + i.val)) % 2048 = n.val * 32 + i.val := by omega
  pointwise [ho, yy, gx]
  simp only [e1, e2, Fin.eta]

theorem out89_at (V0 : Valuation τ sig (Elt Ideal)) (x6 : (⟨S4x4x128x256, .f32⟩ : BufTy).Contents (Elt Ideal))
    (h6 : V0 (Proc.devRef .tc main_v65_6) = x6) (s h : Fin 4) (e : Fin 256) (d : Fin 128) :
    (out_main_v89 V0 : (⟨S4x4x256x128, .f32⟩ : BufTy).Contents (Elt Ideal)) (ix4 s h e d) = x6 (ix4 s h d e) := by
  unfold out_main_v89
  rw [h6]
  pointwise []

end Cert.GlaRefIdeal.Hand
-- ==== Proof.GlaPoint.lean ====
/- What the gated linear attention's kernel leaves at one grid point. -/
module

public import proofs.«01_k».proof.Proof.GlaBlocks
public import proofs.«01_k».proof.Proof.GlaRun

@[expose] public section

set_option maxRecDepth 16384

noncomputable section

namespace Cert.GlaIdeal.Hand

open Idealize.ShloMosaic Idealize.ShloMosaic.TcCoe Idealize.SL.Sem
open Idealize.ShloMosaic.Pipeline (Dat)
open Cert.GlaIdeal Cert.GlaIdeal.Gen
open Cert.GlaRefIdeal.Hand (row kcol gk gs pre kk vv qd at' kd gl st oo gx yy chunk)

theorem one_bits : Ideal.ofBits .f32 0x3F800000#32 = (1 : EReal) := Ideal.ofBits_one_f32

section abs

variable (z : FVec Ideal S8192x15360 .bf16) (zs : FVec Ideal S8192x128 .f32) (w : FVec Ideal S16x512 .f32) (b : FVec Ideal S512 .f32)
  (nw : FVec Ideal S256 .f32) (s0 : FVec Ideal S4x4x128x256 .f32)

theorem chunk_val (n : Fin 64) : chunk n.val = n := Fin.ext (Nat.mod_eq_of_lt n.isLt)

/-- The kernel's new state is the reference's. -/
theorem kst_eq (n : Fin 64) (s h : Fin 4) (K : Fin 32 → Fin 128 → EReal) (W : Fin 32 → Fin 256 → EReal) (G : Fin 32 → Fin 128 → EReal) (X : Fin 256 → Fin 128 → EReal)
    (hK : ∀ i d, K i d = kk z n s h i d) (hW : ∀ i e, W i e = vv z n s h i e) (hG : ∀ i d, G i d = gs zs w b n s h i d)
    (hX : ∀ e d, X e d = st z zs w b s0 n.val s h d e) (e : Fin 256) (d : Fin 128) :
    kst K W G X e d = st z zs w b s0 (n.val + 1) s h d e := by
  unfold kst st kd gl
  rw [chunk_val, hX, hG]
  refine congrArg₂ (· + ·) rfl (Finset.sum_congr rfl fun x _ => ?_)
  rw [hW, hK, hG, mul_comm]

/-- What the kernel's token reads is what the reference's does. -/
theorem ko_eq (n : Fin 64) (s h : Fin 4) (Q K : Fin 32 → Fin 128 → EReal) (W : Fin 32 → Fin 256 → EReal) (G : Fin 32 → Fin 128 → EReal) (X : Fin 256 → Fin 128 → EReal)
    (hQ : ∀ i d, Q i d = z (ix2 (row s n i) (⟨12288 + (h.val * 128 + d.val), by omega⟩ : Fin 15360)))
    (hK : ∀ i d, K i d = kk z n s h i d) (hW : ∀ i e, W i e = vv z n s h i e) (hG : ∀ i d, G i d = gs zs w b n s h i d)
    (hX : ∀ e d, X e d = st z zs w b s0 n.val s h d e) (i : Fin 32) (e : Fin 256) :
    ko Q K W G X i e = oo z zs w b s0 n.val s h i e := by
  unfold ko oo at' qd
  rw [chunk_val, add_comm]
  refine congrArg₂ (· + ·) (Finset.sum_congr rfl fun d _ => ?_) (Finset.sum_congr rfl fun j _ => ?_)
  · rw [hQ, hG, hX]
  · rw [hW]
    refine congrArg (· * _) (if_congr Iff.rfl (Finset.sum_congr rfl fun d _ => ?_) rfl)
    rw [hQ, hK, hG, hG, zero_sub]

/-- The kernel's token is the reference's. -/
theorem ky_eq (n : Fin 64) (s h : Fin 4) (O : Fin 32 → Fin 256 → EReal) (N : Fin 256 → EReal) (H : Fin 32 → Fin 256 → EReal)
    (hO : ∀ i e, O i e = oo z zs w b s0 n.val s h i e) (hN : ∀ e, N e = nw (ix1 e)) (hH : ∀ i e, H i e = gx z n s h i e) (i : Fin 32) (e : Fin 256) :
    ky O N H i e = yy z zs w b nw s0 n s h i e := by
  unfold ky yy
  obtain rfl : O = oo z zs w b s0 n.val s h := funext₂ hO
  rw [hN, hH, one_bits]
  rfl

end abs

variable (m : (ℓ : Loc nD τ sig) → Buf (Elt Ideal) ℓ)

/-- The state before a chunk, at the arguments a memory holds. -/
abbrev ST (c : Dev nD) : ℕ → Fin 4 → Fin 4 → Fin 128 → Fin 256 → EReal :=
  st (m ((c : Thread nD τ).loc main_arg0)) (m ((c : Thread nD τ).loc main_arg1)) (m ((c : Thread nD τ).loc main_arg2)) (m ((c : Thread nD τ).loc main_arg3)) (m ((c : Thread nD τ).loc main_arg5))

/-- A token's result, at the arguments a memory holds. -/
abbrev YY (c : Dev nD) : Fin 64 → Fin 4 → Fin 4 → Fin 32 → Fin 256 → EReal :=
  yy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

section point

variable (c : Dev nD) (t : Fin cfg0.N) (s : Fin 4) (n : Fin 64) (ht : t.val = s.val * 64 + n.val) (L : Vec Ideal S1x256x128 .f32)

include ht

theorem q_blk (h : Fin 4) (i : Fin 32) (d : Fin 128) (q : Fin 3072) (hq : q.val = h.val * 128 + d.val) :
    iblk m c 0 t (ix2 i q : S32x3072.Idx) = m ((c : Thread nD τ).loc main_arg0) (ix2 (row s n i) (⟨12288 + (h.val * 128 + d.val), by omega⟩ : Fin 15360) : S8192x15360.Idx) :=
  blk0 m c t i q _ _ (by show s.val * 2048 + (n.val * 32 + i.val) = _; omega) (by show 12288 + (h.val * 128 + d.val) = _; omega)

theorem k_blk (h : Fin 4) (i : Fin 32) (d : Fin 128) (q : Fin 3072) (hq : q.val = 512 + (h.val * 128 + d.val)) :
    iblk m c 0 t (ix2 i q : S32x3072.Idx) = kk (m ((c : Thread nD τ).loc main_arg0)) n s h i d :=
  blk0 m c t i q _ _ (by show s.val * 2048 + (n.val * 32 + i.val) = _; omega) (by show 12288 + (512 + (h.val * 128 + d.val)) = _; omega)

theorem v_blk (h : Fin 4) (i : Fin 32) (e : Fin 256) (q : Fin 3072) (hq : q.val = 1024 + (h.val * 256 + e.val)) :
    iblk m c 0 t (ix2 i q : S32x3072.Idx) = vv (m ((c : Thread nD τ).loc main_arg0)) n s h i e :=
  blk0 m c t i q _ _ (by show s.val * 2048 + (n.val * 32 + i.val) = _; omega) (by show 12288 + (1024 + (h.val * 256 + e.val)) = _; omega)

theorem g_blk (h : Fin 4) (i : Fin 32) (e : Fin 256) (q : Fin 3072) (hq : q.val = 2048 + (h.val * 256 + e.val)) :
    iblk m c 0 t (ix2 i q : S32x3072.Idx) = gx (m ((c : Thread nD τ).loc main_arg0)) n s h i e :=
  blk0 m c t i q _ _ (by show s.val * 2048 + (n.val * 32 + i.val) = _; omega) (by show 14336 + (h.val * 256 + e.val) = _; omega)

/-- The first head's new state at a grid point. -/
theorem s0_pt (hL : ∀ e d, L (ix3 0 e d) = ST m c n.val s 0 d e) (e : Fin 256) (d : Fin 128) :
    k0_pay18 (F := Ideal) (k0_pay15 (k0_pay4 (iblk m c 1 t) (iblk m c 2 t) (iblk m c 3 t)) (FloatOps.ofBits .f32 0#32) (k0_pay5 (grid0.coords t)) L) (k0_pay16 (iblk m c 0 t)) (k0_pay17 (iblk m c 0 t) (k0_pay3 (grid0.coords t)) (k0_pay4 (iblk m c 1 t) (iblk m c 2 t) (iblk m c 3 t)) (FloatOps.ofBits .f32 0#32) (k0_pay5 (grid0.coords t))) (ix3 0 e d)
      = ST m c (n.val + 1) s 0 d e := by
  rw [valid, valid512, st0_at]
  exact kst_eq _ _ _ _ _ n s (0 : Fin 4) _ _ _ _ (fun i d => k_blk m c t s n ht (0 : Fin 4) i d _ (by simp; try omega)) (fun i e => v_blk m c t s n ht (0 : Fin 4) i e _ (by simp; try omega))
    (fun i d => gs_blk m c t s n ht _ (0 : Fin 4) i d _ (by simp; try omega)) hL e d

/-- The first head's token at a grid point. -/
theorem y0_pt (hL : ∀ e d, L (ix3 0 e d) = ST m c n.val s 0 d e) (i : Fin 32) (e : Fin 256) :
    k0_pay19 (F := Ideal) (k0_pay8 (iblk m c 0 t)) (k0_pay13 (iblk m c 0 t) (k0_pay3 (grid0.coords t)) (k0_pay4 (iblk m c 1 t) (iblk m c 2 t) (iblk m c 3 t)) (FloatOps.ofBits .f32 0#32) (k0_pay5 (grid0.coords t)) L) (iblk m c 4 t) (ix2 i e)
      = YY m c n s 0 i e := by
  rw [valid, valid512, y00_at]
  exact ky_eq _ _ _ _ _ _ n s (0 : Fin 4) _ _ _ (ko_eq _ _ _ _ _ n s (0 : Fin 4) _ _ _ _ _ (fun i d => q_blk m c t s n ht (0 : Fin 4) i d _ (by simp; try omega)) (fun i d => k_blk m c t s n ht (0 : Fin 4) i d _ (by simp; try omega)) (fun i e => v_blk m c t s n ht (0 : Fin 4) i e _ (by simp; try omega))
    (fun i d => gs_blk m c t s n ht _ (0 : Fin 4) i d _ (by simp; try omega)) hL) (fun e => blk4 m c t e) (fun i e => g_blk m c t s n ht (0 : Fin 4) i e _ (by simp; try omega)) i e

/-- The second head's new state at a grid point. -/
theorem s1_pt (hL : ∀ e d, L (ix3 0 e d) = ST m c n.val s 1 d e) (e : Fin 256) (d : Fin 128) :
    k0_pay27 (F := Ideal) (k0_pay20 (iblk m c 0 t) (k0_pay3 (grid0.coords t))) (k0_pay21 (iblk m c 0 t)) (k0_pay22 (k0_pay7 (k0_pay4 (iblk m c 1 t) (iblk m c 2 t) (iblk m c 3 t)) (FloatOps.ofBits .f32 0#32) (k0_pay5 (grid0.coords t)))) L (ix3 0 e d)
      = ST m c (n.val + 1) s 1 d e := by
  rw [valid, valid512, st1_at]
  exact kst_eq _ _ _ _ _ n s (1 : Fin 4) _ _ _ _ (fun i d => k_blk m c t s n ht (1 : Fin 4) i d _ (by simp; try omega)) (fun i e => v_blk m c t s n ht (1 : Fin 4) i e _ (by simp; try omega))
    (fun i d => gs_blk m c t s n ht _ (1 : Fin 4) i d _ (by simp; try omega)) hL e d

/-- The second head's token at a grid point. -/
theorem y1_pt (hL : ∀ e d, L (ix3 0 e d) = ST m c n.val s 1 d e) (i : Fin 32) (e : Fin 256) :
    k0_pay30 (F := Ideal) (k0_pay28 k0_pay6 (k0_pay21 (iblk m c 0 t)) (k0_pay23 (iblk m c 0 t) (k0_pay7 (k0_pay4 (iblk m c 1 t) (iblk m c 2 t) (iblk m c 3 t)) (FloatOps.ofBits .f32 0#32) (k0_pay5 (grid0.coords t)))) (k0_pay24 (iblk m c 0 t) (k0_pay7 (k0_pay4 (iblk m c 1 t) (iblk m c 2 t) (iblk m c 3 t)) (FloatOps.ofBits .f32 0#32) (k0_pay5 (grid0.coords t)))) (k0_pay25 (iblk m c 0 t) (k0_pay3 (grid0.coords t)) (k0_pay7 (k0_pay4 (iblk m c 1 t) (iblk m c 2 t) (iblk m c 3 t)) (FloatOps.ofBits .f32 0#32) (k0_pay5 (grid0.coords t)))) (constant S32x32 FTy.f32 0#32) L (iblk m c 4 t)) (k0_pay29 (k0_pay8 (iblk m c 0 t))) (ix2 i e)
      = YY m c n s 1 i e := by
  rw [valid, valid512, y1_at]
  exact ky_eq _ _ _ _ _ _ n s (1 : Fin 4) _ _ _ (ko_eq _ _ _ _ _ n s (1 : Fin 4) _ _ _ _ _ (fun i d => q_blk m c t s n ht (1 : Fin 4) i d _ (by simp; try omega)) (fun i d => k_blk m c t s n ht (1 : Fin 4) i d _ (by simp; try omega)) (fun i e => v_blk m c t s n ht (1 : Fin 4) i e _ (by simp; try omega))
    (fun i d => gs_blk m c t s n ht _ (1 : Fin 4) i d _ (by simp; try omega)) hL) (fun e => blk4 m c t e) (fun i e => g_blk m c t s n ht (1 : Fin 4) i e _ (by simp; try omega)) i e

/-- The third head's new state at a grid point. -/
theorem s2_pt (hL : ∀ e d, L (ix3 0 e d) = ST m c n.val s 2 d e) (e : Fin 256) (d : Fin 128) :
    k0_pay37 (F := Ideal) (k0_pay36 (iblk m c 0 t) (k0_pay3 (grid0.coords t)) (k0_pay7 (k0_pay4 (iblk m c 1 t) (iblk m c 2 t) (iblk m c 3 t)) (FloatOps.ofBits .f32 0#32) (k0_pay5 (grid0.coords t))) L) (ix3 0 e d)
      = ST m c (n.val + 1) s 2 d e := by
  rw [valid, valid512, st2_at]
  exact kst_eq _ _ _ _ _ n s (2 : Fin 4) _ _ _ _ (fun i d => k_blk m c t s n ht (2 : Fin 4) i d _ (by simp; try omega)) (fun i e => v_blk m c t s n ht (2 : Fin 4) i e _ (by simp; try omega))
    (fun i d => gs_blk m c t s n ht _ (2 : Fin 4) i d _ (by simp; try omega)) hL e d

/-- The third head's token at a grid point. -/
theorem y2_pt (hL : ∀ e d, L (ix3 0 e d) = ST m c n.val s 2 d e) (i : Fin 32) (e : Fin 256) :
    k0_pay38 (F := Ideal) (k0_pay8 (iblk m c 0 t)) (k0_pay35 (iblk m c 0 t) (k0_pay3 (grid0.coords t)) k0_pay6 (k0_pay7 (k0_pay4 (iblk m c 1 t) (iblk m c 2 t) (iblk m c 3 t)) (FloatOps.ofBits .f32 0#32) (k0_pay5 (grid0.coords t))) L) (iblk m c 4 t) (ix2 i e)
      = YY m c n s 2 i e := by
  rw [valid, valid512, y2_at]
  exact ky_eq _ _ _ _ _ _ n s (2 : Fin 4) _ _ _ (ko_eq _ _ _ _ _ n s (2 : Fin 4) _ _ _ _ _ (fun i d => q_blk m c t s n ht (2 : Fin 4) i d _ (by simp; try omega)) (fun i d => k_blk m c t s n ht (2 : Fin 4) i d _ (by simp; try omega)) (fun i e => v_blk m c t s n ht (2 : Fin 4) i e _ (by simp; try omega))
    (fun i d => gs_blk m c t s n ht _ (2 : Fin 4) i d _ (by simp; try omega)) hL) (fun e => blk4 m c t e) (fun i e => g_blk m c t s n ht (2 : Fin 4) i e _ (by simp; try omega)) i e

/-- The fourth head's new state at a grid point. -/
theorem s3_pt (hL : ∀ e d, L (ix3 0 e d) = ST m c n.val s 3 d e) (e : Fin 256) (d : Fin 128) :
    k0_pay45 (F := Ideal) (k0_pay39 (iblk m c 0 t) (k0_pay3 (grid0.coords t))) (k0_pay40 (iblk m c 0 t)) (k0_pay41 (k0_pay7 (k0_pay4 (iblk m c 1 t) (iblk m c 2 t) (iblk m c 3 t)) (FloatOps.ofBits .f32 0#32) (k0_pay5 (grid0.coords t)))) L (ix3 0 e d)
      = ST m c (n.val + 1) s 3 d e := by
  rw [valid, valid512, st3_at]
  exact kst_eq _ _ _ _ _ n s (3 : Fin 4) _ _ _ _ (fun i d => k_blk m c t s n ht (3 : Fin 4) i d _ (by simp; try omega)) (fun i e => v_blk m c t s n ht (3 : Fin 4) i e _ (by simp; try omega))
    (fun i d => gs_blk m c t s n ht _ (3 : Fin 4) i d _ (by simp; try omega)) hL e d

/-- The fourth head's token at a grid point. -/
theorem y3_pt (hL : ∀ e d, L (ix3 0 e d) = ST m c n.val s 3 d e) (i : Fin 32) (e : Fin 256) :
    k0_pay46 (F := Ideal) (k0_pay8 (iblk m c 0 t)) (k0_pay40 (iblk m c 0 t)) (k0_pay42 (iblk m c 0 t) (k0_pay7 (k0_pay4 (iblk m c 1 t) (iblk m c 2 t) (iblk m c 3 t)) (FloatOps.ofBits .f32 0#32) (k0_pay5 (grid0.coords t)))) (k0_pay43 (iblk m c 0 t) (k0_pay3 (grid0.coords t)) k0_pay6 (k0_pay7 (k0_pay4 (iblk m c 1 t) (iblk m c 2 t) (iblk m c 3 t)) (FloatOps.ofBits .f32 0#32) (k0_pay5 (grid0.coords t)))) L (iblk m c 4 t) (ix2 i e)
      = YY m c n s 3 i e := by
  rw [valid, valid512, y3_at]
  exact ky_eq _ _ _ _ _ _ n s (3 : Fin 4) _ _ _ (ko_eq _ _ _ _ _ n s (3 : Fin 4) _ _ _ _ _ (fun i d => q_blk m c t s n ht (3 : Fin 4) i d _ (by simp; try omega)) (fun i d => k_blk m c t s n ht (3 : Fin 4) i d _ (by simp; try omega)) (fun i e => v_blk m c t s n ht (3 : Fin 4) i e _ (by simp; try omega))
    (fun i d => gs_blk m c t s n ht _ (3 : Fin 4) i d _ (by simp; try omega)) hL) (fun e => blk4 m c t e) (fun i e => g_blk m c t s n ht (3 : Fin 4) i e _ (by simp; try omega)) i e

end point

end Cert.GlaIdeal.Hand
-- ==== Proof.GlaSteps.lean ====
/- What the gated linear attention's kernel leaves at one grid point, from what the point before left. -/
module

public import proofs.«01_k».proof.Proof.GlaPoint
public import Idealize.ShloMosaic.Lib.Pipeline.ReadBack

@[expose] public section

set_option maxRecDepth 16384

noncomputable section

namespace Cert.GlaIdeal.Hand

open Idealize.ShloMosaic Idealize.ShloMosaic.TcCoe Idealize.SL.Sem
open Idealize.ShloMosaic.Pipeline (Dat)
open Cert.GlaIdeal Cert.GlaIdeal.Gen
open Cert.GlaRefIdeal.Hand (row kcol gk gs pre kk vv qd at' kd gl st oo gx yy chunk)

theorem idx3 (x : S1x256x128.Idx) : ∃ (e : Fin 256) (d : Fin 128), x = ix3 0 e d :=
  ⟨x 1, x 2, by
    funext a
    refine Fin.ext ?_
    have h0 : (x 0).val < 1 := (x 0).isLt
    match a with
    | ⟨0, _⟩ => show (x 0).val = 0; omega
    | ⟨1, _⟩ => rfl
    | ⟨2, _⟩ => rfl⟩

theorem idx2 (x : S32x256.Idx) : ∃ (i : Fin 32) (e : Fin 256), x = ix2 i e :=
  ⟨x 0, x 1, by
    funext a
    refine Fin.ext ?_
    match a with
    | ⟨0, _⟩ => rfl
    | ⟨1, _⟩ => rfl⟩

section pieces

variable (Y : Fin 4 → Fin 256 → Fin 128 → EReal) (P0 P1 P2 P3 : S1x256x128.Idx → EReal)
  (H0 : ∀ e d, P0 (ix3 0 e d) = Y 0 e d) (H1 : ∀ e d, P1 (ix3 0 e d) = Y 1 e d) (H2 : ∀ e d, P2 (ix3 0 e d) = Y 2 e d) (H3 : ∀ e d, P3 (ix3 0 e d) = Y 3 e d)

include H0 H1 H2 H3

/-- Four heads' states stored one after another read as one family, whatever was stored before them. -/
theorem canon4 (T : List (View.Piece (Elt Ideal) S4x256x128 .f32)) (k : Fin 4) (e : Fin 256) (d : Fin 128) :
    View.canon (Val := Elt Ideal) (s := S4x256x128) (e := .f32) (⟨Rect.unit ![3, 0, 0] S1x256x128.size (by decide), P3⟩ :: ⟨Rect.unit ![2, 0, 0] S1x256x128.size (by decide), P2⟩ :: ⟨Rect.unit ![1, 0, 0] S1x256x128.size (by decide), P1⟩ :: ⟨Rect.unit ![0, 0, 0] S1x256x128.size (by decide), P0⟩ :: T) (ix3 k e d) = Y k e d := by
  have go : ∀ (r : Rect S4x256x128) (j : r.shape.Idx) (L : List (View.Piece (Elt Ideal) S4x256x128 .f32)) (v : EReal), r.toLoadRect.idx j = ix3 k e d
      → (View.whole cc0_scratch0).readCov (Val := Elt Ideal) L r.toLoadRect j = v → View.canon (Val := Elt Ideal) L (ix3 k e d) = v := by
    intro r j L v hj hv
    rw [View.readCov_eq_canon'] at hv
    rw [← hj]
    exact hv
  fin_cases k
  · refine go (Rect.unit ![0, 0, 0] S1x256x128.size (by decide)) (ix3 0 e d) _ _ ?_ ?_
    · funext a
      refine Fin.ext ?_
      match a with
      | ⟨0, _⟩ => rfl
      | ⟨1, _⟩ => exact (Nat.zero_add _).trans (Nat.one_mul _)
      | ⟨2, _⟩ => exact (Nat.zero_add _).trans (Nat.one_mul _)
    · rw [View.readCov_skip _ _ _ _ _ (by decide), View.readCov_skip _ _ _ _ _ (by decide), View.readCov_skip _ _ _ _ _ (by decide), View.readCov_cons_toLoadRect]
      exact H0 e d
  · refine go (Rect.unit ![1, 0, 0] S1x256x128.size (by decide)) (ix3 0 e d) _ _ ?_ ?_
    · funext a
      refine Fin.ext ?_
      match a with
      | ⟨0, _⟩ => rfl
      | ⟨1, _⟩ => exact (Nat.zero_add _).trans (Nat.one_mul _)
      | ⟨2, _⟩ => exact (Nat.zero_add _).trans (Nat.one_mul _)
    · rw [View.readCov_skip _ _ _ _ _ (by decide), View.readCov_skip _ _ _ _ _ (by decide), View.readCov_cons_toLoadRect]
      exact H1 e d
  · refine go (Rect.unit ![2, 0, 0] S1x256x128.size (by decide)) (ix3 0 e d) _ _ ?_ ?_
    · funext a
      refine Fin.ext ?_
      match a with
      | ⟨0, _⟩ => rfl
      | ⟨1, _⟩ => exact (Nat.zero_add _).trans (Nat.one_mul _)
      | ⟨2, _⟩ => exact (Nat.zero_add _).trans (Nat.one_mul _)
    · rw [View.readCov_skip _ _ _ _ _ (by decide), View.readCov_cons_toLoadRect]
      exact H2 e d
  · refine go (Rect.unit ![3, 0, 0] S1x256x128.size (by decide)) (ix3 0 e d) _ _ ?_ ?_
    · funext a
      refine Fin.ext ?_
      match a with
      | ⟨0, _⟩ => rfl
      | ⟨1, _⟩ => exact (Nat.zero_add _).trans (Nat.one_mul _)
      | ⟨2, _⟩ => exact (Nat.zero_add _).trans (Nat.one_mul _)
    · rw [View.readCov_cons_toLoadRect]
      exact H3 e d

end pieces

section rows

variable (Y : Fin 4 → Fin 32 → Fin 256 → EReal) (P0 P1 P2 P3 : S32x256.Idx → EReal)
  (H0 : ∀ i e, P0 (ix2 i e) = Y 0 i e) (H1 : ∀ i e, P1 (ix2 i e) = Y 1 i e) (H2 : ∀ i e, P2 (ix2 i e) = Y 2 i e) (H3 : ∀ i e, P3 (ix2 i e) = Y 3 i e)

include H0 H1 H2 H3

/-- Four heads' tokens stored side by side read as one family. -/
theorem canonY (k : Fin 4) (i : Fin 32) (e : Fin 256) (q : Fin 1024) (hq : q.val = k.val * 256 + e.val) :
    View.canon (Val := Elt Ideal) (s := S32x1024) (e := .f32) [⟨Rect.unit ![0, 768] S32x256.size (by decide), P3⟩, ⟨Rect.unit ![0, 512] S32x256.size (by decide), P2⟩, ⟨Rect.unit ![0, 256] S32x256.size (by decide), P1⟩, ⟨Rect.unit ![0, 0] S32x256.size (by decide), P0⟩] (ix2 i q) = Y k i e := by
  canon_tiles x h
  · obtain ⟨i', e', rfl⟩ := idx2 x
    have a0 : i.val = i'.val := h0
    have a1 : q.val = 768 + e'.val := h1
    obtain rfl : i = i' := Fin.ext a0
    obtain rfl : k = 3 := Fin.ext (by show k.val = 3; omega)
    obtain rfl : e = e' := Fin.ext (by change q.val = 3 * 256 + e.val at hq; omega)
    exact H3 i e
  · obtain ⟨i', e', rfl⟩ := idx2 x
    have a0 : i.val = i'.val := h0
    have a1 : q.val = 512 + e'.val := h1
    obtain rfl : i = i' := Fin.ext a0
    obtain rfl : k = 2 := Fin.ext (by show k.val = 2; omega)
    obtain rfl : e = e' := Fin.ext (by change q.val = 2 * 256 + e.val at hq; omega)
    exact H2 i e
  · obtain ⟨i', e', rfl⟩ := idx2 x
    have a0 : i.val = i'.val := h0
    have a1 : q.val = 256 + e'.val := h1
    obtain rfl : i = i' := Fin.ext a0
    obtain rfl : k = 1 := Fin.ext (by show k.val = 1; omega)
    obtain rfl : e = e' := Fin.ext (by change q.val = 1 * 256 + e.val at hq; omega)
    exact H1 i e
  · obtain ⟨i', e', rfl⟩ := idx2 x
    have a0 : i.val = i'.val := h0
    have a1 : q.val = e'.val := h1
    obtain rfl : i = i' := Fin.ext a0
    obtain rfl : k = 0 := Fin.ext (by show k.val = 0; omega)
    obtain rfl : e = e' := Fin.ext (by change q.val = 0 * 256 + e.val at hq; omega)
    exact H0 i e

end rows

theorem ld0_at (S : Vec Ideal S4x256x128 .f32) (inb : ∀ a, (![0, 0, 0] : Fin 3 → ℕ) a + S1x256x128.size a ≤ S4x256x128.size a) (e : Fin 256) (d : Fin 128) :
    View.ld S (Rect.unit (s := S4x256x128) ![0, 0, 0] S1x256x128.size inb) (ix3 0 e d) = S (ix3 0 e d) := by
  refine congrArg S ?_
  funext a
  refine Fin.ext ?_
  match a with
  | ⟨0, _⟩ => rfl
  | ⟨1, _⟩ => exact (Nat.zero_add _).trans (Nat.one_mul _)
  | ⟨2, _⟩ => exact (Nat.zero_add _).trans (Nat.one_mul _)

theorem ld1_at (S : Vec Ideal S4x256x128 .f32) (inb : ∀ a, (![1, 0, 0] : Fin 3 → ℕ) a + S1x256x128.size a ≤ S4x256x128.size a) (e : Fin 256) (d : Fin 128) :
    View.ld S (Rect.unit (s := S4x256x128) ![1, 0, 0] S1x256x128.size inb) (ix3 0 e d) = S (ix3 1 e d) := by
  refine congrArg S ?_
  funext a
  refine Fin.ext ?_
  match a with
  | ⟨0, _⟩ => rfl
  | ⟨1, _⟩ => exact (Nat.zero_add _).trans (Nat.one_mul _)
  | ⟨2, _⟩ => exact (Nat.zero_add _).trans (Nat.one_mul _)

theorem ld2_at (S : Vec Ideal S4x256x128 .f32) (inb : ∀ a, (![2, 0, 0] : Fin 3 → ℕ) a + S1x256x128.size a ≤ S4x256x128.size a) (e : Fin 256) (d : Fin 128) :
    View.ld S (Rect.unit (s := S4x256x128) ![2, 0, 0] S1x256x128.size inb) (ix3 0 e d) = S (ix3 2 e d) := by
  refine congrArg S ?_
  funext a
  refine Fin.ext ?_
  match a with
  | ⟨0, _⟩ => rfl
  | ⟨1, _⟩ => exact (Nat.zero_add _).trans (Nat.one_mul _)
  | ⟨2, _⟩ => exact (Nat.zero_add _).trans (Nat.one_mul _)

theorem ld3_at (S : Vec Ideal S4x256x128 .f32) (inb : ∀ a, (![3, 0, 0] : Fin 3 → ℕ) a + S1x256x128.size a ≤ S4x256x128.size a) (e : Fin 256) (d : Fin 128) :
    View.ld S (Rect.unit (s := S4x256x128) ![3, 0, 0] S1x256x128.size inb) (ix3 0 e d) = S (ix3 3 e d) := by
  refine congrArg S ?_
  funext a
  refine Fin.ext ?_
  match a with
  | ⟨0, _⟩ => rfl
  | ⟨1, _⟩ => exact (Nat.zero_add _).trans (Nat.one_mul _)
  | ⟨2, _⟩ => exact (Nat.zero_add _).trans (Nat.one_mul _)

theorem reset_at (x : Vec Ideal S1x4x256x128 .f32) (k : Fin 4) (e : Fin 256) (d : Fin 128) : k0_pay2 (F := Ideal) x (ix3 k e d) = x (ix4 0 k e d) := by
  pointwise [k0_pay2]

theorem flush_at (x : Vec Ideal S4x256x128 .f32) (k : Fin 4) (e : Fin 256) (d : Fin 128) : k0_pay1 (F := Ideal) x (ix4 0 k e d) = x (ix3 k e d) := by
  pointwise [k0_pay1]

variable (m : (ℓ : Loc nD τ sig) → Buf (Elt Ideal) ℓ)

section point

variable (c : Dev nD) (t : Fin cfg0.N) (s : Fin 4) (n : Fin 64) (ht : t.val = s.val * 64 + n.val)

include ht

set_option maxHeartbeats 1000000 in
/-- The carried state at a sequence's first chunk. -/
theorem stateA (h0 : t.val % 64 = 0) (h1 : ¬t.val % 64 = 63)  (k : Fin 4) (e : Fin 256) (d : Fin 128) :
    (outsAt0 m c t.val t.isLt).2.2 (ix3 k e d) = ST m c (n.val + 1) s k d e := by
  rw [outsAt0_A m c t h0 h1]
  have hn : n.val = 0 := by omega
  have l0 : ∀ (inb : ∀ a, (![0, 0, 0] : Fin 3 → ℕ) a + S1x256x128.size a ≤ S4x256x128.size a) (e : Fin 256) (d : Fin 128), View.ld (Val := Elt Ideal) (e' := .f32) (k0_pay2 (F := Ideal) (iblk m c 5 t)) (Rect.unit (s := S4x256x128) ![0, 0, 0] S1x256x128.size inb) (ix3 0 e d) = ST m c n.val s 0 d e := by
    intro inb e d
    rw [ld0_at, reset_at, hn]
    exact blk5 m c t s 0 e d (by omega)
  have l1 : ∀ (inb : ∀ a, (![1, 0, 0] : Fin 3 → ℕ) a + S1x256x128.size a ≤ S4x256x128.size a) (e : Fin 256) (d : Fin 128), View.ld (Val := Elt Ideal) (e' := .f32) (k0_pay2 (F := Ideal) (iblk m c 5 t)) (Rect.unit (s := S4x256x128) ![1, 0, 0] S1x256x128.size inb) (ix3 0 e d) = ST m c n.val s 1 d e := by
    intro inb e d
    rw [ld1_at, reset_at, hn]
    exact blk5 m c t s 1 e d (by omega)
  have l2 : ∀ (inb : ∀ a, (![2, 0, 0] : Fin 3 → ℕ) a + S1x256x128.size a ≤ S4x256x128.size a) (e : Fin 256) (d : Fin 128), View.ld (Val := Elt Ideal) (e' := .f32) (k0_pay2 (F := Ideal) (iblk m c 5 t)) (Rect.unit (s := S4x256x128) ![2, 0, 0] S1x256x128.size inb) (ix3 0 e d) = ST m c n.val s 2 d e := by
    intro inb e d
    rw [ld2_at, reset_at, hn]
    exact blk5 m c t s 2 e d (by omega)
  have l3 : ∀ (inb : ∀ a, (![3, 0, 0] : Fin 3 → ℕ) a + S1x256x128.size a ≤ S4x256x128.size a) (e : Fin 256) (d : Fin 128), View.ld (Val := Elt Ideal) (e' := .f32) (k0_pay2 (F := Ideal) (iblk m c 5 t)) (Rect.unit (s := S4x256x128) ![3, 0, 0] S1x256x128.size inb) (ix3 0 e d) = ST m c n.val s 3 d e := by
    intro inb e d
    rw [ld3_at, reset_at, hn]
    exact blk5 m c t s 3 e d (by omega)
  frame_out
  refine canon4 (fun k e d => ST m c (n.val + 1) s k d e) _ _ _ _ (s0_pt m c t s n ht _ ?_) (s1_pt m c t s n ht _ ?_)
    (s2_pt m c t s n ht _ ?_) (s3_pt m c t s n ht _ ?_) _ k e d
  · intro e d
    refine (congrFun (g := View.ld (Val := Elt Ideal) (e' := .f32) (k0_pay2 (F := Ideal) (iblk m c 5 t)) (Rect.unit (s := S4x256x128) ![0, 0, 0] S1x256x128.size (by decide))) ?_ _).trans (l0 _ e d)
    rw [View.readCov_fill _ _ _ _ _ (by decide)]
  · intro e d
    refine (congrFun (g := View.ld (Val := Elt Ideal) (e' := .f32) (k0_pay2 (F := Ideal) (iblk m c 5 t)) (Rect.unit (s := S4x256x128) ![1, 0, 0] S1x256x128.size (by decide))) ?_ _).trans (l1 _ e d)
    rw [View.readCov_skip _ _ _ _ _ (by decide), View.readCov_fill _ _ _ _ _ (by decide)]
  · intro e d
    refine (congrFun (g := View.ld (Val := Elt Ideal) (e' := .f32) (k0_pay2 (F := Ideal) (iblk m c 5 t)) (Rect.unit (s := S4x256x128) ![2, 0, 0] S1x256x128.size (by decide))) ?_ _).trans (l2 _ e d)
    rw [View.readCov_skip _ _ _ _ _ (by decide), View.readCov_skip _ _ _ _ _ (by decide), View.readCov_fill _ _ _ _ _ (by decide)]
  · intro e d
    refine (congrFun (g := View.ld (Val := Elt Ideal) (e' := .f32) (k0_pay2 (F := Ideal) (iblk m c 5 t)) (Rect.unit (s := S4x256x128) ![3, 0, 0] S1x256x128.size (by decide))) ?_ _).trans (l3 _ e d)
    rw [View.readCov_skip _ _ _ _ _ (by decide), View.readCov_skip _ _ _ _ _ (by decide), View.readCov_skip _ _ _ _ _ (by decide), View.readCov_fill _ _ _ _ _ (by decide)]

set_option maxHeartbeats 1000000 in
/-- The tokens at a sequence's first chunk. -/
theorem tokenA (h0 : t.val % 64 = 0) (h1 : ¬t.val % 64 = 63)  (k : Fin 4) (i : Fin 32) (e : Fin 256) (q : Fin 1024) (hq : q.val = k.val * 256 + e.val) :
    (outsAt0 m c t.val t.isLt).1 (ix2 i q) = YY m c n s k i e := by
  rw [outsAt0_A m c t h0 h1]
  have hn : n.val = 0 := by omega
  have l0 : ∀ (inb : ∀ a, (![0, 0, 0] : Fin 3 → ℕ) a + S1x256x128.size a ≤ S4x256x128.size a) (e : Fin 256) (d : Fin 128), View.ld (Val := Elt Ideal) (e' := .f32) (k0_pay2 (F := Ideal) (iblk m c 5 t)) (Rect.unit (s := S4x256x128) ![0, 0, 0] S1x256x128.size inb) (ix3 0 e d) = ST m c n.val s 0 d e := by
    intro inb e d
    rw [ld0_at, reset_at, hn]
    exact blk5 m c t s 0 e d (by omega)
  have l1 : ∀ (inb : ∀ a, (![1, 0, 0] : Fin 3 → ℕ) a + S1x256x128.size a ≤ S4x256x128.size a) (e : Fin 256) (d : Fin 128), View.ld (Val := Elt Ideal) (e' := .f32) (k0_pay2 (F := Ideal) (iblk m c 5 t)) (Rect.unit (s := S4x256x128) ![1, 0, 0] S1x256x128.size inb) (ix3 0 e d) = ST m c n.val s 1 d e := by
    intro inb e d
    rw [ld1_at, reset_at, hn]
    exact blk5 m c t s 1 e d (by omega)
  have l2 : ∀ (inb : ∀ a, (![2, 0, 0] : Fin 3 → ℕ) a + S1x256x128.size a ≤ S4x256x128.size a) (e : Fin 256) (d : Fin 128), View.ld (Val := Elt Ideal) (e' := .f32) (k0_pay2 (F := Ideal) (iblk m c 5 t)) (Rect.unit (s := S4x256x128) ![2, 0, 0] S1x256x128.size inb) (ix3 0 e d) = ST m c n.val s 2 d e := by
    intro inb e d
    rw [ld2_at, reset_at, hn]
    exact blk5 m c t s 2 e d (by omega)
  have l3 : ∀ (inb : ∀ a, (![3, 0, 0] : Fin 3 → ℕ) a + S1x256x128.size a ≤ S4x256x128.size a) (e : Fin 256) (d : Fin 128), View.ld (Val := Elt Ideal) (e' := .f32) (k0_pay2 (F := Ideal) (iblk m c 5 t)) (Rect.unit (s := S4x256x128) ![3, 0, 0] S1x256x128.size inb) (ix3 0 e d) = ST m c n.val s 3 d e := by
    intro inb e d
    rw [ld3_at, reset_at, hn]
    exact blk5 m c t s 3 e d (by omega)
  frame_out
  refine canonY (fun k i e => YY m c n s k i e) _ _ _ _ (y0_pt m c t s n ht _ ?_) (y1_pt m c t s n ht _ ?_)
    (y2_pt m c t s n ht _ ?_) (y3_pt m c t s n ht _ ?_) k i e q hq
  · intro e d
    refine (congrFun (g := View.ld (Val := Elt Ideal) (e' := .f32) (k0_pay2 (F := Ideal) (iblk m c 5 t)) (Rect.unit (s := S4x256x128) ![0, 0, 0] S1x256x128.size (by decide))) ?_ _).trans (l0 _ e d)
    rw [View.readCov_fill _ _ _ _ _ (by decide)]
  · intro e d
    refine (congrFun (g := View.ld (Val := Elt Ideal) (e' := .f32) (k0_pay2 (F := Ideal) (iblk m c 5 t)) (Rect.unit (s := S4x256x128) ![1, 0, 0] S1x256x128.size (by decide))) ?_ _).trans (l1 _ e d)
    rw [View.readCov_skip _ _ _ _ _ (by decide), View.readCov_fill _ _ _ _ _ (by decide)]
  · intro e d
    refine (congrFun (g := View.ld (Val := Elt Ideal) (e' := .f32) (k0_pay2 (F := Ideal) (iblk m c 5 t)) (Rect.unit (s := S4x256x128) ![2, 0, 0] S1x256x128.size (by decide))) ?_ _).trans (l2 _ e d)
    rw [View.readCov_skip _ _ _ _ _ (by decide), View.readCov_skip _ _ _ _ _ (by decide), View.readCov_fill _ _ _ _ _ (by decide)]
  · intro e d
    refine (congrFun (g := View.ld (Val := Elt Ideal) (e' := .f32) (k0_pay2 (F := Ideal) (iblk m c 5 t)) (Rect.unit (s := S4x256x128) ![3, 0, 0] S1x256x128.size (by decide))) ?_ _).trans (l3 _ e d)
    rw [View.readCov_skip _ _ _ _ _ (by decide), View.readCov_skip _ _ _ _ _ (by decide), View.readCov_skip _ _ _ _ _ (by decide), View.readCov_fill _ _ _ _ _ (by decide)]

set_option maxHeartbeats 1000000 in
/-- The carried state in a sequence's middle. -/
theorem stateB (h0 : ¬t.val % 64 = 0) (h1 : ¬t.val % 64 = 63) (hp : ∀ (k : Fin 4) (e : Fin 256) (d : Fin 128), (outsAt0 m c (t.val - 1) (Nat.lt_of_le_of_lt (Nat.sub_le t.val 1) t.isLt)).2.2 (ix3 k e d) = ST m c n.val s k d e) (k : Fin 4) (e : Fin 256) (d : Fin 128) :
    (outsAt0 m c t.val t.isLt).2.2 (ix3 k e d) = ST m c (n.val + 1) s k d e := by
  rw [outsAt0_B m c t h0 h1]
  have l0 : ∀ (inb : ∀ a, (![0, 0, 0] : Fin 3 → ℕ) a + S1x256x128.size a ≤ S4x256x128.size a) (e : Fin 256) (d : Fin 128), View.ld (View.read (Elt Ideal) (View.whole cc0_scratch0) ((Memref.isWhole_whole cc0_scratch0).unread (outsAt0 m c (t.val - 1) (Nat.lt_of_le_of_lt (Nat.sub_le t.val 1) t.isLt)).2.2))
      (Rect.unit (s := S4x256x128) ![0, 0, 0] S1x256x128.size inb) (ix3 0 e d) = ST m c n.val s 0 d e := by
    intro inb e d
    rw [ld0_at]
    exact (congrFun ((Memref.isWhole_whole cc0_scratch0).read_unread _) _).trans (hp 0 e d)
  have l1 : ∀ (inb : ∀ a, (![1, 0, 0] : Fin 3 → ℕ) a + S1x256x128.size a ≤ S4x256x128.size a) (e : Fin 256) (d : Fin 128), View.ld (View.read (Elt Ideal) (View.whole cc0_scratch0) ((Memref.isWhole_whole cc0_scratch0).unread (outsAt0 m c (t.val - 1) (Nat.lt_of_le_of_lt (Nat.sub_le t.val 1) t.isLt)).2.2))
      (Rect.unit (s := S4x256x128) ![1, 0, 0] S1x256x128.size inb) (ix3 0 e d) = ST m c n.val s 1 d e := by
    intro inb e d
    rw [ld1_at]
    exact (congrFun ((Memref.isWhole_whole cc0_scratch0).read_unread _) _).trans (hp 1 e d)
  have l2 : ∀ (inb : ∀ a, (![2, 0, 0] : Fin 3 → ℕ) a + S1x256x128.size a ≤ S4x256x128.size a) (e : Fin 256) (d : Fin 128), View.ld (View.read (Elt Ideal) (View.whole cc0_scratch0) ((Memref.isWhole_whole cc0_scratch0).unread (outsAt0 m c (t.val - 1) (Nat.lt_of_le_of_lt (Nat.sub_le t.val 1) t.isLt)).2.2))
      (Rect.unit (s := S4x256x128) ![2, 0, 0] S1x256x128.size inb) (ix3 0 e d) = ST m c n.val s 2 d e := by
    intro inb e d
    rw [ld2_at]
    exact (congrFun ((Memref.isWhole_whole cc0_scratch0).read_unread _) _).trans (hp 2 e d)
  have l3 : ∀ (inb : ∀ a, (![3, 0, 0] : Fin 3 → ℕ) a + S1x256x128.size a ≤ S4x256x128.size a) (e : Fin 256) (d : Fin 128), View.ld (View.read (Elt Ideal) (View.whole cc0_scratch0) ((Memref.isWhole_whole cc0_scratch0).unread (outsAt0 m c (t.val - 1) (Nat.lt_of_le_of_lt (Nat.sub_le t.val 1) t.isLt)).2.2))
      (Rect.unit (s := S4x256x128) ![3, 0, 0] S1x256x128.size inb) (ix3 0 e d) = ST m c n.val s 3 d e := by
    intro inb e d
    rw [ld3_at]
    exact (congrFun ((Memref.isWhole_whole cc0_scratch0).read_unread _) _).trans (hp 3 e d)
  frame_out
  exact canon4 (fun k e d => ST m c (n.val + 1) s k d e) _ _ _ _ (s0_pt m c t s n ht _ (l0 _)) (s1_pt m c t s n ht _ (l1 _))
    (s2_pt m c t s n ht _ (l2 _)) (s3_pt m c t s n ht _ (l3 _)) _ k e d

set_option maxHeartbeats 1000000 in
/-- The tokens in a sequence's middle. -/
theorem tokenB (h0 : ¬t.val % 64 = 0) (h1 : ¬t.val % 64 = 63) (hp : ∀ (k : Fin 4) (e : Fin 256) (d : Fin 128), (outsAt0 m c (t.val - 1) (Nat.lt_of_le_of_lt (Nat.sub_le t.val 1) t.isLt)).2.2 (ix3 k e d) = ST m c n.val s k d e) (k : Fin 4) (i : Fin 32) (e : Fin 256) (q : Fin 1024) (hq : q.val = k.val * 256 + e.val) :
    (outsAt0 m c t.val t.isLt).1 (ix2 i q) = YY m c n s k i e := by
  rw [outsAt0_B m c t h0 h1]
  have l0 : ∀ (inb : ∀ a, (![0, 0, 0] : Fin 3 → ℕ) a + S1x256x128.size a ≤ S4x256x128.size a) (e : Fin 256) (d : Fin 128), View.ld (View.read (Elt Ideal) (View.whole cc0_scratch0) ((Memref.isWhole_whole cc0_scratch0).unread (outsAt0 m c (t.val - 1) (Nat.lt_of_le_of_lt (Nat.sub_le t.val 1) t.isLt)).2.2))
      (Rect.unit (s := S4x256x128) ![0, 0, 0] S1x256x128.size inb) (ix3 0 e d) = ST m c n.val s 0 d e := by
    intro inb e d
    rw [ld0_at]
    exact (congrFun ((Memref.isWhole_whole cc0_scratch0).read_unread _) _).trans (hp 0 e d)
  have l1 : ∀ (inb : ∀ a, (![1, 0, 0] : Fin 3 → ℕ) a + S1x256x128.size a ≤ S4x256x128.size a) (e : Fin 256) (d : Fin 128), View.ld (View.read (Elt Ideal) (View.whole cc0_scratch0) ((Memref.isWhole_whole cc0_scratch0).unread (outsAt0 m c (t.val - 1) (Nat.lt_of_le_of_lt (Nat.sub_le t.val 1) t.isLt)).2.2))
      (Rect.unit (s := S4x256x128) ![1, 0, 0] S1x256x128.size inb) (ix3 0 e d) = ST m c n.val s 1 d e := by
    intro inb e d
    rw [ld1_at]
    exact (congrFun ((Memref.isWhole_whole cc0_scratch0).read_unread _) _).trans (hp 1 e d)
  have l2 : ∀ (inb : ∀ a, (![2, 0, 0] : Fin 3 → ℕ) a + S1x256x128.size a ≤ S4x256x128.size a) (e : Fin 256) (d : Fin 128), View.ld (View.read (Elt Ideal) (View.whole cc0_scratch0) ((Memref.isWhole_whole cc0_scratch0).unread (outsAt0 m c (t.val - 1) (Nat.lt_of_le_of_lt (Nat.sub_le t.val 1) t.isLt)).2.2))
      (Rect.unit (s := S4x256x128) ![2, 0, 0] S1x256x128.size inb) (ix3 0 e d) = ST m c n.val s 2 d e := by
    intro inb e d
    rw [ld2_at]
    exact (congrFun ((Memref.isWhole_whole cc0_scratch0).read_unread _) _).trans (hp 2 e d)
  have l3 : ∀ (inb : ∀ a, (![3, 0, 0] : Fin 3 → ℕ) a + S1x256x128.size a ≤ S4x256x128.size a) (e : Fin 256) (d : Fin 128), View.ld (View.read (Elt Ideal) (View.whole cc0_scratch0) ((Memref.isWhole_whole cc0_scratch0).unread (outsAt0 m c (t.val - 1) (Nat.lt_of_le_of_lt (Nat.sub_le t.val 1) t.isLt)).2.2))
      (Rect.unit (s := S4x256x128) ![3, 0, 0] S1x256x128.size inb) (ix3 0 e d) = ST m c n.val s 3 d e := by
    intro inb e d
    rw [ld3_at]
    exact (congrFun ((Memref.isWhole_whole cc0_scratch0).read_unread _) _).trans (hp 3 e d)
  frame_out
  exact canonY (fun k i e => YY m c n s k i e) _ _ _ _ (y0_pt m c t s n ht _ (l0 _)) (y1_pt m c t s n ht _ (l1 _))
    (y2_pt m c t s n ht _ (l2 _)) (y3_pt m c t s n ht _ (l3 _)) k i e q hq

set_option maxHeartbeats 1000000 in
/-- The carried state at a sequence's last chunk. -/
theorem stateC (h0 : ¬t.val % 64 = 0) (h1 : t.val % 64 = 63) (hp : ∀ (k : Fin 4) (e : Fin 256) (d : Fin 128), (outsAt0 m c (t.val - 1) (Nat.lt_of_le_of_lt (Nat.sub_le t.val 1) t.isLt)).2.2 (ix3 k e d) = ST m c n.val s k d e) (k : Fin 4) (e : Fin 256) (d : Fin 128) :
    (outsAt0 m c t.val t.isLt).2.2 (ix3 k e d) = ST m c (n.val + 1) s k d e := by
  rw [outsAt0_C m c t h0 h1]
  have l0 : ∀ (inb : ∀ a, (![0, 0, 0] : Fin 3 → ℕ) a + S1x256x128.size a ≤ S4x256x128.size a) (e : Fin 256) (d : Fin 128), View.ld (View.read (Elt Ideal) (View.whole cc0_scratch0) ((Memref.isWhole_whole cc0_scratch0).unread (outsAt0 m c (t.val - 1) (Nat.lt_of_le_of_lt (Nat.sub_le t.val 1) t.isLt)).2.2))
      (Rect.unit (s := S4x256x128) ![0, 0, 0] S1x256x128.size inb) (ix3 0 e d) = ST m c n.val s 0 d e := by
    intro inb e d
    rw [ld0_at]
    exact (congrFun ((Memref.isWhole_whole cc0_scratch0).read_unread _) _).trans (hp 0 e d)
  have l1 : ∀ (inb : ∀ a, (![1, 0, 0] : Fin 3 → ℕ) a + S1x256x128.size a ≤ S4x256x128.size a) (e : Fin 256) (d : Fin 128), View.ld (View.read (Elt Ideal) (View.whole cc0_scratch0) ((Memref.isWhole_whole cc0_scratch0).unread (outsAt0 m c (t.val - 1) (Nat.lt_of_le_of_lt (Nat.sub_le t.val 1) t.isLt)).2.2))
      (Rect.unit (s := S4x256x128) ![1, 0, 0] S1x256x128.size inb) (ix3 0 e d) = ST m c n.val s 1 d e := by
    intro inb e d
    rw [ld1_at]
    exact (congrFun ((Memref.isWhole_whole cc0_scratch0).read_unread _) _).trans (hp 1 e d)
  have l2 : ∀ (inb : ∀ a, (![2, 0, 0] : Fin 3 → ℕ) a + S1x256x128.size a ≤ S4x256x128.size a) (e : Fin 256) (d : Fin 128), View.ld (View.read (Elt Ideal) (View.whole cc0_scratch0) ((Memref.isWhole_whole cc0_scratch0).unread (outsAt0 m c (t.val - 1) (Nat.lt_of_le_of_lt (Nat.sub_le t.val 1) t.isLt)).2.2))
      (Rect.unit (s := S4x256x128) ![2, 0, 0] S1x256x128.size inb) (ix3 0 e d) = ST m c n.val s 2 d e := by
    intro inb e d
    rw [ld2_at]
    exact (congrFun ((Memref.isWhole_whole cc0_scratch0).read_unread _) _).trans (hp 2 e d)
  have l3 : ∀ (inb : ∀ a, (![3, 0, 0] : Fin 3 → ℕ) a + S1x256x128.size a ≤ S4x256x128.size a) (e : Fin 256) (d : Fin 128), View.ld (View.read (Elt Ideal) (View.whole cc0_scratch0) ((Memref.isWhole_whole cc0_scratch0).unread (outsAt0 m c (t.val - 1) (Nat.lt_of_le_of_lt (Nat.sub_le t.val 1) t.isLt)).2.2))
      (Rect.unit (s := S4x256x128) ![3, 0, 0] S1x256x128.size inb) (ix3 0 e d) = ST m c n.val s 3 d e := by
    intro inb e d
    rw [ld3_at]
    exact (congrFun ((Memref.isWhole_whole cc0_scratch0).read_unread _) _).trans (hp 3 e d)
  frame_out
  exact canon4 (fun k e d => ST m c (n.val + 1) s k d e) _ _ _ _ (s0_pt m c t s n ht _ (l0 _)) (s1_pt m c t s n ht _ (l1 _))
    (s2_pt m c t s n ht _ (l2 _)) (s3_pt m c t s n ht _ (l3 _)) _ k e d

set_option maxHeartbeats 1000000 in
/-- The tokens at a sequence's last chunk. -/
theorem tokenC (h0 : ¬t.val % 64 = 0) (h1 : t.val % 64 = 63) (hp : ∀ (k : Fin 4) (e : Fin 256) (d : Fin 128), (outsAt0 m c (t.val - 1) (Nat.lt_of_le_of_lt (Nat.sub_le t.val 1) t.isLt)).2.2 (ix3 k e d) = ST m c n.val s k d e) (k : Fin 4) (i : Fin 32) (e : Fin 256) (q : Fin 1024) (hq : q.val = k.val * 256 + e.val) :
    (outsAt0 m c t.val t.isLt).1 (ix2 i q) = YY m c n s k i e := by
  rw [outsAt0_C m c t h0 h1]
  have l0 : ∀ (inb : ∀ a, (![0, 0, 0] : Fin 3 → ℕ) a + S1x256x128.size a ≤ S4x256x128.size a) (e : Fin 256) (d : Fin 128), View.ld (View.read (Elt Ideal) (View.whole cc0_scratch0) ((Memref.isWhole_whole cc0_scratch0).unread (outsAt0 m c (t.val - 1) (Nat.lt_of_le_of_lt (Nat.sub_le t.val 1) t.isLt)).2.2))
      (Rect.unit (s := S4x256x128) ![0, 0, 0] S1x256x128.size inb) (ix3 0 e d) = ST m c n.val s 0 d e := by
    intro inb e d
    rw [ld0_at]
    exact (congrFun ((Memref.isWhole_whole cc0_scratch0).read_unread _) _).trans (hp 0 e d)
  have l1 : ∀ (inb : ∀ a, (![1, 0, 0] : Fin 3 → ℕ) a + S1x256x128.size a ≤ S4x256x128.size a) (e : Fin 256) (d : Fin 128), View.ld (View.read (Elt Ideal) (View.whole cc0_scratch0) ((Memref.isWhole_whole cc0_scratch0).unread (outsAt0 m c (t.val - 1) (Nat.lt_of_le_of_lt (Nat.sub_le t.val 1) t.isLt)).2.2))
      (Rect.unit (s := S4x256x128) ![1, 0, 0] S1x256x128.size inb) (ix3 0 e d) = ST m c n.val s 1 d e := by
    intro inb e d
    rw [ld1_at]
    exact (congrFun ((Memref.isWhole_whole cc0_scratch0).read_unread _) _).trans (hp 1 e d)
  have l2 : ∀ (inb : ∀ a, (![2, 0, 0] : Fin 3 → ℕ) a + S1x256x128.size a ≤ S4x256x128.size a) (e : Fin 256) (d : Fin 128), View.ld (View.read (Elt Ideal) (View.whole cc0_scratch0) ((Memref.isWhole_whole cc0_scratch0).unread (outsAt0 m c (t.val - 1) (Nat.lt_of_le_of_lt (Nat.sub_le t.val 1) t.isLt)).2.2))
      (Rect.unit (s := S4x256x128) ![2, 0, 0] S1x256x128.size inb) (ix3 0 e d) = ST m c n.val s 2 d e := by
    intro inb e d
    rw [ld2_at]
    exact (congrFun ((Memref.isWhole_whole cc0_scratch0).read_unread _) _).trans (hp 2 e d)
  have l3 : ∀ (inb : ∀ a, (![3, 0, 0] : Fin 3 → ℕ) a + S1x256x128.size a ≤ S4x256x128.size a) (e : Fin 256) (d : Fin 128), View.ld (View.read (Elt Ideal) (View.whole cc0_scratch0) ((Memref.isWhole_whole cc0_scratch0).unread (outsAt0 m c (t.val - 1) (Nat.lt_of_le_of_lt (Nat.sub_le t.val 1) t.isLt)).2.2))
      (Rect.unit (s := S4x256x128) ![3, 0, 0] S1x256x128.size inb) (ix3 0 e d) = ST m c n.val s 3 d e := by
    intro inb e d
    rw [ld3_at]
    exact (congrFun ((Memref.isWhole_whole cc0_scratch0).read_unread _) _).trans (hp 3 e d)
  frame_out
  exact canonY (fun k i e => YY m c n s k i e) _ _ _ _ (y0_pt m c t s n ht _ (l0 _)) (y1_pt m c t s n ht _ (l1 _))
    (y2_pt m c t s n ht _ (l2 _)) (y3_pt m c t s n ht _ (l3 _)) k i e q hq

set_option maxHeartbeats 1000000 in
/-- The state written out at a sequence's last chunk. -/
theorem flushC (h0 : ¬t.val % 64 = 0) (h1 : t.val % 64 = 63) (hp : ∀ (k : Fin 4) (e : Fin 256) (d : Fin 128), (outsAt0 m c (t.val - 1) (Nat.lt_of_le_of_lt (Nat.sub_le t.val 1) t.isLt)).2.2 (ix3 k e d) = ST m c n.val s k d e) (k : Fin 4) (e : Fin 256) (d : Fin 128) :
    (outsAt0 m c t.val t.isLt).2.1 (ix4 0 k e d) = ST m c (n.val + 1) s k d e := by
  rw [outsAt0_C m c t h0 h1]
  have l0 : ∀ (inb : ∀ a, (![0, 0, 0] : Fin 3 → ℕ) a + S1x256x128.size a ≤ S4x256x128.size a) (e : Fin 256) (d : Fin 128), View.ld (View.read (Elt Ideal) (View.whole cc0_scratch0) ((Memref.isWhole_whole cc0_scratch0).unread (outsAt0 m c (t.val - 1) (Nat.lt_of_le_of_lt (Nat.sub_le t.val 1) t.isLt)).2.2))
      (Rect.unit (s := S4x256x128) ![0, 0, 0] S1x256x128.size inb) (ix3 0 e d) = ST m c n.val s 0 d e := by
    intro inb e d
    rw [ld0_at]
    exact (congrFun ((Memref.isWhole_whole cc0_scratch0).read_unread _) _).trans (hp 0 e d)
  have l1 : ∀ (inb : ∀ a, (![1, 0, 0] : Fin 3 → ℕ) a + S1x256x128.size a ≤ S4x256x128.size a) (e : Fin 256) (d : Fin 128), View.ld (View.read (Elt Ideal) (View.whole cc0_scratch0) ((Memref.isWhole_whole cc0_scratch0).unread (outsAt0 m c (t.val - 1) (Nat.lt_of_le_of_lt (Nat.sub_le t.val 1) t.isLt)).2.2))
      (Rect.unit (s := S4x256x128) ![1, 0, 0] S1x256x128.size inb) (ix3 0 e d) = ST m c n.val s 1 d e := by
    intro inb e d
    rw [ld1_at]
    exact (congrFun ((Memref.isWhole_whole cc0_scratch0).read_unread _) _).trans (hp 1 e d)
  have l2 : ∀ (inb : ∀ a, (![2, 0, 0] : Fin 3 → ℕ) a + S1x256x128.size a ≤ S4x256x128.size a) (e : Fin 256) (d : Fin 128), View.ld (View.read (Elt Ideal) (View.whole cc0_scratch0) ((Memref.isWhole_whole cc0_scratch0).unread (outsAt0 m c (t.val - 1) (Nat.lt_of_le_of_lt (Nat.sub_le t.val 1) t.isLt)).2.2))
      (Rect.unit (s := S4x256x128) ![2, 0, 0] S1x256x128.size inb) (ix3 0 e d) = ST m c n.val s 2 d e := by
    intro inb e d
    rw [ld2_at]
    exact (congrFun ((Memref.isWhole_whole cc0_scratch0).read_unread _) _).trans (hp 2 e d)
  have l3 : ∀ (inb : ∀ a, (![3, 0, 0] : Fin 3 → ℕ) a + S1x256x128.size a ≤ S4x256x128.size a) (e : Fin 256) (d : Fin 128), View.ld (View.read (Elt Ideal) (View.whole cc0_scratch0) ((Memref.isWhole_whole cc0_scratch0).unread (outsAt0 m c (t.val - 1) (Nat.lt_of_le_of_lt (Nat.sub_le t.val 1) t.isLt)).2.2))
      (Rect.unit (s := S4x256x128) ![3, 0, 0] S1x256x128.size inb) (ix3 0 e d) = ST m c n.val s 3 d e := by
    intro inb e d
    rw [ld3_at]
    exact (congrFun ((Memref.isWhole_whole cc0_scratch0).read_unread _) _).trans (hp 3 e d)
  frame_out
  rw [flush_at, View.readCov_eq_canon']
  have e0 : ∀ (inb : ∀ a, (![0, 0, 0] : Fin 3 → ℕ) a + S4x256x128.size a ≤ S4x256x128.size a), (Rect.unit (s := S4x256x128) ![0, 0, 0] S4x256x128.size inb).toLoadRect.idx (ix3 k e d) = ix3 k e d := by
    intro inb
    funext a
    refine Fin.ext ?_
    match a with
    | ⟨0, _⟩ => exact (Nat.zero_add _).trans (Nat.one_mul _)
    | ⟨1, _⟩ => exact (Nat.zero_add _).trans (Nat.one_mul _)
    | ⟨2, _⟩ => exact (Nat.zero_add _).trans (Nat.one_mul _)
  refine (congrArg _ (e0 _)).trans ?_
  exact canon4 (fun k e d => ST m c (n.val + 1) s k d e) _ _ _ _ (s0_pt m c t s n ht _ (l0 _)) (s1_pt m c t s n ht _ (l1 _))
    (s2_pt m c t s n ht _ (l2 _)) (s3_pt m c t s n ht _ (l3 _)) _ k e d

end point

end Cert.GlaIdeal.Hand
-- ==== Proof.GlaValue.lean ====
/- The gated linear attention: the kernel's results are the reference's. -/
module

public import proofs.«01_k».proof.Proof.GlaSteps
public import proofs.«01_k».proof.Defs

@[expose] public section

set_option maxRecDepth 16384

noncomputable section

namespace Cert.GlaIdeal.Hand

open Idealize.ShloMosaic Idealize.ShloMosaic.TcCoe Idealize.SL.Sem Idealize.ShloMosaic.StableHlo
open Idealize.ShloMosaic.Pipeline (Dat)
open Cert.GlaIdeal Cert.GlaIdeal.Gen Cert.GlaIdeal.Value
open Cert.GlaRefIdeal.Hand (row kcol gk gs pre kk vv qd at' kd gl st oo gx yy chunk)

section spec

variable (z : FVec Ideal S8192x15360 .f32) (zs : FVec Ideal S8192x128 .f32) (w : FVec Ideal S16x512 .f32) (b : FVec Ideal S512 .f32)
  (nw : FVec Ideal S256 .f32) (s0 : FVec Ideal S4x4x128x256 .f32)

/-- The tokens, as one array. -/
def tokens : S8192x1024.Idx → EReal := fun i =>
  have h0 : (i 0).val < 8192 := (i 0).isLt
  have h1 : (i 1).val < 1024 := (i 1).isLt
  yy z zs w b nw s0 ⟨(i 0).val % 2048 / 32, by omega⟩ ⟨(i 0).val / 2048, by omega⟩ ⟨(i 1).val / 256, by omega⟩
    ⟨(i 0).val % 32, by omega⟩ ⟨(i 1).val % 256, by omega⟩

/-- The final states, as one array. -/
def states : S4x4x256x128.Idx → EReal := fun i => st z zs w b s0 64 (i 0) (i 1) (i 3) (i 2)

end spec

variable (m : (ℓ : Loc nD τ sig) → Buf (Elt Ideal) ℓ)

/-- The recursion does not see how its bound is written. -/
theorem outs_congr (c : Dev nD) (a b : ℕ) (ha : a < cfg0.N) (hb : b < cfg0.N) (e : a = b) : outsAt0 m c a ha = outsAt0 m c b hb := by
  subst e; rfl

/-- After every grid point the carried state is the reference's after as many chunks. -/
theorem carried (c : Dev nD) (s : Fin 4) : ∀ (n : ℕ) (hn : n < 64) (t : Fin cfg0.N) (ht : t.val = s.val * 64 + n) (k : Fin 4) (e : Fin 256) (d : Fin 128),
    (outsAt0 m c t.val t.isLt).2.2 (ix3 k e d) = ST m c (n + 1) s k d e
  | 0, hn, t, ht, k, e, d => stateA m c t s ⟨0, hn⟩ ht (by omega) (by omega) k e d
  | n + 1, hn, t, ht, k, e, d => by
    have hp : ∀ (k : Fin 4) (e : Fin 256) (d : Fin 128), (outsAt0 m c (t.val - 1) (Nat.lt_of_le_of_lt (Nat.sub_le t.val 1) t.isLt)).2.2 (ix3 k e d) = ST m c (n + 1) s k d e :=
      carried c s n (by omega) ⟨t.val - 1, Nat.lt_of_le_of_lt (Nat.sub_le t.val 1) t.isLt⟩ (by show t.val - 1 = _; omega)
    by_cases h1 : t.val % 64 = 63
    · exact stateC m c t s ⟨n + 1, hn⟩ ht (by omega) h1 hp k e d
    · exact stateB m c t s ⟨n + 1, hn⟩ ht (by omega) h1 hp k e d

/-- What a later point of a sequence reads back. -/
theorem before (c : Dev nD) (s : Fin 4) (n : Fin 64) (t : Fin cfg0.N) (ht : t.val = s.val * 64 + n.val) (h0 : ¬t.val % 64 = 0) (k : Fin 4) (e : Fin 256) (d : Fin 128) :
    (outsAt0 m c (t.val - 1) (Nat.lt_of_le_of_lt (Nat.sub_le t.val 1) t.isLt)).2.2 (ix3 k e d) = ST m c n.val s k d e := by
  have := carried m c s (n.val - 1) (by omega) ⟨t.val - 1, Nat.lt_of_le_of_lt (Nat.sub_le t.val 1) t.isLt⟩ (by show t.val - 1 = _; omega) k e d
  rwa [show n.val - 1 + 1 = n.val by omega] at this

/-- Every grid point's tokens are the reference's. -/
theorem token (c : Dev nD) (s : Fin 4) (n : Fin 64) (t : Fin cfg0.N) (ht : t.val = s.val * 64 + n.val) (k : Fin 4) (i : Fin 32) (e : Fin 256) (q : Fin 1024) (hq : q.val = k.val * 256 + e.val) :
    (outsAt0 m c t.val t.isLt).1 (ix2 i q) = YY m c n s k i e := by
  by_cases h0 : t.val % 64 = 0
  · exact tokenA m c t s n ht h0 (by omega) k i e q hq
  · by_cases h1 : t.val % 64 = 63
    · exact tokenC m c t s n ht h0 h1 (before m c s n t ht h0) k i e q hq
    · exact tokenB m c t s n ht h0 h1 (before m c s n t ht h0) k i e q hq

theorem N_eq : cfg0.N = 256 := N_0

/-- The kernel's tokens. -/
theorem tokens_eq (c : Dev nD) : G6 (F := Ideal) m c = tokens (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) := by
  funext i
  have a0 : (i 0).val < 8192 := (i 0).isLt
  have a1 : (i 1).val < 1024 := (i 1).isLt
  have hN := N_eq
  have hp : pt6Of i < cfg0.N := by
    show 1 * ((i 0).val / 32 - 0) + 1 * ((i 1).val / 1024 - 0) < cfg0.N
    omega
  unfold G6
  rw [dif_pos hp, ← outsAt0_sweep m c (pt6Of i) hp]
  have el : loc6Of i = ix2 (⟨(i 0).val % 32, by omega⟩ : Fin 32) (⟨(i 1).val % 1024, by omega⟩ : Fin 1024) := by
    funext a
    match a with
    | ⟨0, _⟩ => rfl
    | ⟨1, _⟩ => rfl
  rw [el]
  exact token m c ⟨(i 0).val / 2048, by omega⟩ ⟨(i 0).val % 2048 / 32, by omega⟩ ⟨pt6Of i, hp⟩
    (by show 1 * ((i 0).val / 32 - 0) + 1 * ((i 1).val / 1024 - 0) = (i 0).val / 2048 * 64 + (i 0).val % 2048 / 32; omega)
    ⟨(i 1).val / 256, by omega⟩ ⟨(i 0).val % 32, by omega⟩ ⟨(i 1).val % 256, by omega⟩ ⟨(i 1).val % 1024, by omega⟩
    (by show (i 1).val % 1024 = (i 1).val / 256 * 256 + (i 1).val % 256; omega)

/-- The kernel's final states. -/
theorem states_eq (c : Dev nD) : G7 (F := Ideal) m c = states (m ((c : Thread nD τ).loc main_arg0)) (m ((c : Thread nD τ).loc main_arg1)) (m ((c : Thread nD τ).loc main_arg2))
    (m ((c : Thread nD τ).loc main_arg3)) (m ((c : Thread nD τ).loc main_arg5)) := by
  funext i
  have a0 : (i 0).val < 4 := (i 0).isLt
  have a1 : (i 1).val < 4 := (i 1).isLt
  have a2 : (i 2).val < 256 := (i 2).isLt
  have a3 : (i 3).val < 128 := (i 3).isLt
  have hN := N_eq
  have e7 : pt7Of i = (i 0).val * 64 + 63 := by
    show 64 * (1 * ((i 0).val / 1 - 0) + 1 * ((i 1).val / 4 - 0) + 1 * ((i 2).val / 256 - 0) + 1 * ((i 3).val / 128 - 0)) + 63 = _
    omega
  have hp : pt7Of i < cfg0.N := by omega
  unfold G7
  rw [dif_pos hp, ← outsAt0_sweep m c (pt7Of i) hp]
  have el : loc7Of i = ix4 (0 : Fin 1) (i 1) (i 2) (i 3) := by
    funext a
    refine Fin.ext ?_
    match a with
    | ⟨0, _⟩ => exact Nat.mod_one _
    | ⟨1, _⟩ => exact Nat.mod_eq_of_lt a1
    | ⟨2, _⟩ => exact Nat.mod_eq_of_lt a2
    | ⟨3, _⟩ => exact Nat.mod_eq_of_lt a3
  rw [el]
  have h0 : ¬pt7Of i % 64 = 0 := by omega
  exact flushC m c ⟨pt7Of i, hp⟩ (i 0) 63 e7 h0 (by show pt7Of i % 64 = 63; omega) (before m c (i 0) 63 ⟨pt7Of i, hp⟩ e7 h0) (i 1) (i 2) (i 3)

/-- The kernel's run. -/
theorem ker_run (ρ : Dev nD → PrngReg) : θ_run defs (onTc (τ := τ) (main (F := Ideal))) ⟨m, fun _ => 0, ρ⟩ fun r => ∀ c : Dev nD,
      r.2.mem ((c : Thread nD τ).loc main_v7_0) = tokens (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
      ∧ r.2.mem ((c : Thread nD τ).loc main_v7_1) = states (m ((c : Thread nD τ).loc main_arg0)) (m ((c : Thread nD τ).loc main_arg1)) (m ((c : Thread nD τ).loc main_arg2))
          (m ((c : Thread nD τ).loc main_arg3)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (tokens_eq m c), (h c).2.1.trans (states_eq m c), (h c).2.2⟩) (Cert.GlaIdeal.Value.run m ρ)

section ref

variable (m' : (ℓ : Loc Cert.GlaRefIdeal.nD Cert.GlaRefIdeal.τ Cert.GlaRefIdeal.sig) → Buf (Elt Ideal) ℓ)

/-- The reference's memory after the loop. -/
abbrev After (c : Dev Cert.GlaRefIdeal.nD) :=
  Cert.GlaRefIdeal.Value.STEP^[64] (entryContents (F := Ideal) Cert.GlaRefIdeal.Value.preI m' c)

/-- The reference's tokens. -/
theorem ref_tokens (c : Dev Cert.GlaRefIdeal.nD) : Cert.GlaRefIdeal.Value.out_main_v88 (F := Ideal) (After m' c)
    = tokens (m' ((c.tc : Thread _ _).loc Cert.GlaRefIdeal.main_arg0)) (m' ((c.tc : Thread _ _).loc Cert.GlaRefIdeal.main_arg1)) (m' ((c.tc : Thread _ _).loc Cert.GlaRefIdeal.main_arg2))
        (m' ((c.tc : Thread _ _).loc Cert.GlaRefIdeal.main_arg3)) (m' ((c.tc : Thread _ _).loc Cert.GlaRefIdeal.main_arg4)) (m' ((c.tc : Thread _ _).loc Cert.GlaRefIdeal.main_arg5)) := by
  obtain ⟨x6, x7, h6, h7, _, _, _, _, _, _, hs, ho⟩ := Cert.GlaRefIdeal.Hand.inv_all m' c 64 le_rfl
  funext i
  have a0 : (i 0).val < 8192 := (i 0).isLt
  have a1 : (i 1).val < 1024 := (i 1).isLt
  have ei : i = ix2 (row ⟨(i 0).val / 2048, by omega⟩ ⟨(i 0).val % 2048 / 32, by omega⟩ ⟨(i 0).val % 32, by omega⟩)
      (⟨(⟨(i 1).val / 256, by omega⟩ : Fin 4).val * 256 + (⟨(i 1).val % 256, by omega⟩ : Fin 256).val, by dsimp only; omega⟩ : Fin 1024) := by
    funext a
    refine Fin.ext ?_
    match a with
    | ⟨0, _⟩ => show (i 0).val = (i 0).val / 2048 * 2048 + ((i 0).val % 2048 / 32 * 32 + (i 0).val % 32); omega
    | ⟨1, _⟩ => show (i 1).val = (i 1).val / 256 * 256 + (i 1).val % 256; omega
  refine (congrArg _ ei).trans ?_
  exact Cert.GlaRefIdeal.Hand.out88_at _ _ _ _ _ _ _ x7 h7 (Cert.GlaRefIdeal.Value.iter_main_arg4 m' c 64) (Cert.GlaRefIdeal.Value.iter_main_arg0 m' c 64)
    (fun n s h i e => ho n s h i e n.isLt) _ _ _ _ _

/-- The reference's final states. -/
theorem ref_states (c : Dev Cert.GlaRefIdeal.nD) : Cert.GlaRefIdeal.Value.out_main_v89 (F := Ideal) (After m' c)
    = states (m' ((c.tc : Thread _ _).loc Cert.GlaRefIdeal.main_arg0)) (m' ((c.tc : Thread _ _).loc Cert.GlaRefIdeal.main_arg1)) (m' ((c.tc : Thread _ _).loc Cert.GlaRefIdeal.main_arg2))
        (m' ((c.tc : Thread _ _).loc Cert.GlaRefIdeal.main_arg3)) (m' ((c.tc : Thread _ _).loc Cert.GlaRefIdeal.main_arg5)) := by
  obtain ⟨x6, x7, h6, h7, _, _, _, _, _, _, hs, ho⟩ := Cert.GlaRefIdeal.Hand.inv_all m' c 64 le_rfl
  funext i
  have ei : i = ix4 (i 0) (i 1) (i 2) (i 3) := by
    funext a
    match a with
    | ⟨0, _⟩ => rfl
    | ⟨1, _⟩ => rfl
    | ⟨2, _⟩ => rfl
    | ⟨3, _⟩ => rfl
  refine (congrArg _ ei).trans ?_
  exact (Cert.GlaRefIdeal.Hand.out89_at _ x6 h6 (i 0) (i 1) (i 2) (i 3)).trans (hs _ _ _ _)

/-- The reference's run. -/
theorem ref_run (g' : Dev Cert.GlaRefIdeal.nD → PrngReg) :
    θ_run Cert.GlaRefIdeal.defs (onTc (τ := Cert.GlaRefIdeal.τ) (Cert.GlaRefIdeal.main (F := Ideal))) ⟨m', fun _ => 0, g'⟩
      fun r => ∀ c : Dev Cert.GlaRefIdeal.nD,
        r.2.mem ((c.tc : Thread _ _).loc Cert.GlaRefIdeal.main_v88)
          = tokens (m' ((c.tc : Thread _ _).loc Cert.GlaRefIdeal.main_arg0)) (m' ((c.tc : Thread _ _).loc Cert.GlaRefIdeal.main_arg1)) (m' ((c.tc : Thread _ _).loc Cert.GlaRefIdeal.main_arg2))
              (m' ((c.tc : Thread _ _).loc Cert.GlaRefIdeal.main_arg3)) (m' ((c.tc : Thread _ _).loc Cert.GlaRefIdeal.main_arg4)) (m' ((c.tc : Thread _ _).loc Cert.GlaRefIdeal.main_arg5))
        ∧ r.2.mem ((c.tc : Thread _ _).loc Cert.GlaRefIdeal.main_v89)
          = states (m' ((c.tc : Thread _ _).loc Cert.GlaRefIdeal.main_arg0)) (m' ((c.tc : Thread _ _).loc Cert.GlaRefIdeal.main_arg1)) (m' ((c.tc : Thread _ _).loc Cert.GlaRefIdeal.main_arg2))
              (m' ((c.tc : Thread _ _).loc Cert.GlaRefIdeal.main_arg3)) (m' ((c.tc : Thread _ _).loc Cert.GlaRefIdeal.main_arg5))
        ∧ r.2.mem ((c.tc : Thread _ _).loc Cert.GlaRefIdeal.main_arg0) = m' ((c.tc : Thread _ _).loc Cert.GlaRefIdeal.main_arg0)
        ∧ r.2.mem ((c.tc : Thread _ _).loc Cert.GlaRefIdeal.main_arg1) = m' ((c.tc : Thread _ _).loc Cert.GlaRefIdeal.main_arg1)
        ∧ r.2.mem ((c.tc : Thread _ _).loc Cert.GlaRefIdeal.main_arg2) = m' ((c.tc : Thread _ _).loc Cert.GlaRefIdeal.main_arg2)
        ∧ r.2.mem ((c.tc : Thread _ _).loc Cert.GlaRefIdeal.main_arg3) = m' ((c.tc : Thread _ _).loc Cert.GlaRefIdeal.main_arg3)
        ∧ r.2.mem ((c.tc : Thread _ _).loc Cert.GlaRefIdeal.main_arg4) = m' ((c.tc : Thread _ _).loc Cert.GlaRefIdeal.main_arg4)
        ∧ r.2.mem ((c.tc : Thread _ _).loc Cert.GlaRefIdeal.main_arg5) = m' ((c.tc : Thread _ _).loc Cert.GlaRefIdeal.main_arg5) :=
  (θ_run _ _ _).mono (fun r h c => ⟨(h c).1.trans (ref_tokens m' c), (h c).2.1.trans (ref_states m' c), (h c).2.2⟩) (Cert.GlaRefIdeal.Value.run m' g')

end ref

/-- The gated linear attention: the kernel and the reference end with equal tokens and equal final states. -/
theorem algebraic : Cert.algebraic_GlaIdeal_GlaRefIdeal := by
  pair_intro
  · run_from ker_run m g
  · run_from ref_run m' g'

end Cert.GlaIdeal.Hand

end
-- ==== Proof.MergeValue.lean ====
module

public import proofs.«01_k».proof.Proof.Gen.MergeIdeal.Value
public import proofs.«01_k».proof.Proof.Gen.MergeRefIdeal.Read
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

namespace Cert.MergeIdeal.Hand

open Idealize.ShloMosaic Idealize.ShloMosaic.TcCoe Idealize.SL.Sem
open Idealize.ShloMosaic.Pipeline (Dat)
open Cert.MergeIdeal Cert.MergeIdeal.Gen
open Cert.MergeRefIdeal.Read

variable (m : (ℓ : Loc nD τ sig) → Buf (Elt Ideal) ℓ)

/-- Which block each window shows at a grid point: row panel `g0` of the activations and of the four branches, column
    panel `g1` of each of the four gate weights and of the branch weights, tile `(g0, g1)` of the result. -/
theorem maps : ∀ t : Fin cfg0.N, win0_0.index t = ![(grid0.coords t 0).val, 0]
    ∧ win0_1.index t = ![(grid0.coords t 0).val, 0]
    ∧ win0_2.index t = ![(grid0.coords t 0).val, 0]
    ∧ win0_3.index t = ![(grid0.coords t 0).val, 0]
    ∧ win0_4.index t = ![(grid0.coords t 0).val, 0]
    ∧ win0_5.index t = ![0, (grid0.coords t 1).val]
    ∧ win0_6.index t = ![0, 16 + (grid0.coords t 1).val]
    ∧ win0_7.index t = ![0, 32 + (grid0.coords t 1).val]
    ∧ win0_8.index t = ![0, 48 + (grid0.coords t 1).val]
    ∧ win0_9.index t = ![0, 0, (grid0.coords t 1).val]
    ∧ win0_10.index t = ![(grid0.coords t 0).val, (grid0.coords t 1).val] :=
  (by decide +kernel : ∀ t : Fin grid0.N, _)

/-- The gate weights the call stages: the last columns of the input weight. -/
theorem gate_eq (c : Dev nD) : V m c main_v1
    = (truncf .bf16 (extractStridedSlice S4096x16384 ![0, 15392] (m ((c : Thread nD τ).loc main_arg5) : FVec Ideal S4096x31776 .f32)
        slices_S4096x31776_S4096x16384_0_15392) bitsLt_bf16_f32 : FVec Ideal S4096x16384 .bf16) := rfl

/-- The branch weights the call stages are the argument. -/
theorem branch_eq (c : Dev nD) : V m c main_v2
    = (truncf .bf16 (m ((c : Thread nD τ).loc main_arg6)) bitsLt_bf16_f32 : FVec Ideal S4x1024x4096 .bf16) := rfl

/-- An entry of the staged gate weights: column `q` is column `15392 + q` of the input weight. -/
theorem gate_at (c : Dev nD) (k : Fin 4096) (q : Fin 16384) (p : Fin 31776) (h : p.val = 15392 + q.val) :
    V m c main_v1 (ix2 k q : S4096x16384.Idx) = m ((c : Thread nD τ).loc main_arg5) (ix2 k p : S4096x31776.Idx) := by
  have e : p = ⟨15392 + q.val, by omega⟩ := Fin.ext h
  rw [gate_eq, e]
  generalize m ((c : Thread nD τ).loc main_arg5) = X
  pointwise

/-- An entry of the staged branch weights. -/
theorem branch_at (c : Dev nD) (n : Fin 4) (k : Fin 1024) (q : Fin 4096) :
    V m c main_v2 (ix3 n k q : S4x1024x4096.Idx) = m ((c : Thread nD τ).loc main_arg6) (ix3 n k q : S4x1024x4096.Idx) := by
  rw [branch_eq]
  rfl

/-- The gate of one branch: the logistic function of a row of the activations against a gate column. -/
def gate (H : FVec Ideal S8192x4096 .bf16) (W : FVec Ideal S4096x31776 .f32) (r : Fin 8192) (q : Fin 31776) : EReal :=
  Ideal.logistic (∑ k : Fin 4096, H (ix2 r k : S8192x4096.Idx) * W (ix2 k q : S4096x31776.Idx))

/-- The projection of one branch: a row of the branch against a column of its weight. -/
def proj (A : FVec Ideal S8192x1024 .bf16) (B : FVec Ideal S4x1024x4096 .f32) (n : Fin 4) (r : Fin 8192) (q : Fin 4096) : EReal :=
  ∑ k : Fin 1024, A (ix2 r k : S8192x1024.Idx) * B (ix3 n k q : S4x1024x4096.Idx)

/-- An entry of the reference: the four branches' gated projections, added. -/
theorem ref_at (H : FVec Ideal S8192x4096 .bf16) (A1 A2 A3 A4 : FVec Ideal S8192x1024 .bf16) (W : FVec Ideal S4096x31776 .f32)
    (B : FVec Ideal S4x1024x4096 .f32) (r : Fin 8192) (q : Fin 4096) :
    val_main_v20 (F := Ideal) H A1 A2 A3 A4 W B (ix2 r q : S8192x4096.Idx)
      = gate H W r ⟨15392 + q.val, by omega⟩ * proj A1 B 0 r q + gate H W r ⟨19488 + q.val, by omega⟩ * proj A2 B 1 r q
        + gate H W r ⟨23584 + q.val, by omega⟩ * proj A3 B 2 r q + gate H W r ⟨27680 + q.val, by omega⟩ * proj A4 B 3 r q := by
  pointwise [val_main_v20, val_main_v19, val_main_v18, val_main_v17, val_main_v16, val_main_v15, val_main_v14, val_main_v13,
    val_main_v12, val_main_v11, val_main_v10, val_main_v9, val_main_v8, val_main_v7, val_main_v6, val_main_v5, val_main_v4,
    val_main_v3, val_main_v2, val_main_v1, val_main_v0, val_main_cst, val_main_cst_0, val_main_cst_1]
  rw [Fin.sum_univ_four]
  refine congrArg₂ (· + ·) (congrArg₂ (· + ·) (congrArg₂ (· + ·) ?_ ?_) ?_) ?_
  all_goals
    refine congrArg₂ (· * ·) ?_ (Finset.sum_congr rfl fun k _ => mul_comm _ _)
    refine congrArg Ideal.logistic (Finset.sum_congr rfl fun k _ => congrArg _ (congrArg W ((ix2_inj ..).2 ⟨rfl, Fin.ext ?_⟩)))
  · show 15392 + (0 * 4096 + q.val) = 15392 + q.val
    omega
  · show 15392 + (1 * 4096 + q.val) = 19488 + q.val
    omega
  · show 15392 + (2 * 4096 + q.val) = 23584 + q.val
    omega
  · show 15392 + (3 * 4096 + q.val) = 27680 + q.val
    omega

/-- A row of the staged panel of the activations is that row of the argument. -/
theorem row0 (c : Dev nD) (t : Fin cfg0.N) (p : Fin 512) (k : Fin 4096) (r : Fin 8192)
    (hr : r.val = (grid0.coords t 0).val * 512 + p.val) :
    iblk m c 0 t (ix2 p k : S512x4096.Idx) = m ((c : Thread nD τ).loc main_arg0) (ix2 r k : S8192x4096.Idx) := by
  blk_ext [iblk, V, maps t]

/-- A row of the staged panel of the first branch is that row of the argument. -/
theorem row1 (c : Dev nD) (t : Fin cfg0.N) (p : Fin 512) (k : Fin 1024) (r : Fin 8192)
    (hr : r.val = (grid0.coords t 0).val * 512 + p.val) :
    iblk m c 1 t (ix2 p k : S512x1024.Idx) = m ((c : Thread nD τ).loc main_arg1) (ix2 r k : S8192x1024.Idx) := by
  blk_ext [iblk, V, maps t]

/-- A row of the staged panel of the second branch is that row of the argument. -/
theorem row2 (c : Dev nD) (t : Fin cfg0.N) (p : Fin 512) (k : Fin 1024) (r : Fin 8192)
    (hr : r.val = (grid0.coords t 0).val * 512 + p.val) :
    iblk m c 2 t (ix2 p k : S512x1024.Idx) = m ((c : Thread nD τ).loc main_arg2) (ix2 r k : S8192x1024.Idx) := by
  blk_ext [iblk, V, maps t]

/-- A row of the staged panel of the third branch is that row of the argument. -/
theorem row3 (c : Dev nD) (t : Fin cfg0.N) (p : Fin 512) (k : Fin 1024) (r : Fin 8192)
    (hr : r.val = (grid0.coords t 0).val * 512 + p.val) :
    iblk m c 3 t (ix2 p k : S512x1024.Idx) = m ((c : Thread nD τ).loc main_arg3) (ix2 r k : S8192x1024.Idx) := by
  blk_ext [iblk, V, maps t]

/-- A row of the staged panel of the fourth branch is that row of the argument. -/
theorem row4 (c : Dev nD) (t : Fin cfg0.N) (p : Fin 512) (k : Fin 1024) (r : Fin 8192)
    (hr : r.val = (grid0.coords t 0).val * 512 + p.val) :
    iblk m c 4 t (ix2 p k : S512x1024.Idx) = m ((c : Thread nD τ).loc main_arg4) (ix2 r k : S8192x1024.Idx) := by
  blk_ext [iblk, V, maps t]

/-- A column of staged gate panel 0 is a column of the input weight. -/
theorem col5 (c : Dev nD) (t : Fin cfg0.N) (k : Fin 4096) (p : Fin 256) (q : Fin 31776)
    (hq : q.val = 15392 + ((grid0.coords t 1).val * 256 + p.val)) :
    iblk m c 5 t (ix2 k p : S4096x256.Idx) = m ((c : Thread nD τ).loc main_arg5) (ix2 k q : S4096x31776.Idx) := by
  refine Eq.trans ?_ (gate_at m c k ⟨q.val - 15392, by omega⟩ q (by show q.val = 15392 + (q.val - 15392); omega))
  blk_ext [iblk, maps t]

/-- A column of staged gate panel 1 is a column of the input weight. -/
theorem col6 (c : Dev nD) (t : Fin cfg0.N) (k : Fin 4096) (p : Fin 256) (q : Fin 31776)
    (hq : q.val = 19488 + ((grid0.coords t 1).val * 256 + p.val)) :
    iblk m c 6 t (ix2 k p : S4096x256.Idx) = m ((c : Thread nD τ).loc main_arg5) (ix2 k q : S4096x31776.Idx) := by
  refine Eq.trans ?_ (gate_at m c k ⟨q.val - 15392, by omega⟩ q (by show q.val = 15392 + (q.val - 15392); omega))
  blk_ext [iblk, maps t]

/-- A column of staged gate panel 2 is a column of the input weight. -/
theorem col7 (c : Dev nD) (t : Fin cfg0.N) (k : Fin 4096) (p : Fin 256) (q : Fin 31776)
    (hq : q.val = 23584 + ((grid0.coords t 1).val * 256 + p.val)) :
    iblk m c 7 t (ix2 k p : S4096x256.Idx) = m ((c : Thread nD τ).loc main_arg5) (ix2 k q : S4096x31776.Idx) := by
  refine Eq.trans ?_ (gate_at m c k ⟨q.val - 15392, by omega⟩ q (by show q.val = 15392 + (q.val - 15392); omega))
  blk_ext [iblk, maps t]

/-- A column of staged gate panel 3 is a column of the input weight. -/
theorem col8 (c : Dev nD) (t : Fin cfg0.N) (k : Fin 4096) (p : Fin 256) (q : Fin 31776)
    (hq : q.val = 27680 + ((grid0.coords t 1).val * 256 + p.val)) :
    iblk m c 8 t (ix2 k p : S4096x256.Idx) = m ((c : Thread nD τ).loc main_arg5) (ix2 k q : S4096x31776.Idx) := by
  refine Eq.trans ?_ (gate_at m c k ⟨q.val - 15392, by omega⟩ q (by show q.val = 15392 + (q.val - 15392); omega))
  blk_ext [iblk, maps t]

/-- A column of the staged branch panels is a column of the branch weights. -/
theorem col9 (c : Dev nD) (t : Fin cfg0.N) (n : Fin 4) (k : Fin 1024) (p : Fin 256) (q : Fin 4096)
    (hq : q.val = (grid0.coords t 1).val * 256 + p.val) :
    iblk m c 9 t (ix3 n k p : S4x1024x256.Idx) = m ((c : Thread nD τ).loc main_arg6) (ix3 n k q : S4x1024x4096.Idx) := by
  refine Eq.trans ?_ (branch_at m c n k q)
  blk_ext [iblk, maps t]

/-- What a grid point stores at row `p` and column `s` of its tile is the reference at the row and column that is. -/
theorem tile_at (c : Dev nD) (t : Fin cfg0.N) (p : Fin 512) (s : Fin 256) (r : Fin 8192) (q : Fin 4096)
    (hr : r.val = (grid0.coords t 0).val * 512 + p.val) (hq : q.val = (grid0.coords t 1).val * 256 + s.val) :
    out0_10 (F := Ideal) (iblk m c 0 t) (iblk m c 1 t) (iblk m c 2 t) (iblk m c 3 t) (iblk m c 4 t) (iblk m c 5 t)
        (iblk m c 6 t) (iblk m c 7 t) (iblk m c 8 t) (iblk m c 9 t) (ix2 p s : S512x256.Idx)
      = val_main_v20 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (ix2 r q : S8192x4096.Idx) := by
  rw [ref_at]
  frame_out
  pointwise [k0_pay1, k0_pay2, k0_pay3]
  refine congrArg₂ (· + ·) (congrArg₂ (· + ·) (congrArg₂ (· + ·) ?_ ?_) ?_) ?_
  · refine Ideal.mul_congr (congrArg Ideal.logistic (Finset.sum_congr rfl fun k _ => Ideal.mul_congr ?_ ?_))
      (Finset.sum_congr rfl fun k _ => Ideal.mul_congr ?_ ?_)
    · exact row0 m c t p k r hr
    · exact col5 m c t k s _ (by show 15392 + q.val = _; omega)
    · exact row1 m c t p k r hr
    · exact col9 m c t 0 k s q hq
  · refine Ideal.mul_congr (congrArg Ideal.logistic (Finset.sum_congr rfl fun k _ => Ideal.mul_congr ?_ ?_))
      (Finset.sum_congr rfl fun k _ => Ideal.mul_congr ?_ ?_)
    · exact row0 m c t p k r hr
    · exact col6 m c t k s _ (by show 19488 + q.val = _; omega)
    · exact row2 m c t p k r hr
    · exact col9 m c t 1 k s q hq
  · refine Ideal.mul_congr (congrArg Ideal.logistic (Finset.sum_congr rfl fun k _ => Ideal.mul_congr ?_ ?_))
      (Finset.sum_congr rfl fun k _ => Ideal.mul_congr ?_ ?_)
    · exact row0 m c t p k r hr
    · exact col7 m c t k s _ (by show 23584 + q.val = _; omega)
    · exact row3 m c t p k r hr
    · exact col9 m c t 2 k s q hq
  · refine Ideal.mul_congr (congrArg Ideal.logistic (Finset.sum_congr rfl fun k _ => Ideal.mul_congr ?_ ?_))
      (Finset.sum_congr rfl fun k _ => Ideal.mul_congr ?_ ?_)
    · exact row0 m c t p k r hr
    · exact col8 m c t k s _ (by show 27680 + q.val = _; omega)
    · exact row4 m c t p k r hr
    · exact col9 m c t 3 k s q hq

/-- The tile a grid point stores is the reference, read at the rows and columns of the tile. -/
theorem tile (c : Dev nD) (t : Fin cfg0.N) (y : S512x256.Idx) :
    out0_10 (F := Ideal) (iblk m c 0 t) (iblk m c 1 t) (iblk m c 2 t) (iblk m c 3 t) (iblk m c 4 t) (iblk m c 5 t)
        (iblk m c 6 t) (iblk m c 7 t) (iblk m c 8 t) (iblk m c 9 t) y
      = val_main_v20 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6))
          (((cfg0.win 10).blk t).view.emb y) := by
  generalize hj : ((cfg0.win 10).blk t).view.emb y = j
  have hj0 : (j 0).val = (grid0.coords t 0).val * 512 + (y 0).val := by
    rw [← hj]; blk_simp [maps t]
  have hj1 : (j 1).val = (grid0.coords t 1).val * 256 + (y 1).val := by
    rw [← hj]; blk_simp [maps t]
  exact (congrArg _ (eq_ix2 y)).trans ((tile_at m c t (y 0) (y 1) (j 0) (j 1) hj0 hj1).trans (congrArg _ (eq_ix2 j)).symm)

/-- The result array of the call is the reference's. -/
theorem final (c : Dev nD) : (dats m 0 c).arrAt 10 (cfgs 0).N
    = val_main_v20 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 10 _ (by decide +kernel) fun t _ y => ?_
  blk_simp
  rw [after0_10]
  exact tile m c t y

/-- The reference's run, its result named by `val_main_v20`. -/
theorem ref_run (m' : (ℓ : Loc Cert.MergeRefIdeal.nD Cert.MergeRefIdeal.τ Cert.MergeRefIdeal.sig) → Buf (Elt Ideal) ℓ)
    (g' : Dev Cert.MergeRefIdeal.nD → PrngReg) :
    θ_run Cert.MergeRefIdeal.defs (onTc (τ := Cert.MergeRefIdeal.τ) (Cert.MergeRefIdeal.main (F := Ideal))) ⟨m', fun _ => 0, g'⟩
      fun r => ∀ c : Dev Cert.MergeRefIdeal.nD,
        r.2.mem ((c.tc : Thread _ _).loc Cert.MergeRefIdeal.main_v20)
          = val_main_v20 (F := Ideal) (m' ((c.tc : Thread _ _).loc Cert.MergeRefIdeal.main_arg0))
              (m' ((c.tc : Thread _ _).loc Cert.MergeRefIdeal.main_arg1)) (m' ((c.tc : Thread _ _).loc Cert.MergeRefIdeal.main_arg2))
              (m' ((c.tc : Thread _ _).loc Cert.MergeRefIdeal.main_arg3)) (m' ((c.tc : Thread _ _).loc Cert.MergeRefIdeal.main_arg4))
              (m' ((c.tc : Thread _ _).loc Cert.MergeRefIdeal.main_arg5)) (m' ((c.tc : Thread _ _).loc Cert.MergeRefIdeal.main_arg6))
        ∧ r.2.mem ((c.tc : Thread _ _).loc Cert.MergeRefIdeal.main_arg0) = m' ((c.tc : Thread _ _).loc Cert.MergeRefIdeal.main_arg0)
        ∧ r.2.mem ((c.tc : Thread _ _).loc Cert.MergeRefIdeal.main_arg1) = m' ((c.tc : Thread _ _).loc Cert.MergeRefIdeal.main_arg1)
        ∧ r.2.mem ((c.tc : Thread _ _).loc Cert.MergeRefIdeal.main_arg2) = m' ((c.tc : Thread _ _).loc Cert.MergeRefIdeal.main_arg2)
        ∧ r.2.mem ((c.tc : Thread _ _).loc Cert.MergeRefIdeal.main_arg3) = m' ((c.tc : Thread _ _).loc Cert.MergeRefIdeal.main_arg3)
        ∧ r.2.mem ((c.tc : Thread _ _).loc Cert.MergeRefIdeal.main_arg4) = m' ((c.tc : Thread _ _).loc Cert.MergeRefIdeal.main_arg4)
        ∧ r.2.mem ((c.tc : Thread _ _).loc Cert.MergeRefIdeal.main_arg5) = m' ((c.tc : Thread _ _).loc Cert.MergeRefIdeal.main_arg5)
        ∧ r.2.mem ((c.tc : Thread _ _).loc Cert.MergeRefIdeal.main_arg6) = m' ((c.tc : Thread _ _).loc Cert.MergeRefIdeal.main_arg6) :=
  (θ_run _ _ _).mono (fun r h c => ⟨(h c).1.trans (val_main_v20_eq _ _ _ _ _ _ _), (h c).2⟩) (Cert.MergeRefIdeal.Value.run m' g')

/-- The gated merge of the four branches: the kernel and the reference end with equal results. -/
theorem algebraic : Cert.algebraic_MergeIdeal_MergeRefIdeal := by
  pair_intro
  · run_from Cert.MergeIdeal.Gen.run_main m g
  · run_from ref_run m' g'
    exact (final m c).symm

end Cert.MergeIdeal.Hand

end
-- ==== Proof.InProjValue.lean ====
module

public import proofs.«01_k».proof.Proof.Gen.InProjIdeal.Value
public import proofs.«01_k».proof.Proof.Gen.InProjRefIdeal.Read
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

namespace Cert.InProjIdeal.Hand

open Idealize.ShloMosaic Idealize.ShloMosaic.TcCoe Idealize.SL.Sem
open Idealize.ShloMosaic.Pipeline (Dat)
open Cert.InProjIdeal Cert.InProjIdeal.Gen
open Cert.InProjRefIdeal.Read

variable (m : (ℓ : Loc nD τ sig) → Buf (Elt Ideal) ℓ)

/-- Which block each window shows at a grid point: row panel `g0` of the activations, column panel `g1` of the
    weights, and the tile `(g0, g1)` of the result. -/
theorem maps : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- The column of the full input projection that column `q` of the main projection is: the sixteen side columns
    between the two joined slices are skipped. -/
def src (q : Fin 15360) : Fin 31776 :=
  if h : q.val < 8192 then ⟨q.val, by omega⟩ else ⟨q.val + 16, by omega⟩

/-- The weight array the call stages: the three joined slices of the full weight. -/
theorem weight_eq (c : Dev nD) : V m c main_v4 = (truncf .bf16 (concatenate S4096x15360 1 [⟨S4096x8192, extractStridedSlice S4096x8192 ![0, 0] (m ((c : Thread nD τ).loc main_arg1)) slices_S4096x31776_S4096x8192_0_0⟩, ⟨S4096x4096, extractStridedSlice S4096x4096 ![0, 8208] (m ((c : Thread nD τ).loc main_arg1)) slices_S4096x31776_S4096x4096_0_8208⟩, ⟨S4096x3072, extractStridedSlice S4096x3072 ![0, 12304] (m ((c : Thread nD τ).loc main_arg1)) slices_S4096x31776_S4096x3072_0_12304⟩] concatenates_S4096x8192_S4096x4096_S4096x3072_S4096x15360_d1) bitsLt_bf16_f32 : FVec Ideal S4096x15360 .bf16) := by
  rfl

/-- An entry of the joined weight slices is the entry of the full weight at the column `src` names. -/
theorem weight_at (c : Dev nD) (k : Fin 4096) (q : Fin 15360) :
    V m c main_v4 (ix2 k q : S4096x15360.Idx) = m ((c : Thread nD τ).loc main_arg1) (ix2 k (src q) : S4096x31776.Idx) := by
  rw [weight_eq]
  pointwise
  by_cases h1 : q.val < 8192
  · have e : src q = ⟨q.val, by omega⟩ := dif_pos h1
    rw [dif_pos h1, e]
  · have e : src q = ⟨q.val + 16, by omega⟩ := dif_neg h1
    rw [dif_neg h1, e]
    by_cases h2 : q.val - 8192 < 4096
    · rw [dif_pos h2]
      exact congrArg _ ((ix2_inj ..).2 ⟨rfl, Fin.ext (by show 8208 + (q.val - 8192) = q.val + 16; omega)⟩)
    · rw [dif_neg h2]
      exact congrArg _ ((ix2_inj ..).2 ⟨rfl, Fin.ext (by show 12304 + (q.val - 8192 - 4096) = q.val + 16; omega)⟩)

/-- An entry of the reference's projection: a row of the activations against the column `src` names. -/
theorem ref_at (X : FVec Ideal S8192x4096 .bf16) (W : FVec Ideal S4096x31776 .f32) (r : Fin 8192) (q : Fin 15360) :
    val_main_v4 (F := Ideal) X W (ix2 r q : S8192x15360.Idx)
      = ∑ k : Fin 4096, X (ix2 r k : S8192x4096.Idx) * W (ix2 k (src q) : S4096x31776.Idx) := by
  pointwise [val_main_v4, val_main_v3, val_main_v2, val_main_v1, val_main_v0]
  by_cases h1 : q.val < 8192
  · have e : src q = ⟨q.val, by omega⟩ := dif_pos h1
    rw [dif_pos h1, e]
  · have e : src q = ⟨q.val + 16, by omega⟩ := dif_neg h1
    rw [dif_neg h1, e]
    refine Finset.sum_congr rfl fun k _ => congrArg _ (congrArg _ ((ix2_inj ..).2 ⟨rfl, Fin.ext ?_⟩))
    show 8208 + (q.val - 8192) = q.val + 16
    omega

/-- The tile a grid point stores is the reference's projection, read at the rows and columns of the tile: both are the
    same sum over the model axis, and the joined weight slices of the kernel are the joined result slices of the
    reference. -/
theorem tile (c : Dev nD) (t : Fin cfg0.N) (y) :
    k0_pay1 (F := Ideal) (iblk m c 0 t) (iblk m c 1 t) y
      = val_main_v4 (F := Ideal) (m ((c : Thread nD τ).loc main_arg0)) (m ((c : Thread nD τ).loc main_arg1))
          (((cfg0.win 2).blk t).view.emb y) := by
  generalize hj : ((cfg0.win 2).blk t).view.emb y = j
  have hj0 : (j 0).val = (grid0.coords t 0).val * 1024 + (y 0).val := by
    rw [← hj]; blk_simp [maps t]
  have hj1 : (j 1).val = (grid0.coords t 1).val * 512 + (y 1).val := by
    rw [← hj]; blk_simp [maps t]
  refine Eq.trans ?_ ((congrArg _ (eq_ix2 j)).trans (ref_at _ _ (j 0) (j 1))).symm
  pointwise [k0_pay1]
  refine Finset.sum_congr rfl fun k _ => Ideal.mul_congr ?_ ?_
  · blk_ext [iblk, V, maps t]
  · refine Eq.trans ?_ (weight_at m c k (j 1))
    blk_ext [iblk, maps t]

/-- The result array of the call is the reference's. -/
theorem final (c : Dev nD) : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact tile m c t y

/-- The main input projection: the kernel and the reference end with equal results. -/
theorem algebraic : Cert.algebraic_InProjIdeal_InProjRefIdeal := by
  pair_intro
  · run_from Cert.InProjIdeal.Gen.run_main m g
  · hlo_run
    exact (final m c).symm

end Cert.InProjIdeal.Hand

end
-- ==== Proof.OutProjValue.lean ====
module

public import proofs.«01_k».proof.Proof.Gen.OutProjIdeal.Value
public import proofs.«01_k».proof.Proof.Gen.OutProjRefIdeal.Read
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

namespace Cert.OutProjIdeal.Hand

open Idealize.ShloMosaic Idealize.ShloMosaic.TcCoe Idealize.SL.Sem
open Idealize.ShloMosaic.Pipeline (Dat)
open Cert.OutProjIdeal Cert.OutProjIdeal.Gen
open Cert.OutProjRefIdeal.Read

variable (m : (ℓ : Loc nD τ sig) → Buf (Elt Ideal) ℓ)

/-- Which block each window shows at a grid point: row panel `g0` of the merged branches, column panel `g1` of the
    weight, tile `(g0, g1)` of the residual and of the result, and the gate of the batch entry the panel lies in. -/
theorem maps : ∀ t : Fin cfg0.N, win0_0.index t = ![(grid0.coords t 0).val, 0]
    ∧ win0_1.index t = ![0, (grid0.coords t 1).val]
    ∧ win0_2.index t = ![(grid0.coords t 0).val, (grid0.coords t 1).val]
    ∧ win0_3.index t = ![(grid0.coords t 0).val / 2, 0, (grid0.coords t 1).val]
    ∧ win0_4.index t = ![(grid0.coords t 0).val, (grid0.coords t 1).val] :=
  (by decide +kernel : ∀ t : Fin grid0.N, _)

/-- The weight the call stages is the argument. -/
theorem weight_eq (c : Dev nD) : V m c main_v0
    = (truncf .bf16 (m ((c : Thread nD τ).loc main_arg1)) bitsLt_bf16_f32 : FVec Ideal S4096x4096 .bf16) := rfl

/-- The gate the call stages is the argument with a unit axis. -/
theorem gate_eq (c : Dev nD) : V m c main_v1
    = (shapeCast S4x1x4096 (m ((c : Thread nD τ).loc main_arg3)) shapeCasts_S4x4096_S4x1x4096 : FVec Ideal S4x1x4096 .f32) := rfl

/-- An entry of the staged weight. -/
theorem weight_at (c : Dev nD) (k q : Fin 4096) :
    V m c main_v0 (ix2 k q : S4096x4096.Idx) = m ((c : Thread nD τ).loc main_arg1) (ix2 k q : S4096x4096.Idx) := by
  rw [weight_eq]
  rfl

/-- An entry of the staged gate. -/
theorem gate_at (c : Dev nD) (b : Fin 4) (q : Fin 4096) :
    V m c main_v1 (ix3 b 0 q : S4x1x4096.Idx) = m ((c : Thread nD τ).loc main_arg3) (ix2 b q : S4x4096.Idx) := by
  rw [gate_eq]
  exact shapeCast_apply _ _ (ix3 b 0 q : S4x1x4096.Idx) (ix2 b q : S4x4096.Idx) (by
    rewrite [Shape.rowMajor_val_two, Shape.rowMajor_val_three]
    show b.val * 4096 + q.val = (b.val * 1 + 0) * 4096 + q.val
    omega)

/-- An entry of the reference: the residual plus the gate of the row's batch entry times the projected row. -/
theorem ref_at (A : FVec Ideal S8192x4096 .bf16) (W : FVec Ideal S4096x4096 .f32) (X : FVec Ideal S8192x4096 .f32)
    (g : FVec Ideal S4x4096 .f32) (r : Fin 8192) (q : Fin 4096) :
    val_main_v8 (F := Ideal) A W X g (ix2 r q : S8192x4096.Idx)
      = X (ix2 r q : S8192x4096.Idx) + g (ix2 (⟨r.val / 2048, by omega⟩ : Fin 4) q : S4x4096.Idx)
          * ∑ k : Fin 4096, A (ix2 r k : S8192x4096.Idx) * W (ix2 k q : S4096x4096.Idx) := by
  pointwise [val_main_v8, val_main_v7, val_main_v6, val_main_v5, val_main_v4, val_main_v3, val_main_v2, val_main_v1, val_main_v0]

/-- The tile a grid point stores is the reference, read at the rows and columns of the tile. -/
theorem tile (c : Dev nD) (t : Fin cfg0.N) (y) :
    k0_pay1 (F := Ideal) (iblk m c 0 t) (iblk m c 1 t) (iblk m c 2 t) (iblk m c 3 t) y
      = val_main_v8 (F := Ideal) (m ((c : Thread nD τ).loc main_arg0)) (m ((c : Thread nD τ).loc main_arg1))
          (m ((c : Thread nD τ).loc main_arg2)) (m ((c : Thread nD τ).loc main_arg3))
          (((cfg0.win 4).blk t).view.emb y) := by
  generalize hj : ((cfg0.win 4).blk t).view.emb y = j
  have hj0 : (j 0).val = (grid0.coords t 0).val * 1024 + (y 0).val := by
    rw [← hj]; blk_simp [maps t]
  have hj1 : (j 1).val = (grid0.coords t 1).val * 512 + (y 1).val := by
    rw [← hj]; blk_simp [maps t]
  refine Eq.trans ?_ ((congrArg _ (eq_ix2 j)).trans (ref_at _ _ _ _ (j 0) (j 1))).symm
  pointwise [k0_pay1]
  refine Ideal.add_congr ?_ (Ideal.mul_congr ?_ (Finset.sum_congr rfl fun k _ => Ideal.mul_congr ?_ ?_))
  · blk_ext [iblk, V, maps t]
  · refine Eq.trans ?_ (gate_at m c _ (j 1))
    blk_ext [iblk, maps t]
  · blk_ext [iblk, V, maps t]
  · refine Eq.trans ?_ (weight_at m c k (j 1))
    blk_ext [iblk, maps t]

/-- The result array of the call is the reference's. -/
theorem final (c : Dev nD) : (dats m 0 c).arrAt 4 (cfgs 0).N
    = val_main_v8 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]; frame_out
  exact tile m c t y

/-- The output projection with its gated residual: the kernel and the reference end with equal results. -/
theorem algebraic : Cert.algebraic_OutProjIdeal_OutProjRefIdeal := by
  pair_intro
  · run_from Cert.OutProjIdeal.Gen.run_main m g
  · hlo_run
    exact (final m c).symm

end Cert.OutProjIdeal.Hand

end
-- ==== Proof.FNormValue.lean ====
module

public import proofs.«01_k».proof.Proof.Gen.FNormIdeal.Value
public import proofs.«01_k».proof.Proof.Gen.FNormRefIdeal.Read
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

namespace Cert.FNormIdeal.Hand

open Idealize.ShloMosaic Idealize.ShloMosaic.TcCoe Idealize.SL.Sem
open Idealize.ShloMosaic.Pipeline (Dat)
open Cert.FNormIdeal Cert.FNormIdeal.Gen
open Cert.FNormRefIdeal.Read

variable (m : (ℓ : Loc nD τ sig) → Buf (Elt Ideal) ℓ)

/-- Which block each window shows at a grid point: row panel `g0` of the activations and of the result, and the whole row
    of weights. -/
theorem maps : ∀ t : Fin cfg0.N, win0_0.index t = ![(grid0.coords t 0).val, 0]
    ∧ win0_1.index t = ![0, 0]
    ∧ win0_2.index t = ![(grid0.coords t 0).val, 0] :=
  (by decide +kernel : ∀ t : Fin grid0.N, _)

/-- The row of weights the call stages is the argument, as one row. -/
theorem weight_eq (c : Dev nD) : V m c main_v0
    = (shapeCast S1x4096 (m ((c : Thread nD τ).loc main_arg1) : FVec Ideal S4096 .f32) shapeCasts_S4096_S1x4096
        : FVec Ideal S1x4096 .f32) := rfl

/-- An entry of the staged row of weights. -/
theorem weight_at (c : Dev nD) (z : Fin 1) (q : Fin 4096) :
    V m c main_v0 (ix2 z q : S1x4096.Idx) = m ((c : Thread nD τ).loc main_arg1) (ix1 q : S4096.Idx) := by
  rw [weight_eq]
  exact shapeCast_apply _ _ (ix2 z q : S1x4096.Idx) (ix1 q : S4096.Idx) (by
    rw [Shape.rowMajor_val_one, Shape.rowMajor_val_two]
    show q.val = z.val * 4096 + q.val
    omega)

/-- One entry of a row's root mean square normalization: the entry over the root of the mean square of its row (plus the
    printed epsilon), times the weight of its column. -/
def normed (x : Fin 4096 → EReal) (w : EReal) (q : Fin 4096) : EReal :=
  x q * Ideal.rsqrt (Ideal.div (∑ k : Fin 4096, x k * x k) (Ideal.ofBits .f32 0x45800000#32) + Ideal.ofBits .f32 0x358637BD#32) * w

/-- An entry of the reference. -/
theorem ref_at (X : FVec Ideal S8192x4096 .f32) (W : FVec Ideal S4096 .f32) (r : Fin 8192) (q : Fin 4096) :
    val_main_v12 (F := Ideal) X W (ix2 r q : S8192x4096.Idx)
      = normed (fun k => X (ix2 r k : S8192x4096.Idx)) (W (ix1 q : S4096.Idx)) q := by
  unfold normed
  pointwise [val_main_v12, val_main_v11, val_main_v10, val_main_v9, val_main_v8, val_main_v7, val_main_v6, val_main_v5, val_main_v4, val_main_v3, val_main_v2, val_main_v1, val_main_v0, val_main_cst_1, val_main_cst_0, val_main_cst]

/-- A row of the staged panel is that row of the argument. -/
theorem row0 (c : Dev nD) (t : Fin cfg0.N) (p : Fin 256) (k : Fin 4096) (r : Fin 8192)
    (hr : r.val = (grid0.coords t 0).val * 256 + p.val) :
    iblk m c 0 t (ix2 p k : S256x4096.Idx) = m ((c : Thread nD τ).loc main_arg0) (ix2 r k : S8192x4096.Idx) := by
  blk_ext [iblk, V, maps t]

/-- The staged row of weights is the argument. -/
theorem col1 (c : Dev nD) (t : Fin cfg0.N) (z : Fin 1) (q : Fin 4096) :
    iblk m c 1 t (ix2 z q : S1x4096.Idx) = m ((c : Thread nD τ).loc main_arg1) (ix1 q : S4096.Idx) := by
  refine Eq.trans ?_ (weight_at m c z q)
  blk_ext [iblk, maps t]

/-- What a grid point stores at row `p` and column `q` of its panel is the reference at the row that is. -/
theorem tile_at (c : Dev nD) (t : Fin cfg0.N) (p : Fin 256) (q : Fin 4096) (r : Fin 8192)
    (hr : r.val = (grid0.coords t 0).val * 256 + p.val) :
    out0_2 (F := Ideal) (iblk m c 0 t) (iblk m c 1 t) (ix2 p q : S256x4096.Idx)
      = val_main_v12 (F := Ideal) (m ((c : Thread nD τ).loc main_arg0)) (m ((c : Thread nD τ).loc main_arg1)) (ix2 r q : S8192x4096.Idx) := by
  rw [ref_at]
  have h : (fun k => m ((c : Thread nD τ).loc main_arg0) (ix2 r k : S8192x4096.Idx)) = fun k => iblk m c 0 t (ix2 p k : S256x4096.Idx) :=
    funext fun k => (row0 m c t p k r hr).symm
  refine Eq.trans ?_ (congrArg₂ (fun x w => normed x w q) h (col1 m c t 0 q).symm).symm
  frame_out
  unfold normed
  pointwise [k0_pay1]

/-- The panel a grid point stores is the reference, read at the rows of the panel. -/
theorem tile (c : Dev nD) (t : Fin cfg0.N) (y : S256x4096.Idx) :
    out0_2 (F := Ideal) (iblk m c 0 t) (iblk m c 1 t) y
      = val_main_v12 (F := Ideal) (m ((c : Thread nD τ).loc main_arg0)) (m ((c : Thread nD τ).loc main_arg1)) (((cfg0.win 2).blk t).view.emb y) := by
  generalize hj : ((cfg0.win 2).blk t).view.emb y = j
  have hj0 : (j 0).val = (grid0.coords t 0).val * 256 + (y 0).val := by
    rw [← hj]; blk_simp [maps t]
  have hj1 : j 1 = y 1 := by
    rw [← hj]; refine Fin.ext ?_; blk_simp [maps t]
  refine (congrArg _ (eq_ix2 y)).trans ((tile_at m c t (y 0) (y 1) (j 0) hj0).trans ?_)
  rw [← hj1]
  exact (congrArg _ (eq_ix2 j)).symm

/-- The result array of the call is the reference's. -/
theorem final (c : Dev nD) : (dats m 0 c).arrAt 2 (cfgs 0).N = val_main_v12 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  exact tile m c t y

/-- The reference's run, its result named by `val_main_v12`. -/
theorem ref_run (m' : (ℓ : Loc Cert.FNormRefIdeal.nD Cert.FNormRefIdeal.τ Cert.FNormRefIdeal.sig) → Buf (Elt Ideal) ℓ) (g' : Dev Cert.FNormRefIdeal.nD → PrngReg) :
    θ_run Cert.FNormRefIdeal.defs (onTc (τ := Cert.FNormRefIdeal.τ) (Cert.FNormRefIdeal.main (F := Ideal))) ⟨m', fun _ => 0, g'⟩
      fun r => ∀ c : Dev Cert.FNormRefIdeal.nD,
        r.2.mem ((c.tc : Thread _ _).loc Cert.FNormRefIdeal.main_v12)
          = val_main_v12 (F := Ideal) (m' ((c.tc : Thread _ _).loc Cert.FNormRefIdeal.main_arg0)) (m' ((c.tc : Thread _ _).loc Cert.FNormRefIdeal.main_arg1))
        ∧ r.2.mem ((c.tc : Thread _ _).loc Cert.FNormRefIdeal.main_arg0) = m' ((c.tc : Thread _ _).loc Cert.FNormRefIdeal.main_arg0)
        ∧ r.2.mem ((c.tc : Thread _ _).loc Cert.FNormRefIdeal.main_arg1) = m' ((c.tc : Thread _ _).loc Cert.FNormRefIdeal.main_arg1) :=
  (θ_run _ _ _).mono (fun r h c => ⟨(h c).1.trans (val_main_v12_eq _ _), (h c).2⟩) (Cert.FNormRefIdeal.Value.run m' g')

/-- The final normalization of the prompt group: the kernel and the reference end with equal results. -/
theorem algebraic : Cert.algebraic_FNormIdeal_FNormRefIdeal := by
  pair_intro
  · run_from Cert.FNormIdeal.Gen.run_main m g
  · run_from ref_run m' g'
    exact (final m c).symm

end Cert.FNormIdeal.Hand

end
-- ==== Proof.FNormSValue.lean ====
module

public import proofs.«01_k».proof.Proof.Gen.FNormSIdeal.Value
public import proofs.«01_k».proof.Proof.Gen.FNormSRefIdeal.Read
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

namespace Cert.FNormSIdeal.Hand

open Idealize.ShloMosaic Idealize.ShloMosaic.TcCoe Idealize.SL.Sem
open Idealize.ShloMosaic.Pipeline (Dat)
open Cert.FNormSIdeal Cert.FNormSIdeal.Gen
open Cert.FNormSRefIdeal.Read

variable (m : (ℓ : Loc nD τ sig) → Buf (Elt Ideal) ℓ)

/-- Which block each window shows at a grid point: row panel `g0` of the activations and of the result, and the whole row
    of weights. -/
theorem maps : ∀ t : Fin cfg0.N, win0_0.index t = ![(grid0.coords t 0).val, 0]
    ∧ win0_1.index t = ![0, 0]
    ∧ win0_2.index t = ![(grid0.coords t 0).val, 0] :=
  (by decide +kernel : ∀ t : Fin grid0.N, _)

/-- The row of weights the call stages is the argument, as one row. -/
theorem weight_eq (c : Dev nD) : V m c main_v0
    = (shapeCast S1x4096 (m ((c : Thread nD τ).loc main_arg1) : FVec Ideal S4096 .f32) shapeCasts_S4096_S1x4096
        : FVec Ideal S1x4096 .f32) := rfl

/-- An entry of the staged row of weights. -/
theorem weight_at (c : Dev nD) (z : Fin 1) (q : Fin 4096) :
    V m c main_v0 (ix2 z q : S1x4096.Idx) = m ((c : Thread nD τ).loc main_arg1) (ix1 q : S4096.Idx) := by
  rw [weight_eq]
  exact shapeCast_apply _ _ (ix2 z q : S1x4096.Idx) (ix1 q : S4096.Idx) (by
    rw [Shape.rowMajor_val_one, Shape.rowMajor_val_two]
    show q.val = z.val * 4096 + q.val
    omega)

/-- One entry of a row's root mean square normalization: the entry over the root of the mean square of its row (plus the
    printed epsilon), times the weight of its column. -/
def normed (x : Fin 4096 → EReal) (w : EReal) (q : Fin 4096) : EReal :=
  x q * Ideal.rsqrt (Ideal.div (∑ k : Fin 4096, x k * x k) (Ideal.ofBits .f32 0x45800000#32) + Ideal.ofBits .f32 0x358637BD#32) * w

/-- An entry of the reference. -/
theorem ref_at (X : FVec Ideal S64x4096 .f32) (W : FVec Ideal S4096 .f32) (r : Fin 64) (q : Fin 4096) :
    val_main_v12 (F := Ideal) X W (ix2 r q : S64x4096.Idx)
      = normed (fun k => X (ix2 r k : S64x4096.Idx)) (W (ix1 q : S4096.Idx)) q := by
  unfold normed
  pointwise [val_main_v12, val_main_v11, val_main_v10, val_main_v9, val_main_v8, val_main_v7, val_main_v6, val_main_v5, val_main_v4, val_main_v3, val_main_v2, val_main_v1, val_main_v0, val_main_cst_1, val_main_cst_0, val_main_cst]

/-- A row of the staged panel is that row of the argument. -/
theorem row0 (c : Dev nD) (t : Fin cfg0.N) (p : Fin 64) (k : Fin 4096) (r : Fin 64)
    (hr : r.val = (grid0.coords t 0).val * 64 + p.val) :
    iblk m c 0 t (ix2 p k : S64x4096.Idx) = m ((c : Thread nD τ).loc main_arg0) (ix2 r k : S64x4096.Idx) := by
  blk_ext [iblk, V, maps t]

/-- The staged row of weights is the argument. -/
theorem col1 (c : Dev nD) (t : Fin cfg0.N) (z : Fin 1) (q : Fin 4096) :
    iblk m c 1 t (ix2 z q : S1x4096.Idx) = m ((c : Thread nD τ).loc main_arg1) (ix1 q : S4096.Idx) := by
  refine Eq.trans ?_ (weight_at m c z q)
  blk_ext [iblk, maps t]

/-- What a grid point stores at row `p` and column `q` of its panel is the reference at the row that is. -/
theorem tile_at (c : Dev nD) (t : Fin cfg0.N) (p : Fin 64) (q : Fin 4096) (r : Fin 64)
    (hr : r.val = (grid0.coords t 0).val * 64 + p.val) :
    out0_2 (F := Ideal) (iblk m c 0 t) (iblk m c 1 t) (ix2 p q : S64x4096.Idx)
      = val_main_v12 (F := Ideal) (m ((c : Thread nD τ).loc main_arg0)) (m ((c : Thread nD τ).loc main_arg1)) (ix2 r q : S64x4096.Idx) := by
  rw [ref_at]
  have h : (fun k => m ((c : Thread nD τ).loc main_arg0) (ix2 r k : S64x4096.Idx)) = fun k => iblk m c 0 t (ix2 p k : S64x4096.Idx) :=
    funext fun k => (row0 m c t p k r hr).symm
  refine Eq.trans ?_ (congrArg₂ (fun x w => normed x w q) h (col1 m c t 0 q).symm).symm
  frame_out
  unfold normed
  pointwise [k0_pay1]

/-- The panel a grid point stores is the reference, read at the rows of the panel. -/
theorem tile (c : Dev nD) (t : Fin cfg0.N) (y : S64x4096.Idx) :
    out0_2 (F := Ideal) (iblk m c 0 t) (iblk m c 1 t) y
      = val_main_v12 (F := Ideal) (m ((c : Thread nD τ).loc main_arg0)) (m ((c : Thread nD τ).loc main_arg1)) (((cfg0.win 2).blk t).view.emb y) := by
  generalize hj : ((cfg0.win 2).blk t).view.emb y = j
  have hj0 : (j 0).val = (grid0.coords t 0).val * 64 + (y 0).val := by
    rw [← hj]; blk_simp [maps t]
  have hj1 : j 1 = y 1 := by
    rw [← hj]; refine Fin.ext ?_; blk_simp [maps t]
  refine (congrArg _ (eq_ix2 y)).trans ((tile_at m c t (y 0) (y 1) (j 0) hj0).trans ?_)
  rw [← hj1]
  exact (congrArg _ (eq_ix2 j)).symm

/-- The result array of the call is the reference's. -/
theorem final (c : Dev nD) : (dats m 0 c).arrAt 2 (cfgs 0).N = val_main_v12 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  exact tile m c t y

/-- The reference's run, its result named by `val_main_v12`. -/
theorem ref_run (m' : (ℓ : Loc Cert.FNormSRefIdeal.nD Cert.FNormSRefIdeal.τ Cert.FNormSRefIdeal.sig) → Buf (Elt Ideal) ℓ) (g' : Dev Cert.FNormSRefIdeal.nD → PrngReg) :
    θ_run Cert.FNormSRefIdeal.defs (onTc (τ := Cert.FNormSRefIdeal.τ) (Cert.FNormSRefIdeal.main (F := Ideal))) ⟨m', fun _ => 0, g'⟩
      fun r => ∀ c : Dev Cert.FNormSRefIdeal.nD,
        r.2.mem ((c.tc : Thread _ _).loc Cert.FNormSRefIdeal.main_v12)
          = val_main_v12 (F := Ideal) (m' ((c.tc : Thread _ _).loc Cert.FNormSRefIdeal.main_arg0)) (m' ((c.tc : Thread _ _).loc Cert.FNormSRefIdeal.main_arg1))
        ∧ r.2.mem ((c.tc : Thread _ _).loc Cert.FNormSRefIdeal.main_arg0) = m' ((c.tc : Thread _ _).loc Cert.FNormSRefIdeal.main_arg0)
        ∧ r.2.mem ((c.tc : Thread _ _).loc Cert.FNormSRefIdeal.main_arg1) = m' ((c.tc : Thread _ _).loc Cert.FNormSRefIdeal.main_arg1) :=
  (θ_run _ _ _).mono (fun r h c => ⟨(h c).1.trans (val_main_v12_eq _ _), (h c).2⟩) (Cert.FNormSRefIdeal.Value.run m' g')

/-- The final normalization of the sample group: the kernel and the reference end with equal results. -/
theorem algebraic : Cert.algebraic_FNormSIdeal_FNormSRefIdeal := by
  pair_intro
  · run_from Cert.FNormSIdeal.Gen.run_main m g
  · run_from ref_run m' g'
    exact (final m c).symm

end Cert.FNormSIdeal.Hand

end
-- ==== Proof.RopeSSpec.lean ====
module

public import proofs.«01_k».proof.Proof.Gen.RopeSIdeal.Value
public import proofs.«01_k».proof.Proof.Gen.RopeSRefIdeal.Read
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

namespace Cert.RopeSIdeal.Hand

open Idealize.ShloMosaic Idealize.ShloMosaic.TcCoe Idealize.SL.Sem
open Idealize.ShloMosaic.Pipeline (Dat)
open Cert.RopeSIdeal Cert.RopeSIdeal.Gen
open Cert.RopeSRefIdeal.Read

variable (m : (ℓ : Loc nD τ sig) → Buf (Elt Ideal) ℓ)

open Idealize.ShloMosaic.StableHlo

/-- Which block each window shows at a grid point: row panel `g0` of the input projection's array (the third group of 4096
    columns) and of the five results, and the panel of the tables that the rows' positions are in. -/
theorem maps : ∀ t : Fin cfg0.N, win0_0.index t = ![(grid0.coords t 0).val, 2]
    ∧ win0_1.index t = ![0, 0]
    ∧ win0_2.index t = ![0, 0]
    ∧ win0_3.index t = ![0, 0]
    ∧ win0_4.index t = ![(grid0.coords t 0).val, 0]
    ∧ win0_5.index t = ![(grid0.coords t 0).val, 0]
    ∧ win0_6.index t = ![(grid0.coords t 0).val, 0]
    ∧ win0_7.index t = ![(grid0.coords t 0).val, 0]
    ∧ win0_8.index t = ![(grid0.coords t 0).val, 0] :=
  (by decide +kernel : ∀ t : Fin grid0.N, _)

section spec

/-- One entry of a rotated component of 64 columns: the first eight columns with the next eight, by the angle's cosine and
    sine, and the others as they are. Positions are counted within a head of two components. -/
def rot (x C S : ℕ → EReal) (j : ℕ) : EReal :=
  if j % 64 < 8 then x j * C (j % 64) - x (j + 8) * S (j % 64)
  else if j % 64 < 16 then x j * C (j % 64 - 8) + x (j - 8) * S (j % 64 - 8)
  else x j

/-- The kernel's sum of three products, with a table of cosines and ones and two tables of sines and zeros, is the rotation. -/
theorem rot_of_tables (x C S : ℕ → EReal) (j : ℕ) (hj : j < 128) (c a b : EReal)
    (hc : c = if j % 64 < 8 then C (j % 64) else if j % 64 < 16 then C (j % 64 - 8) else 1)
    (ha : a = if j % 64 < 8 then -S (j % 64) else 0)
    (hb : b = if j % 64 < 8 then 0 else if j % 64 < 16 then S (j % 64 - 8) else 0) :
    x j * c + x ((j + 128 - 120) % 128) * a + x ((j + 128 - 8) % 128) * b = rot x C S j := by
  unfold rot
  by_cases h1 : j % 64 < 8
  · rw [if_pos h1] at hc ha hb ⊢
    rw [hc, ha, hb, mul_zero, add_zero, mul_neg, ← sub_eq_add_neg, show (j + 128 - 120) % 128 = j + 8 from by omega]
  · rw [if_neg h1] at hc ha hb ⊢
    by_cases h2 : j % 64 < 16
    · rw [if_pos h2] at hc hb ⊢
      rw [hc, ha, hb, mul_zero, add_zero, show (j + 128 - 8) % 128 = j - 8 from by omega]
    · rw [if_neg h2] at hc hb ⊢
      rw [hc, ha, hb, mul_zero, add_zero, mul_zero, add_zero, mul_one]

/-- Differences of equal numbers are equal. -/
theorem subc {a b c d : EReal} (h : a = b) (h' : c = d) : a - c = b - d := by rw [h, h']

/-- Sums of equal numbers are equal. -/
theorem addc {a b c d : EReal} (h : a = b) (h' : c = d) : a + c = b + d := by rw [h, h']

/-- Products of equal numbers are equal. -/
theorem mulc {a b c d : EReal} (h : a = b) (h' : c = d) : a * c = b * d := by rw [h, h']

/-- Entries of an array at equal columns are equal. -/
theorem at2 {a b : ℕ} (X : (⟨2, ![a, b]⟩ : Shape).Idx → EReal) (i : Fin a) {j j' : Fin b} (h : j.val = j'.val) : X (ix2 i j) = X (ix2 i j') := by
  rw [Fin.ext h]

variable (Z : FVec Ideal S64x15360 .f32)

/-- The entries of a row from a column on. -/
def from_ (r : Fin 64) (b i : ℕ) : EReal := Z (ix2 r (⟨(b + i) % 15360, Nat.mod_lt _ (by decide)⟩ : Fin 15360) : S64x15360.Idx)

/-- The cosine of a position's angle. -/
def cosv (n : Fin 8) (i : ℕ) : EReal := val_main_v21 (F := Ideal) (ix2 n (⟨i % 8, Nat.mod_lt _ (by decide)⟩ : Fin 8) : Cert.RopeSRefIdeal.S8x8.Idx)

/-- The sine of a position's angle. -/
def sinv (n : Fin 8) (i : ℕ) : EReal := val_main_v23 (F := Ideal) (ix2 n (⟨i % 8, Nat.mod_lt _ (by decide)⟩ : Fin 8) : Cert.RopeSRefIdeal.S8x8.Idx)

/-- The cosines are computed once for the queries and once for the keys, by the same lines. -/
theorem cos_keys : val_main_v55 (F := Ideal) = val_main_v21 (F := Ideal) := rfl

/-- The sines are computed once for the queries and once for the keys, by the same lines. -/
theorem sin_keys : val_main_v57 (F := Ideal) = val_main_v23 (F := Ideal) := rfl

attribute [local irreducible] val_main_v21 val_main_v23 val_main_v55 val_main_v57

/-- An entry of the reference's rotated queries. -/
theorem ref_q (r : Fin 64) (q : Fin 1024) : val_main_v77 (F := Ideal) Z (ix2 r q : S64x1024.Idx)
    = rot (from_ Z r (8192 + q.val / 128 * 128)) (cosv ⟨r.val % 8, by omega⟩) (sinv ⟨r.val % 8, by omega⟩) (q.val % 128) * Ideal.ofBits .f32 0x3E000000#32 := by
  unfold rot from_ cosv sinv
  pointwise [val_main_v77, val_main_v74, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v22, val_main_v8, val_main_v5, val_main_v4, val_main_v3, val_main_cst_1]
  have hq : q.val < 1024 := q.isLt
  have e6 : q.val % 128 % 64 = q.val % 64 := by omega
  have e7 : q.val / 64 % 2 * 64 + q.val % 64 = q.val % 128 := by omega
  refine Ideal.mul_congr ?_ rfl
  by_cases h16 : q.val % 64 < 16
  · refine (dif_pos h16).trans ?_
    by_cases h8 : q.val % 64 < 8
    · refine (dif_pos h8).trans (Eq.trans ?_ (if_pos (show q.val % 128 % 64 < 8 by omega)).symm)
      exact subc (mulc (at2 Z _ (by dsimp only; omega)) (at2 (val_main_v21 (F := Ideal)) _ (by dsimp only; omega)))
        (mulc (at2 Z _ (by dsimp only; omega)) (at2 (val_main_v23 (F := Ideal)) _ (by dsimp only; omega)))
    · refine (dif_neg h8).trans (Eq.trans ?_ ((if_neg (show ¬ q.val % 128 % 64 < 8 by omega)).trans (if_pos (show q.val % 128 % 64 < 16 by omega))).symm)
      exact addc (mulc (at2 Z _ (by dsimp only; omega)) (at2 (val_main_v21 (F := Ideal)) _ (by dsimp only; omega)))
        (mulc (at2 Z _ (by dsimp only; omega)) (at2 (val_main_v23 (F := Ideal)) _ (by dsimp only; omega)))
  · refine (dif_neg h16).trans (Eq.trans ?_ ((if_neg (show ¬ q.val % 128 % 64 < 8 by omega)).trans (if_neg (show ¬ q.val % 128 % 64 < 16 by omega))).symm)
    exact at2 Z _ (by dsimp only; omega)

/-- An entry of the reference's rotated keys. -/
theorem ref_k (r : Fin 64) (q : Fin 1024) : val_main_v75 (F := Ideal) Z (ix2 r q : S64x1024.Idx)
    = rot (from_ Z r (9216 + q.val / 128 * 128)) (cosv ⟨r.val % 8, by omega⟩) (sinv ⟨r.val % 8, by omega⟩) (q.val % 128) := by
  unfold rot from_ cosv sinv
  pointwise [val_main_v75, val_main_v73, val_main_v72, val_main_v71, val_main_v70, val_main_v69, val_main_v68, val_main_v67, val_main_v66, val_main_v65, val_main_v64, val_main_v63, val_main_v62, val_main_v61, val_main_v60, val_main_v59, val_main_v58, val_main_v56, val_main_v42, val_main_v6, val_main_v4, val_main_v3]
  simp only [cos_keys, sin_keys]
  have hq : q.val < 1024 := q.isLt
  have e6 : q.val % 128 % 64 = q.val % 64 := by omega
  have e7 : q.val / 64 % 2 * 64 + q.val % 64 = q.val % 128 := by omega
  by_cases h16 : q.val % 64 < 16
  · refine (dif_pos h16).trans ?_
    by_cases h8 : q.val % 64 < 8
    · refine (dif_pos h8).trans (Eq.trans ?_ (if_pos (show q.val % 128 % 64 < 8 by omega)).symm)
      exact subc (mulc (at2 Z _ (by dsimp only; omega)) (at2 (val_main_v21 (F := Ideal)) _ (by dsimp only; omega)))
        (mulc (at2 Z _ (by dsimp only; omega)) (at2 (val_main_v23 (F := Ideal)) _ (by dsimp only; omega)))
    · refine (dif_neg h8).trans (Eq.trans ?_ ((if_neg (show ¬ q.val % 128 % 64 < 8 by omega)).trans (if_pos (show q.val % 128 % 64 < 16 by omega))).symm)
      exact addc (mulc (at2 Z _ (by dsimp only; omega)) (at2 (val_main_v21 (F := Ideal)) _ (by dsimp only; omega)))
        (mulc (at2 Z _ (by dsimp only; omega)) (at2 (val_main_v23 (F := Ideal)) _ (by dsimp only; omega)))
  · refine (dif_neg h16).trans (Eq.trans ?_ ((if_neg (show ¬ q.val % 128 % 64 < 8 by omega)).trans (if_neg (show ¬ q.val % 128 % 64 < 16 by omega))).symm)
    exact at2 Z _ (by dsimp only; omega)

/-- An entry of the reference's values. -/
theorem ref_v (r : Fin 64) (q : Fin 1024) : val_main_v76 (F := Ideal) Z (ix2 r q : S64x1024.Idx)
    = Z (ix2 r (⟨10240 + q.val, by omega⟩ : Fin 15360) : S64x15360.Idx) := by
  pointwise [val_main_v76, val_main_v7, val_main_v4, val_main_v3]
  exact at2 Z _ (by dsimp only; omega)

/-- An entry of the reference's rotated keys, as the attention reads them. -/
theorem ref_kb (r : Fin 64) (q : Fin 1024) : val_main_v78 (F := Ideal) Z (ix2 r q : S64x1024.Idx)
    = rot (from_ Z r (9216 + q.val / 128 * 128)) (cosv ⟨r.val % 8, by omega⟩) (sinv ⟨r.val % 8, by omega⟩) (q.val % 128) :=
  ref_k Z r q

/-- An entry of the reference's values, as the attention reads them. -/
theorem ref_vb (r : Fin 64) (q : Fin 1024) : val_main_v79 (F := Ideal) Z (ix2 r q : S64x1024.Idx)
    = Z (ix2 r (⟨10240 + q.val, by omega⟩ : Fin 15360) : S64x15360.Idx) :=
  ref_v Z r q

end spec

section tables

variable (m : (ℓ : Loc nD τ sig) → Buf (Elt Ideal) ℓ)

/-- The table of cosines the call stages: cosines twice and then ones, for both components. -/
theorem tab1_eq (c : Dev nD) : V m c main_v28 = (shapeCast S8x128 (broadcastInDim S1x8x2x64 ![0, 1, 2, 3] bcast_S1x8x1x64_S1x8x2x64_0_1_2_3 (shapeCast S1x8x1x64
      (concatenate S8x64 1 [⟨S8x8, (val_main_v21 (F := Ideal) : FVec Ideal S8x8 .f32)⟩, ⟨S8x8, (val_main_v21 (F := Ideal) : FVec Ideal S8x8 .f32)⟩, ⟨S8x48, (addf (broadcastInDim S8x48 ![] bcast_S_S8x48 (constant S_ .f32 0x00000000#32) : FVec Ideal S8x48 .f32) (broadcastInDim S8x48 ![] bcast_S_S8x48 (constant S_ .f32 0x3F800000#32) : FVec Ideal S8x48 .f32) : FVec Ideal S8x48 .f32)⟩] concatenates_S8x8_S8x8_S8x48_S8x64_d1 : FVec Ideal S8x64 .f32)
      shapeCasts_S8x64_S1x8x1x64 : FVec Ideal S1x8x1x64 .f32) : FVec Ideal S1x8x2x64 .f32) shapeCasts_S1x8x2x64_S8x128 : FVec Ideal S8x128 .f32) := rfl

/-- The first table of sines: negated sines and then zeros. -/
theorem tab2_eq (c : Dev nD) : V m c main_v31 = (shapeCast S8x128 (broadcastInDim S1x8x2x64 ![0, 1, 2, 3] bcast_S1x8x1x64_S1x8x2x64_0_1_2_3 (shapeCast S1x8x1x64
      (concatenate S8x64 1 [⟨S8x8, (Host.negf (val_main_v23 (F := Ideal) : FVec Ideal S8x8 .f32) : FVec Ideal S8x8 .f32)⟩, ⟨S8x8, (broadcastInDim S8x8 ![] bcast_S_S8x8 (constant S_ .f32 0x00000000#32) : FVec Ideal S8x8 .f32)⟩, ⟨S8x48, (broadcastInDim S8x48 ![] bcast_S_S8x48 (constant S_ .f32 0x00000000#32) : FVec Ideal S8x48 .f32)⟩] concatenates_S8x8_S8x8_S8x48_S8x64_d1 : FVec Ideal S8x64 .f32)
      shapeCasts_S8x64_S1x8x1x64 : FVec Ideal S1x8x1x64 .f32) : FVec Ideal S1x8x2x64 .f32) shapeCasts_S1x8x2x64_S8x128 : FVec Ideal S8x128 .f32) := rfl

/-- The second table of sines: zeros, sines and then zeros. -/
theorem tab3_eq (c : Dev nD) : V m c main_v34 = (shapeCast S8x128 (broadcastInDim S1x8x2x64 ![0, 1, 2, 3] bcast_S1x8x1x64_S1x8x2x64_0_1_2_3 (shapeCast S1x8x1x64
      (concatenate S8x64 1 [⟨S8x8, (broadcastInDim S8x8 ![] bcast_S_S8x8 (constant S_ .f32 0x00000000#32) : FVec Ideal S8x8 .f32)⟩, ⟨S8x8, (val_main_v23 (F := Ideal) : FVec Ideal S8x8 .f32)⟩, ⟨S8x48, (broadcastInDim S8x48 ![] bcast_S_S8x48 (constant S_ .f32 0x00000000#32) : FVec Ideal S8x48 .f32)⟩] concatenates_S8x8_S8x8_S8x48_S8x64_d1 : FVec Ideal S8x64 .f32)
      shapeCasts_S8x64_S1x8x1x64 : FVec Ideal S1x8x1x64 .f32) : FVec Ideal S1x8x2x64 .f32) shapeCasts_S1x8x2x64_S8x128 : FVec Ideal S8x128 .f32) := rfl

/-- An entry of the table of cosines. -/
theorem tab1_at (c : Dev nD) (n : Fin 8) (j : Fin 128) : V m c main_v28 (ix2 n j : S8x128.Idx)
    = if j.val % 64 < 8 then cosv n (j.val % 64) else if j.val % 64 < 16 then cosv n (j.val % 64 - 8) else 1 := by
  rw [tab1_eq]
  unfold cosv
  generalize val_main_v21 (F := Ideal) = X
  pointwise
  by_cases h8 : j.val % 64 < 8
  · rw [dif_pos h8, if_pos h8]
    exact at2 X _ (by dsimp only; omega)
  · rw [dif_neg h8, if_neg h8]
    by_cases h16 : j.val % 64 < 16
    · rw [dif_pos (show j.val % 64 - 8 < 8 by omega), if_pos h16]
      exact at2 X _ (by dsimp only; omega)
    · rw [dif_neg (show ¬ j.val % 64 - 8 < 8 by omega), if_neg h16]

/-- An entry of the first table of sines. -/
theorem tab2_at (c : Dev nD) (n : Fin 8) (j : Fin 128) : V m c main_v31 (ix2 n j : S8x128.Idx)
    = if j.val % 64 < 8 then -sinv n (j.val % 64) else 0 := by
  rw [tab2_eq]
  unfold sinv
  generalize val_main_v23 (F := Ideal) = X
  pointwise
  by_cases h8 : j.val % 64 < 8
  · rw [dif_pos h8, if_pos h8]
    exact congrArg (fun x : EReal => -x) (at2 X _ (by dsimp only; omega))
  · rw [dif_neg h8, if_neg h8]
    split_ifs <;> rfl

/-- An entry of the second table of sines. -/
theorem tab3_at (c : Dev nD) (n : Fin 8) (j : Fin 128) : V m c main_v34 (ix2 n j : S8x128.Idx)
    = if j.val % 64 < 8 then 0 else if j.val % 64 < 16 then sinv n (j.val % 64 - 8) else 0 := by
  rw [tab3_eq]
  unfold sinv
  generalize val_main_v23 (F := Ideal) = X
  pointwise
  by_cases h8 : j.val % 64 < 8
  · rw [dif_pos h8, if_pos h8]
  · rw [dif_neg h8, if_neg h8]
    by_cases h16 : j.val % 64 < 16
    · rw [dif_pos (show j.val % 64 - 8 < 8 by omega), if_pos h16]
      exact at2 X _ (by dsimp only; omega)
    · rw [dif_neg (show ¬ j.val % 64 - 8 < 8 by omega), if_neg h16]

end tables

end Cert.RopeSIdeal.Hand

end
-- ==== Proof.RopeSValue.lean ====
module

public import proofs.«01_k».proof.Proof.Gen.RopeSIdeal.Value
public import proofs.«01_k».proof.Proof.Gen.RopeSRefIdeal.Read
public import Idealize.ShloMosaic.Lib.Pipeline.ValueKit
public import Idealize.ShloMosaic.Lib.Pointwise
public import Idealize.ShloMosaic.Lib.Claim
public import proofs.«01_k».proof.Defs
public import proofs.«01_k».proof.Proof.RopeSSpec

@[expose] public section

set_option maxRecDepth 16384

noncomputable section

namespace Cert.RopeSIdeal.Hand

open Idealize.ShloMosaic Idealize.ShloMosaic.TcCoe Idealize.SL.Sem
open Idealize.ShloMosaic.Pipeline (Dat)
open Cert.RopeSIdeal Cert.RopeSIdeal.Gen
open Cert.RopeSRefIdeal.Read

variable (m : (ℓ : Loc nD τ sig) → Buf (Elt Ideal) ℓ)
section point

variable (m : (ℓ : Loc nD τ sig) → Buf (Elt Ideal) ℓ)

/-- A row of the staged panel is that row of the input projection's array, from column 8192 on. -/
theorem row0 (c : Dev nD) (t : Fin cfg0.N) (p : Fin 8) (k : Fin 4096) (r : Fin 64) (q : Fin 15360)
    (hr : r.val = (grid0.coords t 0).val * 8 + p.val) (hq : q.val = 8192 + k.val) :
    X0_0 m c t (ix2 p k : S8x4096.Idx) = m ((c : Thread nD τ).loc main_arg0) (ix2 r q : S64x15360.Idx) := by
  unfold X0_0 Pipeline.Window.fill
  rw [dif_pos (moved0_0 t _)]
  blk_ext [iblk, V, maps t]

/-- A row of the staged cosines is the row of the position. -/
theorem blk1 (c : Dev nD) (t : Fin cfg0.N) (p : Fin 8) (j : Fin 128) (n : Fin 8) (hn : n.val = (0) * 8 + p.val) :
    iblk m c 1 t (ix2 p j : S8x128.Idx) = V m c main_v28 (ix2 n j : S8x128.Idx) := by
  blk_ext [iblk, maps t]

/-- A row of the first staged sines is the row of the position. -/
theorem blk2 (c : Dev nD) (t : Fin cfg0.N) (p : Fin 8) (j : Fin 128) (n : Fin 8) (hn : n.val = (0) * 8 + p.val) :
    iblk m c 2 t (ix2 p j : S8x128.Idx) = V m c main_v31 (ix2 n j : S8x128.Idx) := by
  blk_ext [iblk, maps t]

/-- A row of the second staged sines is the row of the position. -/
theorem blk3 (c : Dev nD) (t : Fin cfg0.N) (p : Fin 8) (j : Fin 128) (n : Fin 8) (hn : n.val = (0) * 8 + p.val) :
    iblk m c 3 t (ix2 p j : S8x128.Idx) = V m c main_v34 (ix2 n j : S8x128.Idx) := by
  blk_ext [iblk, maps t]

/-- The kernel's sum of three products for one head, `a` columns into the panel. -/
def lin (z : Vec Ideal S8x4096 .f32) (x1 x2 x3 : Vec Ideal S8x128 .f32) (a : ℕ) (ha : a + 128 ≤ 4096) (p : Fin 8) (e : Fin 128) : EReal :=
  z (ix2 p (⟨a + e.val, by omega⟩ : Fin 4096) : S8x4096.Idx) * x1 (ix2 p e : S8x128.Idx)
    + z (ix2 p (⟨a + (e.val + 128 - 120) % 128, by omega⟩ : Fin 4096) : S8x4096.Idx) * x2 (ix2 p e : S8x128.Idx)
    + z (ix2 p (⟨a + (e.val + 128 - 8) % 128, by omega⟩ : Fin 4096) : S8x4096.Idx) * x3 (ix2 p e : S8x128.Idx)

/-- At a grid point the sum is the rotation of the head's row. -/
theorem lin_at (c : Dev nD) (t : Fin cfg0.N) (a : ℕ) (ha : a + 128 ≤ 4096) (p : Fin 8) (e : Fin 128) (r : Fin 64)
    (hr : r.val = (grid0.coords t 0).val * 8 + p.val) :
    lin (X0_0 m c t) (iblk m c 1 t) (iblk m c 2 t) (iblk m c 3 t) a ha p e
      = rot (from_ (m ((c : Thread nD τ).loc main_arg0)) r (8192 + a)) (cosv ⟨r.val % 8, by omega⟩) (sinv ⟨r.val % 8, by omega⟩) e.val := by
  have hn : r.val % 8 = (0) * 8 + p.val := by
    have : (grid0.coords t 0).val < 8 := (grid0.coords t 0).isLt
    omega
  refine Eq.trans ?_ (rot_of_tables _ _ _ e.val e.isLt _ _ _ (tab1_at m c _ e) (tab2_at m c _ e) (tab3_at m c _ e))
  unfold lin from_
  refine addc (addc ?_ ?_) ?_
  · exact mulc (row0 m c t p _ r _ hr (by dsimp only; omega)) (blk1 m c t p e ⟨r.val % 8, by omega⟩ hn)
  · exact mulc (row0 m c t p _ r _ hr (by dsimp only; omega)) (blk2 m c t p e ⟨r.val % 8, by omega⟩ hn)
  · exact mulc (row0 m c t p _ r _ hr (by dsimp only; omega)) (blk3 m c t p e ⟨r.val % 8, by omega⟩ hn)

/-- An entry of one head is named by its row and its column. -/
theorem idx2 (x : S8x128.Idx) : ∃ (i : Fin 8) (e : Fin 128), x = ix2 i e := ⟨x 0, x 1, eq_ix2 x⟩

/-- Eight heads stored side by side read as one family. -/
theorem canon_bf16 (Y : Fin 8 → Fin 8 → Fin 128 → EReal) (P0 P1 P2 P3 P4 P5 P6 P7 : S8x128.Idx → EReal)
    (H0 : ∀ i e, P0 (ix2 i e) = Y 0 i e) (H1 : ∀ i e, P1 (ix2 i e) = Y 1 i e) (H2 : ∀ i e, P2 (ix2 i e) = Y 2 i e) (H3 : ∀ i e, P3 (ix2 i e) = Y 3 i e) (H4 : ∀ i e, P4 (ix2 i e) = Y 4 i e) (H5 : ∀ i e, P5 (ix2 i e) = Y 5 i e) (H6 : ∀ i e, P6 (ix2 i e) = Y 6 i e) (H7 : ∀ i e, P7 (ix2 i e) = Y 7 i e)
    (k : Fin 8) (i : Fin 8) (e : Fin 128) (q : Fin 1024) (hq : q.val = k.val * 128 + e.val) :
    View.canon (Val := Elt Ideal) (s := S8x1024) (e := .bf16) [⟨Rect.unit ![0, 896] S8x128.size (by decide), P7⟩, ⟨Rect.unit ![0, 768] S8x128.size (by decide), P6⟩, ⟨Rect.unit ![0, 640] S8x128.size (by decide), P5⟩, ⟨Rect.unit ![0, 512] S8x128.size (by decide), P4⟩, ⟨Rect.unit ![0, 384] S8x128.size (by decide), P3⟩, ⟨Rect.unit ![0, 256] S8x128.size (by decide), P2⟩, ⟨Rect.unit ![0, 128] S8x128.size (by decide), P1⟩, ⟨Rect.unit ![0, 0] S8x128.size (by decide), P0⟩] (ix2 i q) = Y k i e := by
  canon_tiles x h
  · obtain ⟨i', e', rfl⟩ := idx2 x
    have a0 : i.val = i'.val := h0
    have a1 : q.val = 896 + e'.val := h1
    obtain rfl : i = i' := Fin.ext a0
    obtain rfl : k = 7 := Fin.ext (by show k.val = 7; omega)
    obtain rfl : e = e' := Fin.ext (by change q.val = 7 * 128 + e.val at hq; omega)
    exact H7 i e
  · obtain ⟨i', e', rfl⟩ := idx2 x
    have a0 : i.val = i'.val := h0
    have a1 : q.val = 768 + e'.val := h1
    obtain rfl : i = i' := Fin.ext a0
    obtain rfl : k = 6 := Fin.ext (by show k.val = 6; omega)
    obtain rfl : e = e' := Fin.ext (by change q.val = 6 * 128 + e.val at hq; omega)
    exact H6 i e
  · obtain ⟨i', e', rfl⟩ := idx2 x
    have a0 : i.val = i'.val := h0
    have a1 : q.val = 640 + e'.val := h1
    obtain rfl : i = i' := Fin.ext a0
    obtain rfl : k = 5 := Fin.ext (by show k.val = 5; omega)
    obtain rfl : e = e' := Fin.ext (by change q.val = 5 * 128 + e.val at hq; omega)
    exact H5 i e
  · obtain ⟨i', e', rfl⟩ := idx2 x
    have a0 : i.val = i'.val := h0
    have a1 : q.val = 512 + e'.val := h1
    obtain rfl : i = i' := Fin.ext a0
    obtain rfl : k = 4 := Fin.ext (by show k.val = 4; omega)
    obtain rfl : e = e' := Fin.ext (by change q.val = 4 * 128 + e.val at hq; omega)
    exact H4 i e
  · obtain ⟨i', e', rfl⟩ := idx2 x
    have a0 : i.val = i'.val := h0
    have a1 : q.val = 384 + e'.val := h1
    obtain rfl : i = i' := Fin.ext a0
    obtain rfl : k = 3 := Fin.ext (by show k.val = 3; omega)
    obtain rfl : e = e' := Fin.ext (by change q.val = 3 * 128 + e.val at hq; omega)
    exact H3 i e
  · obtain ⟨i', e', rfl⟩ := idx2 x
    have a0 : i.val = i'.val := h0
    have a1 : q.val = 256 + e'.val := h1
    obtain rfl : i = i' := Fin.ext a0
    obtain rfl : k = 2 := Fin.ext (by show k.val = 2; omega)
    obtain rfl : e = e' := Fin.ext (by change q.val = 2 * 128 + e.val at hq; omega)
    exact H2 i e
  · obtain ⟨i', e', rfl⟩ := idx2 x
    have a0 : i.val = i'.val := h0
    have a1 : q.val = 128 + e'.val := h1
    obtain rfl : i = i' := Fin.ext a0
    obtain rfl : k = 1 := Fin.ext (by show k.val = 1; omega)
    obtain rfl : e = e' := Fin.ext (by change q.val = 1 * 128 + e.val at hq; omega)
    exact H1 i e
  · obtain ⟨i', e', rfl⟩ := idx2 x
    have a0 : i.val = i'.val := h0
    have a1 : q.val = e'.val := h1
    obtain rfl : i = i' := Fin.ext a0
    obtain rfl : k = 0 := Fin.ext (by show k.val = 0; omega)
    obtain rfl : e = e' := Fin.ext (by change q.val = 0 * 128 + e.val at hq; omega)
    exact H0 i e

/-- Eight heads stored side by side read as one family. -/
theorem canon_f32 (Y : Fin 8 → Fin 8 → Fin 128 → EReal) (P0 P1 P2 P3 P4 P5 P6 P7 : S8x128.Idx → EReal)
    (H0 : ∀ i e, P0 (ix2 i e) = Y 0 i e) (H1 : ∀ i e, P1 (ix2 i e) = Y 1 i e) (H2 : ∀ i e, P2 (ix2 i e) = Y 2 i e) (H3 : ∀ i e, P3 (ix2 i e) = Y 3 i e) (H4 : ∀ i e, P4 (ix2 i e) = Y 4 i e) (H5 : ∀ i e, P5 (ix2 i e) = Y 5 i e) (H6 : ∀ i e, P6 (ix2 i e) = Y 6 i e) (H7 : ∀ i e, P7 (ix2 i e) = Y 7 i e)
    (k : Fin 8) (i : Fin 8) (e : Fin 128) (q : Fin 1024) (hq : q.val = k.val * 128 + e.val) :
    View.canon (Val := Elt Ideal) (s := S8x1024) (e := .f32) [⟨Rect.unit ![0, 896] S8x128.size (by decide), P7⟩, ⟨Rect.unit ![0, 768] S8x128.size (by decide), P6⟩, ⟨Rect.unit ![0, 640] S8x128.size (by decide), P5⟩, ⟨Rect.unit ![0, 512] S8x128.size (by decide), P4⟩, ⟨Rect.unit ![0, 384] S8x128.size (by decide), P3⟩, ⟨Rect.unit ![0, 256] S8x128.size (by decide), P2⟩, ⟨Rect.unit ![0, 128] S8x128.size (by decide), P1⟩, ⟨Rect.unit ![0, 0] S8x128.size (by decide), P0⟩] (ix2 i q) = Y k i e := by
  canon_tiles x h
  · obtain ⟨i', e', rfl⟩ := idx2 x
    have a0 : i.val = i'.val := h0
    have a1 : q.val = 896 + e'.val := h1
    obtain rfl : i = i' := Fin.ext a0
    obtain rfl : k = 7 := Fin.ext (by show k.val = 7; omega)
    obtain rfl : e = e' := Fin.ext (by change q.val = 7 * 128 + e.val at hq; omega)
    exact H7 i e
  · obtain ⟨i', e', rfl⟩ := idx2 x
    have a0 : i.val = i'.val := h0
    have a1 : q.val = 768 + e'.val := h1
    obtain rfl : i = i' := Fin.ext a0
    obtain rfl : k = 6 := Fin.ext (by show k.val = 6; omega)
    obtain rfl : e = e' := Fin.ext (by change q.val = 6 * 128 + e.val at hq; omega)
    exact H6 i e
  · obtain ⟨i', e', rfl⟩ := idx2 x
    have a0 : i.val = i'.val := h0
    have a1 : q.val = 640 + e'.val := h1
    obtain rfl : i = i' := Fin.ext a0
    obtain rfl : k = 5 := Fin.ext (by show k.val = 5; omega)
    obtain rfl : e = e' := Fin.ext (by change q.val = 5 * 128 + e.val at hq; omega)
    exact H5 i e
  · obtain ⟨i', e', rfl⟩ := idx2 x
    have a0 : i.val = i'.val := h0
    have a1 : q.val = 512 + e'.val := h1
    obtain rfl : i = i' := Fin.ext a0
    obtain rfl : k = 4 := Fin.ext (by show k.val = 4; omega)
    obtain rfl : e = e' := Fin.ext (by change q.val = 4 * 128 + e.val at hq; omega)
    exact H4 i e
  · obtain ⟨i', e', rfl⟩ := idx2 x
    have a0 : i.val = i'.val := h0
    have a1 : q.val = 384 + e'.val := h1
    obtain rfl : i = i' := Fin.ext a0
    obtain rfl : k = 3 := Fin.ext (by show k.val = 3; omega)
    obtain rfl : e = e' := Fin.ext (by change q.val = 3 * 128 + e.val at hq; omega)
    exact H3 i e
  · obtain ⟨i', e', rfl⟩ := idx2 x
    have a0 : i.val = i'.val := h0
    have a1 : q.val = 256 + e'.val := h1
    obtain rfl : i = i' := Fin.ext a0
    obtain rfl : k = 2 := Fin.ext (by show k.val = 2; omega)
    obtain rfl : e = e' := Fin.ext (by change q.val = 2 * 128 + e.val at hq; omega)
    exact H2 i e
  · obtain ⟨i', e', rfl⟩ := idx2 x
    have a0 : i.val = i'.val := h0
    have a1 : q.val = 128 + e'.val := h1
    obtain rfl : i = i' := Fin.ext a0
    obtain rfl : k = 1 := Fin.ext (by show k.val = 1; omega)
    obtain rfl : e = e' := Fin.ext (by change q.val = 1 * 128 + e.val at hq; omega)
    exact H1 i e
  · obtain ⟨i', e', rfl⟩ := idx2 x
    have a0 : i.val = i'.val := h0
    have a1 : q.val = e'.val := h1
    obtain rfl : i = i' := Fin.ext a0
    obtain rfl : k = 0 := Fin.ext (by show k.val = 0; omega)
    obtain rfl : e = e' := Fin.ext (by change q.val = 0 * 128 + e.val at hq; omega)
    exact H0 i e

attribute [local irreducible] X0_0 iblk

/-- The queries a grid point stores, at the rows of its panel. -/
theorem out4 (c : Dev nD) (t : Fin cfg0.N) (p : Fin 8) (q : Fin 1024) (r : Fin 64) (hr : r.val = (grid0.coords t 0).val * 8 + p.val) :
    (outsAt0 m c t).1 (ix2 p q : S8x1024.Idx) = val_main_v77 (F := Ideal) (m ((c : Thread nD τ).loc main_arg0)) (ix2 r q : S64x1024.Idx) := by
  have hG : (grid0.coords t 0).val < 8 := (grid0.coords t 0).isLt
  have hq : q.val < 1024 := q.isLt
  have key : (outsAt0 m c t).1 (ix2 p q : S8x1024.Idx)
      = (fun (k : Fin 8) (i : Fin 8) (e : Fin 128) => lin (X0_0 m c t) (iblk m c 1 t) (iblk m c 2 t) (iblk m c 3 t) (0 + k.val * 128) (by have := k.isLt; omega) i e * Ideal.ofBits .f32 0x3E000000#32) ⟨q.val / 128, by omega⟩ p ⟨q.val % 128, by omega⟩ := by
    unfold outsAt0
    frame_out
    refine canon_bf16 (fun (k : Fin 8) (i : Fin 8) (e : Fin 128) => lin (X0_0 m c t) (iblk m c 1 t) (iblk m c 2 t) (iblk m c 3 t) (0 + k.val * 128) (by have := k.isLt; omega) i e * Ideal.ofBits .f32 0x3E000000#32) _ _ _ _ _ _ _ _ ?_ ?_ ?_ ?_ ?_ ?_ ?_ ?_ ⟨q.val / 128, by omega⟩ p ⟨q.val % 128, by omega⟩ q (by show q.val = q.val / 128 * 128 + q.val % 128; omega)
    · intro i e
      show _ = lin (X0_0 m c t) (iblk m c 1 t) (iblk m c 2 t) (iblk m c 3 t) 0 (by omega) i e * Ideal.ofBits .f32 0x3E000000#32
      unfold lin
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    · intro i e
      show _ = lin (X0_0 m c t) (iblk m c 1 t) (iblk m c 2 t) (iblk m c 3 t) 128 (by omega) i e * Ideal.ofBits .f32 0x3E000000#32
      unfold lin
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    · intro i e
      show _ = lin (X0_0 m c t) (iblk m c 1 t) (iblk m c 2 t) (iblk m c 3 t) 256 (by omega) i e * Ideal.ofBits .f32 0x3E000000#32
      unfold lin
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    · intro i e
      show _ = lin (X0_0 m c t) (iblk m c 1 t) (iblk m c 2 t) (iblk m c 3 t) 384 (by omega) i e * Ideal.ofBits .f32 0x3E000000#32
      unfold lin
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    · intro i e
      show _ = lin (X0_0 m c t) (iblk m c 1 t) (iblk m c 2 t) (iblk m c 3 t) 512 (by omega) i e * Ideal.ofBits .f32 0x3E000000#32
      unfold lin
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    · intro i e
      show _ = lin (X0_0 m c t) (iblk m c 1 t) (iblk m c 2 t) (iblk m c 3 t) 640 (by omega) i e * Ideal.ofBits .f32 0x3E000000#32
      unfold lin
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    · intro i e
      show _ = lin (X0_0 m c t) (iblk m c 1 t) (iblk m c 2 t) (iblk m c 3 t) 768 (by omega) i e * Ideal.ofBits .f32 0x3E000000#32
      unfold lin
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    · intro i e
      show _ = lin (X0_0 m c t) (iblk m c 1 t) (iblk m c 2 t) (iblk m c 3 t) 896 (by omega) i e * Ideal.ofBits .f32 0x3E000000#32
      unfold lin
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
  refine key.trans (Eq.trans ?_ (ref_q _ r q).symm)
  exact mulc ((lin_at m c t _ _ p ⟨q.val % 128, by omega⟩ r hr).trans (congrArg (fun b => rot (from_ (m ((c : Thread nD τ).loc main_arg0)) r b) _ _ (q.val % 128)) (by dsimp only; omega))) rfl

/-- The keys a grid point stores, at the rows of its panel. -/
theorem out5 (c : Dev nD) (t : Fin cfg0.N) (p : Fin 8) (q : Fin 1024) (r : Fin 64) (hr : r.val = (grid0.coords t 0).val * 8 + p.val) :
    (outsAt0 m c t).2.1 (ix2 p q : S8x1024.Idx) = val_main_v78 (F := Ideal) (m ((c : Thread nD τ).loc main_arg0)) (ix2 r q : S64x1024.Idx) := by
  have hG : (grid0.coords t 0).val < 8 := (grid0.coords t 0).isLt
  have hq : q.val < 1024 := q.isLt
  have key : (outsAt0 m c t).2.1 (ix2 p q : S8x1024.Idx)
      = (fun (k : Fin 8) (i : Fin 8) (e : Fin 128) => lin (X0_0 m c t) (iblk m c 1 t) (iblk m c 2 t) (iblk m c 3 t) (1024 + k.val * 128) (by have := k.isLt; omega) i e) ⟨q.val / 128, by omega⟩ p ⟨q.val % 128, by omega⟩ := by
    unfold outsAt0
    frame_out
    refine canon_bf16 (fun (k : Fin 8) (i : Fin 8) (e : Fin 128) => lin (X0_0 m c t) (iblk m c 1 t) (iblk m c 2 t) (iblk m c 3 t) (1024 + k.val * 128) (by have := k.isLt; omega) i e) _ _ _ _ _ _ _ _ ?_ ?_ ?_ ?_ ?_ ?_ ?_ ?_ ⟨q.val / 128, by omega⟩ p ⟨q.val % 128, by omega⟩ q (by show q.val = q.val / 128 * 128 + q.val % 128; omega)
    · intro i e
      show _ = lin (X0_0 m c t) (iblk m c 1 t) (iblk m c 2 t) (iblk m c 3 t) 1024 (by omega) i e
      unfold lin
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    · intro i e
      show _ = lin (X0_0 m c t) (iblk m c 1 t) (iblk m c 2 t) (iblk m c 3 t) 1152 (by omega) i e
      unfold lin
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    · intro i e
      show _ = lin (X0_0 m c t) (iblk m c 1 t) (iblk m c 2 t) (iblk m c 3 t) 1280 (by omega) i e
      unfold lin
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    · intro i e
      show _ = lin (X0_0 m c t) (iblk m c 1 t) (iblk m c 2 t) (iblk m c 3 t) 1408 (by omega) i e
      unfold lin
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    · intro i e
      show _ = lin (X0_0 m c t) (iblk m c 1 t) (iblk m c 2 t) (iblk m c 3 t) 1536 (by omega) i e
      unfold lin
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    · intro i e
      show _ = lin (X0_0 m c t) (iblk m c 1 t) (iblk m c 2 t) (iblk m c 3 t) 1664 (by omega) i e
      unfold lin
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    · intro i e
      show _ = lin (X0_0 m c t) (iblk m c 1 t) (iblk m c 2 t) (iblk m c 3 t) 1792 (by omega) i e
      unfold lin
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    · intro i e
      show _ = lin (X0_0 m c t) (iblk m c 1 t) (iblk m c 2 t) (iblk m c 3 t) 1920 (by omega) i e
      unfold lin
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
  refine key.trans (Eq.trans ?_ (ref_kb _ r q).symm)
  exact (lin_at m c t _ _ p ⟨q.val % 128, by omega⟩ r hr).trans (congrArg (fun b => rot (from_ (m ((c : Thread nD τ).loc main_arg0)) r b) _ _ (q.val % 128)) (by dsimp only; omega))

/-- The values a grid point stores, at the rows of its panel. -/
theorem out6 (c : Dev nD) (t : Fin cfg0.N) (p : Fin 8) (q : Fin 1024) (r : Fin 64) (hr : r.val = (grid0.coords t 0).val * 8 + p.val) :
    (outsAt0 m c t).2.2.1 (ix2 p q : S8x1024.Idx) = val_main_v79 (F := Ideal) (m ((c : Thread nD τ).loc main_arg0)) (ix2 r q : S64x1024.Idx) := by
  have hG : (grid0.coords t 0).val < 8 := (grid0.coords t 0).isLt
  have hq : q.val < 1024 := q.isLt
  refine Eq.trans ?_ (ref_vb _ r q).symm
  refine Eq.trans ?_ (row0 m c t p ⟨2048 + q.val, by omega⟩ r ⟨10240 + q.val, by omega⟩ hr (by dsimp only; omega))
  unfold outsAt0
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]

/-- The keys to be kept a grid point stores, at the rows of its panel. -/
theorem out7 (c : Dev nD) (t : Fin cfg0.N) (p : Fin 8) (q : Fin 1024) (r : Fin 64) (hr : r.val = (grid0.coords t 0).val * 8 + p.val) :
    (outsAt0 m c t).2.2.2.1 (ix2 p q : S8x1024.Idx) = val_main_v75 (F := Ideal) (m ((c : Thread nD τ).loc main_arg0)) (ix2 r q : S64x1024.Idx) := by
  have hG : (grid0.coords t 0).val < 8 := (grid0.coords t 0).isLt
  have hq : q.val < 1024 := q.isLt
  have key : (outsAt0 m c t).2.2.2.1 (ix2 p q : S8x1024.Idx)
      = (fun (k : Fin 8) (i : Fin 8) (e : Fin 128) => lin (X0_0 m c t) (iblk m c 1 t) (iblk m c 2 t) (iblk m c 3 t) (1024 + k.val * 128) (by have := k.isLt; omega) i e) ⟨q.val / 128, by omega⟩ p ⟨q.val % 128, by omega⟩ := by
    unfold outsAt0
    frame_out
    refine canon_f32 (fun (k : Fin 8) (i : Fin 8) (e : Fin 128) => lin (X0_0 m c t) (iblk m c 1 t) (iblk m c 2 t) (iblk m c 3 t) (1024 + k.val * 128) (by have := k.isLt; omega) i e) _ _ _ _ _ _ _ _ ?_ ?_ ?_ ?_ ?_ ?_ ?_ ?_ ⟨q.val / 128, by omega⟩ p ⟨q.val % 128, by omega⟩ q (by show q.val = q.val / 128 * 128 + q.val % 128; omega)
    · intro i e
      show _ = lin (X0_0 m c t) (iblk m c 1 t) (iblk m c 2 t) (iblk m c 3 t) 1024 (by omega) i e
      unfold lin
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    · intro i e
      show _ = lin (X0_0 m c t) (iblk m c 1 t) (iblk m c 2 t) (iblk m c 3 t) 1152 (by omega) i e
      unfold lin
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    · intro i e
      show _ = lin (X0_0 m c t) (iblk m c 1 t) (iblk m c 2 t) (iblk m c 3 t) 1280 (by omega) i e
      unfold lin
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    · intro i e
      show _ = lin (X0_0 m c t) (iblk m c 1 t) (iblk m c 2 t) (iblk m c 3 t) 1408 (by omega) i e
      unfold lin
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    · intro i e
      show _ = lin (X0_0 m c t) (iblk m c 1 t) (iblk m c 2 t) (iblk m c 3 t) 1536 (by omega) i e
      unfold lin
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    · intro i e
      show _ = lin (X0_0 m c t) (iblk m c 1 t) (iblk m c 2 t) (iblk m c 3 t) 1664 (by omega) i e
      unfold lin
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    · intro i e
      show _ = lin (X0_0 m c t) (iblk m c 1 t) (iblk m c 2 t) (iblk m c 3 t) 1792 (by omega) i e
      unfold lin
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
    · intro i e
      show _ = lin (X0_0 m c t) (iblk m c 1 t) (iblk m c 2 t) (iblk m c 3 t) 1920 (by omega) i e
      unfold lin
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]
  refine key.trans (Eq.trans ?_ (ref_k _ r q).symm)
  exact (lin_at m c t _ _ p ⟨q.val % 128, by omega⟩ r hr).trans (congrArg (fun b => rot (from_ (m ((c : Thread nD τ).loc main_arg0)) r b) _ _ (q.val % 128)) (by dsimp only; omega))

/-- The values to be kept a grid point stores, at the rows of its panel. -/
theorem out8 (c : Dev nD) (t : Fin cfg0.N) (p : Fin 8) (q : Fin 1024) (r : Fin 64) (hr : r.val = (grid0.coords t 0).val * 8 + p.val) :
    (outsAt0 m c t).2.2.2.2 (ix2 p q : S8x1024.Idx) = val_main_v76 (F := Ideal) (m ((c : Thread nD τ).loc main_arg0)) (ix2 r q : S64x1024.Idx) := by
  have hG : (grid0.coords t 0).val < 8 := (grid0.coords t 0).isLt
  have hq : q.val < 1024 := q.isLt
  refine Eq.trans ?_ (ref_v _ r q).symm
  refine Eq.trans ?_ (row0 m c t p ⟨2048 + q.val, by omega⟩ r ⟨10240 + q.val, by omega⟩ hr (by dsimp only; omega))
  unfold outsAt0
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36]

/-- What the kernel leaves in the queries' array: the reference's. -/
theorem final4 (c : Dev nD) : (dats m 0 c).arrAt 4 (cfgs 0).N
    = val_main_v77 (F := Ideal) (m ((c : Thread nD τ).loc main_arg0)) := by
  refine (dats m 0 c).arrAt_eq_of_covers 4 _ (by decide +kernel) fun t hf y => ?_
  blk_simp
  rw [after0_4]
  generalize hj : ((cfg0.win 4).blk t).view.emb y = j
  have hj0 : (j 0).val = (grid0.coords t 0).val * 8 + (y 0).val := by
    rw [← hj]; blk_simp [maps t]
  have hj1 : j 1 = y 1 := by
    rw [← hj]; refine Fin.ext ?_; blk_simp [maps t]
  refine (congrArg _ (eq_ix2 y)).trans ((out4 m c t (y 0) (y 1) (j 0) hj0).trans ?_)
  rw [← hj1]
  exact (congrArg _ (eq_ix2 j)).symm

/-- What the kernel leaves in the keys' array: the reference's. -/
theorem final5 (c : Dev nD) : (dats m 0 c).arrAt 5 (cfgs 0).N
    = val_main_v78 (F := Ideal) (m ((c : Thread nD τ).loc main_arg0)) := by
  refine (dats m 0 c).arrAt_eq_of_covers 5 _ (by decide +kernel) fun t hf y => ?_
  blk_simp
  rw [after0_5]
  generalize hj : ((cfg0.win 5).blk t).view.emb y = j
  have hj0 : (j 0).val = (grid0.coords t 0).val * 8 + (y 0).val := by
    rw [← hj]; blk_simp [maps t]
  have hj1 : j 1 = y 1 := by
    rw [← hj]; refine Fin.ext ?_; blk_simp [maps t]
  refine (congrArg _ (eq_ix2 y)).trans ((out5 m c t (y 0) (y 1) (j 0) hj0).trans ?_)
  rw [← hj1]
  exact (congrArg _ (eq_ix2 j)).symm

/-- What the kernel leaves in the values' array: the reference's. -/
theorem final6 (c : Dev nD) : (dats m 0 c).arrAt 6 (cfgs 0).N
    = val_main_v79 (F := Ideal) (m ((c : Thread nD τ).loc main_arg0)) := by
  refine (dats m 0 c).arrAt_eq_of_covers 6 _ (by decide +kernel) fun t hf y => ?_
  blk_simp
  rw [after0_6]
  generalize hj : ((cfg0.win 6).blk t).view.emb y = j
  have hj0 : (j 0).val = (grid0.coords t 0).val * 8 + (y 0).val := by
    rw [← hj]; blk_simp [maps t]
  have hj1 : j 1 = y 1 := by
    rw [← hj]; refine Fin.ext ?_; blk_simp [maps t]
  refine (congrArg _ (eq_ix2 y)).trans ((out6 m c t (y 0) (y 1) (j 0) hj0).trans ?_)
  rw [← hj1]
  exact (congrArg _ (eq_ix2 j)).symm

/-- What the kernel leaves in the kept keys' array: the reference's. -/
theorem final7 (c : Dev nD) : (dats m 0 c).arrAt 7 (cfgs 0).N
    = val_main_v75 (F := Ideal) (m ((c : Thread nD τ).loc main_arg0)) := by
  refine (dats m 0 c).arrAt_eq_of_covers 7 _ (by decide +kernel) fun t hf y => ?_
  blk_simp
  rw [after0_7]
  generalize hj : ((cfg0.win 7).blk t).view.emb y = j
  have hj0 : (j 0).val = (grid0.coords t 0).val * 8 + (y 0).val := by
    rw [← hj]; blk_simp [maps t]
  have hj1 : j 1 = y 1 := by
    rw [← hj]; refine Fin.ext ?_; blk_simp [maps t]
  refine (congrArg _ (eq_ix2 y)).trans ((out7 m c t (y 0) (y 1) (j 0) hj0).trans ?_)
  rw [← hj1]
  exact (congrArg _ (eq_ix2 j)).symm

/-- What the kernel leaves in the kept values' array: the reference's. -/
theorem final8 (c : Dev nD) : (dats m 0 c).arrAt 8 (cfgs 0).N
    = val_main_v76 (F := Ideal) (m ((c : Thread nD τ).loc main_arg0)) := by
  refine (dats m 0 c).arrAt_eq_of_covers 8 _ (by decide +kernel) fun t hf y => ?_
  blk_simp
  rw [after0_8]
  generalize hj : ((cfg0.win 8).blk t).view.emb y = j
  have hj0 : (j 0).val = (grid0.coords t 0).val * 8 + (y 0).val := by
    rw [← hj]; blk_simp [maps t]
  have hj1 : j 1 = y 1 := by
    rw [← hj]; refine Fin.ext ?_; blk_simp [maps t]
  refine (congrArg _ (eq_ix2 y)).trans ((out8 m c t (y 0) (y 1) (j 0) hj0).trans ?_)
  rw [← hj1]
  exact (congrArg _ (eq_ix2 j)).symm

/-- The reference's run, its results as the stages of its program. -/
theorem ref_run (m' : (ℓ : Loc Cert.RopeSRefIdeal.nD Cert.RopeSRefIdeal.τ Cert.RopeSRefIdeal.sig) → Buf (Elt Ideal) ℓ) (g' : Dev Cert.RopeSRefIdeal.nD → PrngReg) :
    θ_run Cert.RopeSRefIdeal.defs (onTc (τ := Cert.RopeSRefIdeal.τ) (Cert.RopeSRefIdeal.main (F := Ideal))) ⟨m', fun _ => 0, g'⟩
      fun r => ∀ c : Dev Cert.RopeSRefIdeal.nD,
        r.2.mem ((c.tc : Thread _ _).loc Cert.RopeSRefIdeal.main_v77) = val_main_v77 (F := Ideal) (m' ((c.tc : Thread _ _).loc Cert.RopeSRefIdeal.main_arg0))
        ∧ r.2.mem ((c.tc : Thread _ _).loc Cert.RopeSRefIdeal.main_v78) = val_main_v78 (F := Ideal) (m' ((c.tc : Thread _ _).loc Cert.RopeSRefIdeal.main_arg0))
        ∧ r.2.mem ((c.tc : Thread _ _).loc Cert.RopeSRefIdeal.main_v79) = val_main_v79 (F := Ideal) (m' ((c.tc : Thread _ _).loc Cert.RopeSRefIdeal.main_arg0))
        ∧ r.2.mem ((c.tc : Thread _ _).loc Cert.RopeSRefIdeal.main_v75) = val_main_v75 (F := Ideal) (m' ((c.tc : Thread _ _).loc Cert.RopeSRefIdeal.main_arg0))
        ∧ r.2.mem ((c.tc : Thread _ _).loc Cert.RopeSRefIdeal.main_v76) = val_main_v76 (F := Ideal) (m' ((c.tc : Thread _ _).loc Cert.RopeSRefIdeal.main_arg0))
        ∧ r.2.mem ((c.tc : Thread _ _).loc Cert.RopeSRefIdeal.main_arg0) = m' ((c.tc : Thread _ _).loc Cert.RopeSRefIdeal.main_arg0) :=
  (θ_run _ _ _).mono (fun r h c => ⟨(h c).1.trans (val_main_v77_eq _ _), (h c).2.1.trans (val_main_v78_eq _ _), (h c).2.2.1.trans (val_main_v79_eq _), (h c).2.2.2.1.trans (val_main_v75_eq _ _), (h c).2.2.2.2.1.trans (val_main_v76_eq _), (h c).2.2.2.2.2⟩) (Cert.RopeSRefIdeal.Value.run m' g')

/-- The kernel's run, its results named by the reference's. -/
theorem ker_run (ρ : Dev nD → PrngReg) : θ_run defs (onTc (τ := τ) (main (F := Ideal))) ⟨m, fun _ => 0, ρ⟩ fun r => ∀ c : Dev nD,
      r.2.mem ((c : Thread nD τ).loc main_v35_0) = val_main_v77 (F := Ideal) (m ((c : Thread nD τ).loc main_arg0))
      ∧ r.2.mem ((c : Thread nD τ).loc main_v35_1) = val_main_v78 (F := Ideal) (m ((c : Thread nD τ).loc main_arg0))
      ∧ r.2.mem ((c : Thread nD τ).loc main_v35_2) = val_main_v79 (F := Ideal) (m ((c : Thread nD τ).loc main_arg0))
      ∧ r.2.mem ((c : Thread nD τ).loc main_v35_3) = val_main_v75 (F := Ideal) (m ((c : Thread nD τ).loc main_arg0))
      ∧ r.2.mem ((c : Thread nD τ).loc main_v35_4) = val_main_v76 (F := Ideal) (m ((c : Thread nD τ).loc main_arg0))
      ∧ r.2.mem ((c : Thread nD τ).loc main_arg0) = m ((c : Thread nD τ).loc main_arg0) :=
  (θ_run defs _ _).mono (fun r h c => ⟨(h c).1.trans (final4 m c), (h c).2.1.trans (final5 m c), (h c).2.2.1.trans (final6 m c), (h c).2.2.2.1.trans (final7 m c), (h c).2.2.2.2.1.trans (final8 m c), (h c).2.2.2.2.2⟩) (Cert.RopeSIdeal.Value.run_blocks m ρ)

attribute [local irreducible] val_main_v77 val_main_v78 val_main_v79 val_main_v75 val_main_v76

/-- The rotation: the kernel and the reference end with equal queries, keys and values. -/
theorem algebraic : Cert.algebraic_RopeSIdeal_RopeSRefIdeal := by
  pair_intro
  · run_from ker_run m g
  · run_from ref_run m' g'

end point
end Cert.RopeSIdeal.Hand

end
-- ==== Proof.ConvaValue.lean ====
module

public import proofs.«01_k».proof.Proof.Gen.ConvaIdeal.Value
public import proofs.«01_k».proof.Proof.Gen.ConvaRefIdeal.Read
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Lib.KernelVsHost
public import proofs.«01_k».proof.Defs

@[expose] public section

set_option maxRecDepth 16384

noncomputable section

namespace Cert.ConvaIdeal.Hand

open Idealize.ShloMosaic Idealize.ShloMosaic.TcCoe Idealize.SL.Sem
open Idealize.ShloMosaic.Pipeline (Dat)
open Cert.ConvaIdeal Cert.ConvaIdeal.Gen
open Cert.ConvaRefIdeal.Read

variable (m : (ℓ : Loc nD τ sig) → Buf (Elt Ideal) ℓ)

/-- Which block each window shows at a grid point: row panel `g0 * 8 + g1` of the input projection's array and of the
    result, the state and the tail of sequence `g0`, and the whole array of taps. -/
theorem maps : ∀ t : Fin cfg0.N, win0_0.index t = ![(grid0.coords t 0).val * 8 + (grid0.coords t 1).val, 0]
    ∧ win0_1.index t = ![(grid0.coords t 0).val, 0, 0]
    ∧ win0_2.index t = ![0, 0]
    ∧ win0_3.index t = ![(grid0.coords t 0).val * 8 + (grid0.coords t 1).val, 0]
    ∧ win0_4.index t = ![(grid0.coords t 0).val, 0, 0] :=
  (by decide +kernel : ∀ t : Fin grid0.N, _)

/-- The grid runs through the tiles of a sequence, sequence after sequence. -/
theorem coords_at : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

section spec

variable (Z : FVec Ideal S8192x15360 .f32) (B : FVec Ideal S4x2x1024 .f32) (W : FVec Ideal S3x1024 .f32)

/-- What the convolution reads at a row: the product of two of the branch's four columns. -/
def gated (r : Fin 8192) (d : Fin 1024) : EReal :=
  Z (ix2 r (⟨2048 + d.val, by omega⟩ : Fin 15360) : S8192x15360.Idx) * Z (ix2 r (⟨d.val, by omega⟩ : Fin 15360) : S8192x15360.Idx)

/-- A sequence's stream: the two entries of its state and then its rows. -/
def stream (s : Fin 4) (n : ℕ) (d : Fin 1024) : EReal :=
  if h : n < 2 then B (ix3 s (⟨n, h⟩ : Fin 2) d : S4x2x1024.Idx)
  else gated Z ⟨(s.val * 2048 + (n - 2)) % 8192, Nat.mod_lt _ (by decide)⟩ d

/-- One entry of the branch, from the three entries of the stream it reads. -/
def mixed (u0 u1 u2 : EReal) (r : Fin 8192) (d : Fin 1024) : EReal :=
  Z (ix2 r (⟨1024 + d.val, by omega⟩ : Fin 15360) : S8192x15360.Idx)
    * (u0 * W (ix2 (0 : Fin 3) d : S3x1024.Idx) + u1 * W (ix2 (1 : Fin 3) d : S3x1024.Idx) + u2 * W (ix2 (2 : Fin 3) d : S3x1024.Idx))
    * (Z (ix2 r (⟨3072 + d.val, by omega⟩ : Fin 15360) : S8192x15360.Idx)
      * Ideal.logistic (Z (ix2 r (⟨3072 + d.val, by omega⟩ : Fin 15360) : S8192x15360.Idx)))

/-- An entry of the stream at one of a sequence's rows. -/
theorem stream_row (s : Fin 4) (n : ℕ) (d : Fin 1024) (r : Fin 8192) (hn : 2 ≤ n) (hr : r.val = s.val * 2048 + (n - 2)) :
    stream Z B s n d = gated Z r d := by
  unfold stream
  rw [dif_neg (by omega)]
  exact congrArg (fun x => gated Z x d) (Fin.ext (by show (s.val * 2048 + (n - 2)) % 8192 = r.val; omega))

/-- An entry of the stream in the state. -/
theorem stream_state (s : Fin 4) (i : Fin 2) (n : ℕ) (d : Fin 1024) (hn : n = i.val) :
    stream Z B s n d = B (ix3 s i d : S4x2x1024.Idx) := by
  subst hn
  unfold stream
  rw [dif_pos i.isLt]

/-- The sum of three products, from the last to the first. -/
theorem sum3 (a b c x y z : EReal) : c * z + b * y + a * x = x * a + y * b + z * c := by
  rw [mul_comm c, mul_comm b, mul_comm a, add_comm, add_comm (z * c), ← add_assoc]

/-- An entry of the reference's stream. -/
theorem full_at (s : Fin 4) (n : Fin 2050) (d : Fin 1024) :
    val_main_v7 (F := Ideal) Z B (ix3 s n d : Cert.ConvaRefIdeal.S4x2050x1024.Idx) = stream Z B s n.val d := by
  unfold val_main_v7
  by_cases h : n.val < 2
  · unfold stream
    rw [dif_pos h]
    pointwise
    rw [dif_pos h]
  · rw [stream_row Z B s n.val d ⟨s.val * 2048 + (n.val - 2), by omega⟩ (by omega) rfl]
    pointwise
    rw [dif_neg h]
    unfold gated
    pointwise [val_main_v6, val_main_v4, val_main_v2, val_main_v1, val_main_v0]

/-- An entry of the reference's tail. -/
theorem ref_tail (s : Fin 4) (j : Fin 8) (d : Fin 1024) :
    val_main_v33 (F := Ideal) Z B (ix3 s j d : S4x8x1024.Idx) = stream Z B s (2042 + j.val) d := by
  refine Eq.trans ?_ (full_at Z B s ⟨2042 + j.val, by omega⟩ d)
  unfold val_main_v33
  generalize val_main_v7 (F := Ideal) Z B = X
  pointwise

/-- An entry of the reference's branch. -/
theorem ref_out (r : Fin 8192) (d : Fin 1024) :
    val_main_v32 (F := Ideal) Z B W (ix2 r d : S8192x1024.Idx)
      = mixed Z W (stream Z B ⟨r.val / 2048, by omega⟩ (r.val % 2048) d) (stream Z B ⟨r.val / 2048, by omega⟩ (1 + r.val % 2048) d)
          (stream Z B ⟨r.val / 2048, by omega⟩ (2 + r.val % 2048) d) r d := by
  rw [← full_at Z B ⟨r.val / 2048, by omega⟩ ⟨r.val % 2048, by omega⟩ d, ← full_at Z B ⟨r.val / 2048, by omega⟩ ⟨1 + r.val % 2048, by omega⟩ d,
    ← full_at Z B ⟨r.val / 2048, by omega⟩ ⟨2 + r.val % 2048, by omega⟩ d]
  unfold mixed val_main_v32 val_main_v31 val_main_v30 val_main_v28 val_main_v27 val_main_v26 val_main_v21 val_main_v20 val_main_v19 val_main_v14 val_main_v13 val_main_v8
  generalize val_main_v7 (F := Ideal) Z B = X
  pointwise [val_main_v29, val_main_v25, val_main_v24, val_main_v23, val_main_v22, val_main_v18, val_main_v17, val_main_v16, val_main_v15, val_main_v12, val_main_v11, val_main_v10, val_main_v9, val_main_v3, val_main_v5, val_main_v1, val_main_v0, val_main_call0_v5, val_main_call0_v4, val_main_call0_v3, val_main_call0_v2, val_main_call0_v1, val_main_call0_v0, val_main_call0_cst, val_main_call0_cst_0]
  rfl

end spec

section payload

variable (z : Vec Ideal S256x4096 .f32) (v9 : Vec Ideal S8x1024 .f32) (w : Vec Ideal S3x1024 .f32)

/-- A row of a tile's stream. -/
theorem gate_at (p : Fin 256) (d : Fin 1024) : k0_pay3 (F := Ideal) z (ix2 p d : S256x1024.Idx)
    = z (ix2 p (⟨2048 + d.val, by omega⟩ : Fin 4096) : S256x4096.Idx) * z (ix2 p (⟨d.val, by omega⟩ : Fin 4096) : S256x4096.Idx) := by
  pointwise [k0_pay3]

/-- An entry of what a tile stores, from the entries of the stream it reads: `u 0` and `u 1` are the carried ones. -/
theorem pay_at (d : Fin 1024) (u : ℕ → EReal) (h0 : v9 (ix2 (6 : Fin 8) d : S8x1024.Idx) = u 0) (h1 : v9 (ix2 (7 : Fin 8) d : S8x1024.Idx) = u 1)
    (h2 : ∀ p : Fin 256, k0_pay3 (F := Ideal) z (ix2 p d : S256x1024.Idx) = u (2 + p.val)) (p : Fin 256) :
    k0_pay4 (F := Ideal) z v9 w (ix2 p d : S256x1024.Idx)
      = z (ix2 p (⟨1024 + d.val, by omega⟩ : Fin 4096) : S256x4096.Idx)
        * (u p.val * w (ix2 (0 : Fin 3) d : S3x1024.Idx) + u (1 + p.val) * w (ix2 (1 : Fin 3) d : S3x1024.Idx) + u (2 + p.val) * w (ix2 (2 : Fin 3) d : S3x1024.Idx))
        * (z (ix2 p (⟨3072 + d.val, by omega⟩ : Fin 4096) : S256x4096.Idx)
          * Ideal.logistic (z (ix2 p (⟨3072 + d.val, by omega⟩ : Fin 4096) : S256x4096.Idx))) := by
  pointwise [k0_pay4]
  refine congrArg₂ (· * ·) (congrArg _ ?_) rfl
  refine Eq.trans ?_ (sum3 _ _ _ _ _ _)
  refine congrArg₂ (· + ·) (congrArg₂ (· + ·) (congrArg _ (h2 p)) (congrArg _ ?_)) (congrArg _ ?_)
  · by_cases h : (8 + p.val + 264 - 1) % 264 < 8
    · rw [dif_pos h]
      refine Eq.trans (congrArg v9 ((ix2_inj ..).2 ⟨Fin.ext ?_, rfl⟩)) (h1.trans (congrArg u ?_))
      · show (8 + p.val + 264 - 1) % 264 = 7
        omega
      · omega
    · rw [dif_neg h]
      refine (h2 ⟨(8 + p.val + 264 - 1) % 264 - 8, by omega⟩).trans (congrArg u ?_)
      show 2 + ((8 + p.val + 264 - 1) % 264 - 8) = 1 + p.val
      omega
  · by_cases h : (8 + p.val + 264 - 2) % 264 < 8
    · rw [dif_pos h]
      by_cases hp : p.val = 0
      · refine Eq.trans (congrArg v9 ((ix2_inj ..).2 ⟨Fin.ext ?_, rfl⟩)) (h0.trans (congrArg u ?_))
        · show (8 + p.val + 264 - 2) % 264 = 6
          omega
        · omega
      · refine Eq.trans (congrArg v9 ((ix2_inj ..).2 ⟨Fin.ext ?_, rfl⟩)) (h1.trans (congrArg u ?_))
        · show (8 + p.val + 264 - 2) % 264 = 7
          omega
        · omega
    · rw [dif_neg h]
      refine (h2 ⟨(8 + p.val + 264 - 2) % 264 - 8, by omega⟩).trans (congrArg u ?_)
      show 2 + ((8 + p.val + 264 - 2) % 264 - 8) = p.val
      omega

/-- What a tile leaves to the next one: its last eight rows. -/
theorem pay_carry (j : Fin 8) (d : Fin 1024) : k0_pay6 (F := Ideal) z (ix2 j d : S8x1024.Idx)
    = k0_pay3 (F := Ideal) z (ix2 (⟨248 + j.val, by omega⟩ : Fin 256) d : S256x1024.Idx) := by
  pointwise [k0_pay6, k0_pay5]

/-- What a tile writes out as its tail: its last eight rows. -/
theorem pay_tail (j : Fin 8) (d : Fin 1024) : k0_pay1 (F := Ideal) (k0_pay5 (F := Ideal) z) (ix3 (0 : Fin 1) j d : S1x8x1024.Idx)
    = k0_pay3 (F := Ideal) z (ix2 (⟨248 + j.val, by omega⟩ : Fin 256) d : S256x1024.Idx) := by
  pointwise [k0_pay1, k0_pay5]

/-- The state a sequence begins with. -/
theorem pay_state (x : Vec Ideal S1x8x1024 .f32) (j : Fin 8) (d : Fin 1024) : k0_pay2 (F := Ideal) x (ix2 j d : S8x1024.Idx)
    = x (ix3 (0 : Fin 1) j d : S1x8x1024.Idx) := by
  pointwise [k0_pay2]

end payload

section memory

variable (m : (ℓ : Loc nD τ sig) → Buf (Elt Ideal) ℓ)

/-- The state tile the call stages: six zero rows and the state. -/
theorem state_eq (c : Dev nD) : V m c main_v1
    = (concatenate S4x8x1024 1 [⟨S4x6x1024, (broadcastInDim S4x6x1024 ![] bcast_S_S4x6x1024 (constant S_ .f32 0x00000000#32) : FVec Ideal S4x6x1024 .f32)⟩,
        ⟨S4x2x1024, (m ((c : Thread nD τ).loc main_arg1) : FVec Ideal S4x2x1024 .f32)⟩] concatenates_S4x6x1024_S4x2x1024_S4x8x1024_d1
        : FVec Ideal S4x8x1024 .f32) := rfl

/-- The last two rows of the state tile are the state. -/
theorem state_at (c : Dev nD) (s : Fin 4) (j : Fin 8) (i : Fin 2) (hj : j.val = 6 + i.val) (d : Fin 1024) :
    V m c main_v1 (ix3 s j d : S4x8x1024.Idx) = m ((c : Thread nD τ).loc main_arg1) (ix3 s i d : S4x2x1024.Idx) := by
  rw [state_eq]
  generalize m ((c : Thread nD τ).loc main_arg1) = X
  pointwise
  rw [dif_neg (by omega)]
  exact congrArg X ((ix3_inj ..).2 ⟨rfl, Fin.ext (by show j.val - 6 = i.val; omega), rfl⟩)

/-- A row of the staged panel is that row of the input projection's array. -/
theorem row0 (c : Dev nD) (t : Fin cfg0.N) (p : Fin 256) (k : Fin 4096) (r : Fin 8192) (q : Fin 15360)
    (hr : r.val = ((grid0.coords t 0).val * 8 + (grid0.coords t 1).val) * 256 + p.val) (hq : q.val = k.val) :
    X0_0 m c t (ix2 p k : S256x4096.Idx) = m ((c : Thread nD τ).loc main_arg0) (ix2 r q : S8192x15360.Idx) := by
  unfold X0_0 Pipeline.Window.fill
  rw [dif_pos (moved0_0 t _)]
  blk_ext [iblk, V, maps t]

/-- The staged state is the sequence's. -/
theorem blk1 (c : Dev nD) (t : Fin cfg0.N) (s : Fin 4) (hs : s.val = (grid0.coords t 0).val) (j : Fin 8) (i : Fin 2)
    (hj : j.val = 6 + i.val) (d : Fin 1024) :
    iblk m c 1 t (ix3 (0 : Fin 1) j d : S1x8x1024.Idx) = m ((c : Thread nD τ).loc main_arg1) (ix3 s i d : S4x2x1024.Idx) := by
  refine Eq.trans ?_ (state_at m c s j i hj d)
  blk_ext [iblk, maps t]

/-- The staged taps are the argument. -/
theorem blk2 (c : Dev nD) (t : Fin cfg0.N) (a : Fin 3) (d : Fin 1024) :
    iblk m c 2 t (ix2 a d : S3x1024.Idx) = m ((c : Thread nD τ).loc main_arg2) (ix2 a d : S3x1024.Idx) := by
  blk_ext [iblk, V, maps t]

/-- The stream of a sequence, of the arguments. -/
abbrev strm (c : Dev nD) (s : Fin 4) (n : ℕ) (d : Fin 1024) : EReal :=
  stream (m ((c : Thread nD τ).loc main_arg0)) (m ((c : Thread nD τ).loc main_arg1)) s n d

section point

variable (c : Dev nD) (t : Fin cfg0.N) (s : Fin 4) (n : Fin 8) (ht : t.val = s.val * 8 + n.val)

include ht

/-- Where a tile's rows are. -/
theorem row_val (p : Fin 256) : ((grid0.coords t 0).val * 8 + (grid0.coords t 1).val) * 256 + p.val = s.val * 2048 + (n.val * 256 + p.val) := by
  rw [(coords_at t).1, (coords_at t).2]
  omega

/-- A tile's gated rows are entries of the stream. -/
theorem gated_at (p : Fin 256) (d : Fin 1024) :
    k0_pay3 (F := Ideal) (X0_0 m c t) (ix2 p d : S256x1024.Idx) = strm m c s (n.val * 256 + (2 + p.val)) d := by
  rw [gate_at]
  have e := row_val t s n ht p
  refine Eq.trans ?_ (stream_row _ _ s _ d ⟨s.val * 2048 + (n.val * 256 + p.val), by omega⟩ (by omega) (by show s.val * 2048 + (n.val * 256 + p.val) = s.val * 2048 + (n.val * 256 + (2 + p.val) - 2); omega)).symm
  unfold gated
  exact congrArg₂ (· * ·) (row0 m c t p _ _ _ e.symm rfl) (row0 m c t p _ _ _ e.symm rfl)

/-- What a tile stores, from what was carried into it. -/
theorem out_spec (v9 : Vec Ideal S8x1024 .f32) (p : Fin 256) (d : Fin 1024) (h0 : v9 (ix2 (6 : Fin 8) d : S8x1024.Idx) = strm m c s (n.val * 256) d)
    (h1 : v9 (ix2 (7 : Fin 8) d : S8x1024.Idx) = strm m c s (n.val * 256 + 1) d) (r : Fin 8192) (hr : r.val = s.val * 2048 + (n.val * 256 + p.val)) :
    k0_pay4 (F := Ideal) (X0_0 m c t) v9 (iblk m c 2 t) (ix2 p d : S256x1024.Idx)
      = val_main_v32 (F := Ideal) (m ((c : Thread nD τ).loc main_arg0)) (m ((c : Thread nD τ).loc main_arg1)) (m ((c : Thread nD τ).loc main_arg2)) (ix2 r d : S8192x1024.Idx) := by
  rw [ref_out, pay_at (X0_0 m c t) v9 (iblk m c 2 t) d (fun i => strm m c s (n.val * 256 + i) d) h0 h1 (fun p => gated_at m c t s n ht p d) p]
  have e := row_val t s n ht p
  have es : s = ⟨r.val / 2048, by omega⟩ := Fin.ext (by show s.val = r.val / 2048; omega)
  unfold mixed
  refine Ideal.mul_congr (Ideal.mul_congr (row0 m c t p _ _ _ (hr.trans e.symm) rfl) (Ideal.add_congr (Ideal.add_congr (Ideal.mul_congr ?_ (blk2 m c t 0 d)) (Ideal.mul_congr ?_ (blk2 m c t 1 d))) (Ideal.mul_congr ?_ (blk2 m c t 2 d))))
    (Ideal.mul_congr (row0 m c t p _ _ _ (hr.trans e.symm) rfl) (congrArg Ideal.logistic (row0 m c t p _ _ _ (hr.trans e.symm) rfl)))
  · exact congrArg₂ (fun s n => strm m c s n d) es (by omega)
  · exact congrArg₂ (fun s n => strm m c s n d) es (by omega)
  · exact congrArg₂ (fun s n => strm m c s n d) es (by omega)

/-- The first tile of a sequence stores the reference's rows. -/
theorem outA (h0 : t.val % 8 = 0) (p : Fin 256) (d : Fin 1024) (r : Fin 8192) (hr : r.val = s.val * 2048 + (n.val * 256 + p.val)) :
    (outsAt0 m c t.val t.isLt).1 (ix2 p d : S256x1024.Idx)
      = val_main_v32 (F := Ideal) (m ((c : Thread nD τ).loc main_arg0)) (m ((c : Thread nD τ).loc main_arg1)) (m ((c : Thread nD τ).loc main_arg2)) (ix2 r d : S8192x1024.Idx) := by
  rw [outsAt0_A m c t h0]
  have hn : n.val = 0 := by omega
  have hs : s.val = (grid0.coords t 0).val := by rw [(coords_at t).1]; omega
  frame_out
  refine out_spec m c t s n ht _ p d ?_ ?_ r hr
  · exact (pay_state _ 6 d).trans ((blk1 m c t s hs 6 0 rfl d).trans (stream_state _ _ s 0 _ d (by show n.val * 256 = 0; omega)).symm)
  · exact (pay_state _ 7 d).trans ((blk1 m c t s hs 7 1 rfl d).trans (stream_state _ _ s 1 _ d (by show n.val * 256 + 1 = 1; omega)).symm)

/-- A later tile of a sequence stores the reference's rows. -/
theorem outB (h0 : ¬t.val % 8 = 0) (hc : ∀ (j : Fin 8) (d : Fin 1024), (outsAt0 m c (t.val - 1) (Nat.lt_of_le_of_lt (Nat.sub_le t.val 1) t.isLt)).2.2 (ix2 j d : S8x1024.Idx)
      = strm m c s ((n.val - 1) * 256 + 250 + j.val) d)
    (p : Fin 256) (d : Fin 1024) (r : Fin 8192) (hr : r.val = s.val * 2048 + (n.val * 256 + p.val)) :
    (outsAt0 m c t.val t.isLt).1 (ix2 p d : S256x1024.Idx)
      = val_main_v32 (F := Ideal) (m ((c : Thread nD τ).loc main_arg0)) (m ((c : Thread nD τ).loc main_arg1)) (m ((c : Thread nD τ).loc main_arg2)) (ix2 r d : S8192x1024.Idx) := by
  rw [outsAt0_B m c t h0]
  have hn : 0 < n.val := by omega
  frame_out
  refine out_spec m c t s n ht _ p d ?_ ?_ r hr
  · refine (congrFun ((Memref.isWhole_whole cc0_scratch0).read_unread _) _).trans ((hc 6 d).trans (congrArg (fun n => strm m c s n d) ?_))
    show (n.val - 1) * 256 + 250 + 6 = n.val * 256
    omega
  · refine (congrFun ((Memref.isWhole_whole cc0_scratch0).read_unread _) _).trans ((hc 7 d).trans (congrArg (fun n => strm m c s n d) ?_))
    show (n.val - 1) * 256 + 250 + 7 = n.val * 256 + 1
    omega

/-- What a tile carries on. -/
theorem carry_at (j : Fin 8) (d : Fin 1024) : (outsAt0 m c t.val t.isLt).2.2 (ix2 j d : S8x1024.Idx) = strm m c s (n.val * 256 + 250 + j.val) d := by
  by_cases h0 : t.val % 8 = 0
  · rw [outsAt0_A m c t h0]
    frame_out
    exact (pay_carry _ j d).trans ((gated_at m c t s n ht _ d).trans (congrArg (fun n => strm m c s n d) (by show n.val * 256 + (2 + (248 + j.val)) = n.val * 256 + 250 + j.val; omega)))
  · rw [outsAt0_B m c t h0]
    frame_out
    exact (pay_carry _ j d).trans ((gated_at m c t s n ht _ d).trans (congrArg (fun n => strm m c s n d) (by show n.val * 256 + (2 + (248 + j.val)) = n.val * 256 + 250 + j.val; omega)))

/-- What a tile writes as its tail. -/
theorem tail_at (j : Fin 8) (d : Fin 1024) : (outsAt0 m c t.val t.isLt).2.1 (ix3 (0 : Fin 1) j d : S1x8x1024.Idx) = strm m c s (n.val * 256 + 250 + j.val) d := by
  by_cases h0 : t.val % 8 = 0
  · rw [outsAt0_A m c t h0]
    frame_out
    exact (pay_tail _ j d).trans ((gated_at m c t s n ht _ d).trans (congrArg (fun n => strm m c s n d) (by show n.val * 256 + (2 + (248 + j.val)) = n.val * 256 + 250 + j.val; omega)))
  · rw [outsAt0_B m c t h0]
    frame_out
    exact (pay_tail _ j d).trans ((gated_at m c t s n ht _ d).trans (congrArg (fun n => strm m c s n d) (by show n.val * 256 + (2 + (248 + j.val)) = n.val * 256 + 250 + j.val; omega)))

/-- A tile stores the reference's rows. -/
theorem out_at (p : Fin 256) (d : Fin 1024) (r : Fin 8192) (hr : r.val = s.val * 2048 + (n.val * 256 + p.val)) :
    (outsAt0 m c t.val t.isLt).1 (ix2 p d : S256x1024.Idx)
      = val_main_v32 (F := Ideal) (m ((c : Thread nD τ).loc main_arg0)) (m ((c : Thread nD τ).loc main_arg1)) (m ((c : Thread nD τ).loc main_arg2)) (ix2 r d : S8192x1024.Idx) := by
  by_cases h0 : t.val % 8 = 0
  · exact outA m c t s n ht h0 p d r hr
  · refine outB m c t s n ht h0 (fun j d => ?_) p d r hr
    exact carry_at m c ⟨t.val - 1, Nat.lt_of_le_of_lt (Nat.sub_le t.val 1) t.isLt⟩ s ⟨n.val - 1, by omega⟩ (by show t.val - 1 = s.val * 8 + (n.val - 1); omega) j d

end point

/-- The tail of a sequence is written back after its last tile. -/
theorem flush4 : ∀ t : Fin cfg0.N, (cfg0.win 4).flush t = true → t.val % 8 = 7 := by decide +kernel

/-- What the kernel leaves in the branch's array: the reference's. -/
theorem final3 (c : Dev nD) : (dats m 0 c).arrAt 3 (cfgs 0).N
    = val_main_v32 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have tN : t.val < 32 := t.isLt
  generalize hj : ((cfg0.win 3).blk t).view.emb y = j
  have hj0 : (j 0).val = ((grid0.coords t 0).val * 8 + (grid0.coords t 1).val) * 256 + (y 0).val := by
    rw [← hj]; blk_simp [maps t]
  have hj1 : j 1 = y 1 := by
    rw [← hj]; refine Fin.ext ?_; blk_simp [maps t]
  have ht : t.val = t.val / 8 * 8 + t.val % 8 := by omega
  have hy : (y 0).val < 256 := (y 0).isLt
  refine (congrArg _ (eq_ix2 y)).trans ((out_at m c t ⟨t.val / 8, by omega⟩ ⟨t.val % 8, by omega⟩ ht (y 0) (y 1) (j 0) ?_).trans ?_)
  · exact hj0.trans (row_val t ⟨t.val / 8, by omega⟩ ⟨t.val % 8, by omega⟩ ht (y 0))
  · rw [← hj1]
    exact (congrArg _ (eq_ix2 j)).symm

/-- What the kernel leaves in the tails' array: the reference's. -/
theorem final4 (c : Dev nD) : (dats m 0 c).arrAt 4 (cfgs 0).N
    = val_main_v33 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  have tN : t.val < 32 := t.isLt
  have h7 : t.val % 8 = 7 := flush4 t hf
  generalize hj : ((cfg0.win 4).blk t).view.emb y = j
  have hj0 : (j 0).val = (grid0.coords t 0).val := by
    rw [← hj]; blk_simp [maps t]
  have hj1 : j 1 = y 1 := by
    rw [← hj]; refine Fin.ext ?_; blk_simp [maps t]
  have hj2 : j 2 = y 2 := by
    rw [← hj]; refine Fin.ext ?_; blk_simp [maps t]
  have ht : t.val = t.val / 8 * 8 + t.val % 8 := by omega
  have y0 : y 0 = (0 : Fin 1) := Fin.ext (by have h : (y 0).val < 1 := (y 0).isLt; show (y 0).val = 0; omega)
  refine (congrArg _ (eq_ix3 y)).trans ?_
  rw [y0]
  refine (tail_at m c t ⟨t.val / 8, by omega⟩ ⟨t.val % 8, by omega⟩ ht (y 1) (y 2)).trans ?_
  refine Eq.trans ?_ (congrArg _ (eq_ix3 j)).symm
  rw [hj1, hj2]
  refine Eq.trans ?_ (ref_tail _ _ (j 0) (y 1) (y 2)).symm
  refine congrArg₂ (fun s n => strm m c s n (y 2)) (Fin.ext ?_) ?_
  · exact (hj0.trans (coords_at t).1).symm
  · show t.val % 8 * 256 + 250 + (y 1).val = 2042 + (y 1).val
    omega

end memory

/-- The reference's run, its results named by `val_main_v32` and `val_main_v33`. -/
theorem ref_run (m' : (ℓ : Loc Cert.ConvaRefIdeal.nD Cert.ConvaRefIdeal.τ Cert.ConvaRefIdeal.sig) → Buf (Elt Ideal) ℓ) (g' : Dev Cert.ConvaRefIdeal.nD → PrngReg) :
    θ_run Cert.ConvaRefIdeal.defs (onTc (τ := Cert.ConvaRefIdeal.τ) (Cert.ConvaRefIdeal.main (F := Ideal))) ⟨m', fun _ => 0, g'⟩
      fun r => ∀ c : Dev Cert.ConvaRefIdeal.nD,
        r.2.mem ((c.tc : Thread _ _).loc Cert.ConvaRefIdeal.main_v32)
          = val_main_v32 (F := Ideal) (m' ((c.tc : Thread _ _).loc Cert.ConvaRefIdeal.main_arg0)) (m' ((c.tc : Thread _ _).loc Cert.ConvaRefIdeal.main_arg1)) (m' ((c.tc : Thread _ _).loc Cert.ConvaRefIdeal.main_arg2))
        ∧ r.2.mem ((c.tc : Thread _ _).loc Cert.ConvaRefIdeal.main_v33)
          = val_main_v33 (F := Ideal) (m' ((c.tc : Thread _ _).loc Cert.ConvaRefIdeal.main_arg0)) (m' ((c.tc : Thread _ _).loc Cert.ConvaRefIdeal.main_arg1))
        ∧ r.2.mem ((c.tc : Thread _ _).loc Cert.ConvaRefIdeal.main_arg0) = m' ((c.tc : Thread _ _).loc Cert.ConvaRefIdeal.main_arg0)
        ∧ r.2.mem ((c.tc : Thread _ _).loc Cert.ConvaRefIdeal.main_arg1) = m' ((c.tc : Thread _ _).loc Cert.ConvaRefIdeal.main_arg1)
        ∧ r.2.mem ((c.tc : Thread _ _).loc Cert.ConvaRefIdeal.main_arg2) = m' ((c.tc : Thread _ _).loc Cert.ConvaRefIdeal.main_arg2) :=
  (θ_run _ _ _).mono (fun r h c => ⟨(h c).1.trans (val_main_v32_eq _ _), (h c).2.1.trans (val_main_v33_eq _ _), (h c).2.2⟩) (Cert.ConvaRefIdeal.Value.run m' g')

/-- The kernel's run, its results named by the reference's. -/
theorem ker_run (ρ : Dev nD → PrngReg) : θ_run defs (onTc (τ := τ) (main (F := Ideal))) ⟨m, fun _ => 0, ρ⟩ fun r => ∀ c : Dev nD,
      r.2.mem ((c : Thread nD τ).loc main_v2_0)
        = val_main_v32 (F := Ideal) (m ((c : Thread nD τ).loc main_arg0)) (m ((c : Thread nD τ).loc main_arg1)) (m ((c : Thread nD τ).loc main_arg2))
      ∧ r.2.mem ((c : Thread nD τ).loc main_v2_1)
        = val_main_v33 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩) (Cert.ConvaIdeal.Value.run_blocks m ρ)

/-- The gated convolution branch: the kernel and the reference end with equal branches and equal tails. -/
theorem algebraic : Cert.algebraic_ConvaIdeal_ConvaRefIdeal := by
  pair_intro
  · run_from ker_run m g
  · run_from ref_run m' g'

end Cert.ConvaIdeal.Hand

end
-- ==== Proof.ConvaSValue.lean ====
module

public import proofs.«01_k».proof.Proof.Gen.ConvaSIdeal.Value
public import proofs.«01_k».proof.Proof.Gen.ConvaSRefIdeal.Read
public import Idealize.ShloMosaic.Lib.Pipeline.ValueKit
public import Idealize.ShloMosaic.Lib.Pointwise
public import Idealize.ShloMosaic.Lib.Claim
public import Idealize.ShloMosaic.Lib.Pipeline.ReadBack
public import Idealize.ShloMosaic.Lib.KernelVsHost
public import proofs.«01_k».proof.Defs

@[expose] public section

set_option maxRecDepth 16384

noncomputable section

namespace Cert.ConvaSIdeal.Hand

open Idealize.ShloMosaic Idealize.ShloMosaic.TcCoe Idealize.SL.Sem
open Idealize.ShloMosaic.Pipeline (Dat)
open Cert.ConvaSIdeal Cert.ConvaSIdeal.Gen
open Cert.ConvaSRefIdeal.Read

variable (m : (ℓ : Loc nD τ sig) → Buf (Elt Ideal) ℓ)

/-- Which block each window shows at a grid point: row panel `g0 * 1 + g1` of the input projection's array and of the
    result, the state and the tail of sequence `g0`, and the whole array of taps. -/
theorem maps : ∀ t : Fin cfg0.N, win0_0.index t = ![(grid0.coords t 0).val * 1 + (grid0.coords t 1).val, 0]
    ∧ win0_1.index t = ![(grid0.coords t 0).val, 0, 0]
    ∧ win0_2.index t = ![0, 0]
    ∧ win0_3.index t = ![(grid0.coords t 0).val * 1 + (grid0.coords t 1).val, 0]
    ∧ win0_4.index t = ![(grid0.coords t 0).val, 0, 0] :=
  (by decide +kernel : ∀ t : Fin grid0.N, _)

/-- The grid runs through the tiles of a sequence, sequence after sequence. -/
theorem coords_at : ∀ t : Fin cfg0.N, (grid0.coords t 0).val = t.val / 1 ∧ (grid0.coords t 1).val = t.val % 1 :=
  (by decide +kernel : ∀ t : Fin grid0.N, (grid0.coords t 0).val = t.val / 1 ∧ (grid0.coords t 1).val = t.val % 1)

section spec

variable (Z : FVec Ideal S64x15360 .f32) (B : FVec Ideal S8x2x1024 .f32) (W : FVec Ideal S3x1024 .f32)

/-- What the convolution reads at a row: the product of two of the branch's four columns. -/
def gated (r : Fin 64) (d : Fin 1024) : EReal :=
  Z (ix2 r (⟨2048 + d.val, by omega⟩ : Fin 15360) : S64x15360.Idx) * Z (ix2 r (⟨d.val, by omega⟩ : Fin 15360) : S64x15360.Idx)

/-- A sequence's stream: the two entries of its state and then its rows. -/
def stream (s : Fin 8) (n : ℕ) (d : Fin 1024) : EReal :=
  if h : n < 2 then B (ix3 s (⟨n, h⟩ : Fin 2) d : S8x2x1024.Idx)
  else gated Z ⟨(s.val * 8 + (n - 2)) % 64, Nat.mod_lt _ (by decide)⟩ d

/-- One entry of the branch, from the three entries of the stream it reads. -/
def mixed (u0 u1 u2 : EReal) (r : Fin 64) (d : Fin 1024) : EReal :=
  Z (ix2 r (⟨1024 + d.val, by omega⟩ : Fin 15360) : S64x15360.Idx)
    * (u0 * W (ix2 (0 : Fin 3) d : S3x1024.Idx) + u1 * W (ix2 (1 : Fin 3) d : S3x1024.Idx) + u2 * W (ix2 (2 : Fin 3) d : S3x1024.Idx))
    * (Z (ix2 r (⟨3072 + d.val, by omega⟩ : Fin 15360) : S64x15360.Idx)
      * Ideal.logistic (Z (ix2 r (⟨3072 + d.val, by omega⟩ : Fin 15360) : S64x15360.Idx)))

/-- An entry of the stream at one of a sequence's rows. -/
theorem stream_row (s : Fin 8) (n : ℕ) (d : Fin 1024) (r : Fin 64) (hn : 2 ≤ n) (hr : r.val = s.val * 8 + (n - 2)) :
    stream Z B s n d = gated Z r d := by
  unfold stream
  rw [dif_neg (by omega)]
  exact congrArg (fun x => gated Z x d) (Fin.ext (by show (s.val * 8 + (n - 2)) % 64 = r.val; omega))

/-- An entry of the stream in the state. -/
theorem stream_state (s : Fin 8) (i : Fin 2) (n : ℕ) (d : Fin 1024) (hn : n = i.val) :
    stream Z B s n d = B (ix3 s i d : S8x2x1024.Idx) := by
  subst hn
  unfold stream
  rw [dif_pos i.isLt]

/-- The sum of three products, from the last to the first. -/
theorem sum3 (a b c x y z : EReal) : c * z + b * y + a * x = x * a + y * b + z * c := by
  rw [mul_comm c, mul_comm b, mul_comm a, add_comm, add_comm (z * c), ← add_assoc]

/-- An entry of the reference's stream. -/
theorem full_at (s : Fin 8) (n : Fin 10) (d : Fin 1024) :
    val_main_v7 (F := Ideal) Z B (ix3 s n d : Cert.ConvaSRefIdeal.S8x10x1024.Idx) = stream Z B s n.val d := by
  unfold val_main_v7
  by_cases h : n.val < 2
  · unfold stream
    rw [dif_pos h]
    pointwise
    rw [dif_pos h]
  · rw [stream_row Z B s n.val d ⟨s.val * 8 + (n.val - 2), by omega⟩ (by omega) rfl]
    pointwise
    rw [dif_neg h]
    unfold gated
    pointwise [val_main_v6, val_main_v4, val_main_v2, val_main_v1, val_main_v0]

/-- An entry of the reference's tail. -/
theorem ref_tail (s : Fin 8) (j : Fin 8) (d : Fin 1024) :
    val_main_v33 (F := Ideal) Z B (ix3 s j d : S8x8x1024.Idx) = stream Z B s (2 + j.val) d := by
  refine Eq.trans ?_ (full_at Z B s ⟨2 + j.val, by omega⟩ d)
  unfold val_main_v33
  generalize val_main_v7 (F := Ideal) Z B = X
  pointwise

/-- An entry of the reference's branch. -/
theorem ref_out (r : Fin 64) (d : Fin 1024) :
    val_main_v32 (F := Ideal) Z B W (ix2 r d : S64x1024.Idx)
      = mixed Z W (stream Z B ⟨r.val / 8, by omega⟩ (r.val % 8) d) (stream Z B ⟨r.val / 8, by omega⟩ (1 + r.val % 8) d)
          (stream Z B ⟨r.val / 8, by omega⟩ (2 + r.val % 8) d) r d := by
  rw [← full_at Z B ⟨r.val / 8, by omega⟩ ⟨r.val % 8, by omega⟩ d, ← full_at Z B ⟨r.val / 8, by omega⟩ ⟨1 + r.val % 8, by omega⟩ d,
    ← full_at Z B ⟨r.val / 8, by omega⟩ ⟨2 + r.val % 8, by omega⟩ d]
  unfold mixed val_main_v32 val_main_v31 val_main_v30 val_main_v28 val_main_v27 val_main_v26 val_main_v21 val_main_v20 val_main_v19 val_main_v14 val_main_v13 val_main_v8
  generalize val_main_v7 (F := Ideal) Z B = X
  pointwise [val_main_v29, val_main_v25, val_main_v24, val_main_v23, val_main_v22, val_main_v18, val_main_v17, val_main_v16, val_main_v15, val_main_v12, val_main_v11, val_main_v10, val_main_v9, val_main_v3, val_main_v5, val_main_v1, val_main_v0, val_main_call0_v5, val_main_call0_v4, val_main_call0_v3, val_main_call0_v2, val_main_call0_v1, val_main_call0_v0, val_main_call0_cst, val_main_call0_cst_0]
  rfl

end spec

section payload

variable (z : Vec Ideal S8x4096 .f32) (v9 : Vec Ideal S8x1024 .f32) (w : Vec Ideal S3x1024 .f32)

/-- A row of a tile's stream. -/
theorem gate_at (p : Fin 8) (d : Fin 1024) : k0_pay3 (F := Ideal) z (ix2 p d : S8x1024.Idx)
    = z (ix2 p (⟨2048 + d.val, by omega⟩ : Fin 4096) : S8x4096.Idx) * z (ix2 p (⟨d.val, by omega⟩ : Fin 4096) : S8x4096.Idx) := by
  pointwise [k0_pay3]

/-- An entry of what a tile stores, from the entries of the stream it reads: `u 0` and `u 1` are the carried ones. -/
theorem pay_at (d : Fin 1024) (u : ℕ → EReal) (h0 : v9 (ix2 (6 : Fin 8) d : S8x1024.Idx) = u 0) (h1 : v9 (ix2 (7 : Fin 8) d : S8x1024.Idx) = u 1)
    (h2 : ∀ p : Fin 8, k0_pay3 (F := Ideal) z (ix2 p d : S8x1024.Idx) = u (2 + p.val)) (p : Fin 8) :
    k0_pay4 (F := Ideal) z v9 w (ix2 p d : S8x1024.Idx)
      = z (ix2 p (⟨1024 + d.val, by omega⟩ : Fin 4096) : S8x4096.Idx)
        * (u p.val * w (ix2 (0 : Fin 3) d : S3x1024.Idx) + u (1 + p.val) * w (ix2 (1 : Fin 3) d : S3x1024.Idx) + u (2 + p.val) * w (ix2 (2 : Fin 3) d : S3x1024.Idx))
        * (z (ix2 p (⟨3072 + d.val, by omega⟩ : Fin 4096) : S8x4096.Idx)
          * Ideal.logistic (z (ix2 p (⟨3072 + d.val, by omega⟩ : Fin 4096) : S8x4096.Idx))) := by
  pointwise [k0_pay4]
  refine congrArg₂ (· * ·) (congrArg _ ?_) rfl
  refine Eq.trans ?_ (sum3 _ _ _ _ _ _)
  refine congrArg₂ (· + ·) (congrArg₂ (· + ·) (congrArg _ (h2 p)) (congrArg _ ?_)) (congrArg _ ?_)
  · by_cases h : (8 + p.val + 16 - 1) % 16 < 8
    · rw [dif_pos h]
      refine Eq.trans (congrArg v9 ((ix2_inj ..).2 ⟨Fin.ext ?_, rfl⟩)) (h1.trans (congrArg u ?_))
      · show (8 + p.val + 16 - 1) % 16 = 7
        omega
      · omega
    · rw [dif_neg h]
      refine (h2 ⟨(8 + p.val + 16 - 1) % 16 - 8, by omega⟩).trans (congrArg u ?_)
      show 2 + ((8 + p.val + 16 - 1) % 16 - 8) = 1 + p.val
      omega
  · by_cases h : (8 + p.val + 16 - 2) % 16 < 8
    · rw [dif_pos h]
      by_cases hp : p.val = 0
      · refine Eq.trans (congrArg v9 ((ix2_inj ..).2 ⟨Fin.ext ?_, rfl⟩)) (h0.trans (congrArg u ?_))
        · show (8 + p.val + 16 - 2) % 16 = 6
          omega
        · omega
      · refine Eq.trans (congrArg v9 ((ix2_inj ..).2 ⟨Fin.ext ?_, rfl⟩)) (h1.trans (congrArg u ?_))
        · show (8 + p.val + 16 - 2) % 16 = 7
          omega
        · omega
    · rw [dif_neg h]
      refine (h2 ⟨(8 + p.val + 16 - 2) % 16 - 8, by omega⟩).trans (congrArg u ?_)
      show 2 + ((8 + p.val + 16 - 2) % 16 - 8) = p.val
      omega

/-- What a tile writes out as its tail: its last eight rows. -/
theorem pay_tail (j : Fin 8) (d : Fin 1024) : k0_pay1 (F := Ideal) (k0_pay3 (F := Ideal) z) (ix3 (0 : Fin 1) j d : S1x8x1024.Idx)
    = k0_pay3 (F := Ideal) z (ix2 (⟨j.val, by omega⟩ : Fin 8) d : S8x1024.Idx) := by
  pointwise [k0_pay1]

/-- The state a sequence begins with. -/
theorem pay_state (x : Vec Ideal S1x8x1024 .f32) (j : Fin 8) (d : Fin 1024) : k0_pay2 (F := Ideal) x (ix2 j d : S8x1024.Idx)
    = x (ix3 (0 : Fin 1) j d : S1x8x1024.Idx) := by
  pointwise [k0_pay2]

end payload

section memory

variable (m : (ℓ : Loc nD τ sig) → Buf (Elt Ideal) ℓ)

/-- The state tile the call stages: six zero rows and the state. -/
theorem state_eq (c : Dev nD) : V m c main_v1
    = (concatenate S8x8x1024 1 [⟨S8x6x1024, (broadcastInDim S8x6x1024 ![] bcast_S_S8x6x1024 (constant S_ .f32 0x00000000#32) : FVec Ideal S8x6x1024 .f32)⟩,
        ⟨S8x2x1024, (m ((c : Thread nD τ).loc main_arg1) : FVec Ideal S8x2x1024 .f32)⟩] concatenates_S8x6x1024_S8x2x1024_S8x8x1024_d1
        : FVec Ideal S8x8x1024 .f32) := rfl

/-- The last two rows of the state tile are the state. -/
theorem state_at (c : Dev nD) (s : Fin 8) (j : Fin 8) (i : Fin 2) (hj : j.val = 6 + i.val) (d : Fin 1024) :
    V m c main_v1 (ix3 s j d : S8x8x1024.Idx) = m ((c : Thread nD τ).loc main_arg1) (ix3 s i d : S8x2x1024.Idx) := by
  rw [state_eq]
  generalize m ((c : Thread nD τ).loc main_arg1) = X
  pointwise
  rw [dif_neg (by omega)]
  exact congrArg X ((ix3_inj ..).2 ⟨rfl, Fin.ext (by show j.val - 6 = i.val; omega), rfl⟩)

/-- A row of the staged panel is that row of the input projection's array. -/
theorem row0 (c : Dev nD) (t : Fin cfg0.N) (p : Fin 8) (k : Fin 4096) (r : Fin 64) (q : Fin 15360)
    (hr : r.val = ((grid0.coords t 0).val * 1 + (grid0.coords t 1).val) * 8 + p.val) (hq : q.val = k.val) :
    X0_0 m c t (ix2 p k : S8x4096.Idx) = m ((c : Thread nD τ).loc main_arg0) (ix2 r q : S64x15360.Idx) := by
  have h1 : (grid0.coords t 1).val = 0 := by
    rw [(coords_at t).2]
    omega
  rw [h1] at hr
  unfold X0_0 Pipeline.Window.fill
  rw [dif_pos (moved0_0 t _)]
  blk_ext [iblk, V, maps t]

/-- The staged state is the sequence's. -/
theorem blk1 (c : Dev nD) (t : Fin cfg0.N) (s : Fin 8) (hs : s.val = (grid0.coords t 0).val) (j : Fin 8) (i : Fin 2)
    (hj : j.val = 6 + i.val) (d : Fin 1024) :
    iblk m c 1 t (ix3 (0 : Fin 1) j d : S1x8x1024.Idx) = m ((c : Thread nD τ).loc main_arg1) (ix3 s i d : S8x2x1024.Idx) := by
  refine Eq.trans ?_ (state_at m c s j i hj d)
  blk_ext [iblk, maps t]

/-- The staged taps are the argument. -/
theorem blk2 (c : Dev nD) (t : Fin cfg0.N) (a : Fin 3) (d : Fin 1024) :
    iblk m c 2 t (ix2 a d : S3x1024.Idx) = m ((c : Thread nD τ).loc main_arg2) (ix2 a d : S3x1024.Idx) := by
  blk_ext [iblk, V, maps t]

/-- The stream of a sequence, of the arguments. -/
abbrev strm (c : Dev nD) (s : Fin 8) (n : ℕ) (d : Fin 1024) : EReal :=
  stream (m ((c : Thread nD τ).loc main_arg0)) (m ((c : Thread nD τ).loc main_arg1)) s n d

section point

variable (c : Dev nD) (t : Fin cfg0.N) (s : Fin 8) (n : Fin 1) (ht : t.val = s.val * 1 + n.val)

include ht

/-- Where a tile's rows are. -/
theorem row_val (p : Fin 8) : ((grid0.coords t 0).val * 1 + (grid0.coords t 1).val) * 8 + p.val = s.val * 8 + (n.val * 8 + p.val) := by
  rw [(coords_at t).1, (coords_at t).2]
  omega

/-- A tile's gated rows are entries of the stream. -/
theorem gated_at (p : Fin 8) (d : Fin 1024) :
    k0_pay3 (F := Ideal) (X0_0 m c t) (ix2 p d : S8x1024.Idx) = strm m c s (n.val * 8 + (2 + p.val)) d := by
  rw [gate_at]
  have e := row_val t s n ht p
  refine Eq.trans ?_ (stream_row _ _ s _ d ⟨s.val * 8 + (n.val * 8 + p.val), by omega⟩ (by omega) (by show s.val * 8 + (n.val * 8 + p.val) = s.val * 8 + (n.val * 8 + (2 + p.val) - 2); omega)).symm
  unfold gated
  exact congrArg₂ (· * ·) (row0 m c t p _ _ _ e.symm rfl) (row0 m c t p _ _ _ e.symm rfl)

/-- What a tile stores, from what was carried into it. -/
theorem out_spec (v9 : Vec Ideal S8x1024 .f32) (p : Fin 8) (d : Fin 1024) (h0 : v9 (ix2 (6 : Fin 8) d : S8x1024.Idx) = strm m c s (n.val * 8) d)
    (h1 : v9 (ix2 (7 : Fin 8) d : S8x1024.Idx) = strm m c s (n.val * 8 + 1) d) (r : Fin 64) (hr : r.val = s.val * 8 + (n.val * 8 + p.val)) :
    k0_pay4 (F := Ideal) (X0_0 m c t) v9 (iblk m c 2 t) (ix2 p d : S8x1024.Idx)
      = val_main_v32 (F := Ideal) (m ((c : Thread nD τ).loc main_arg0)) (m ((c : Thread nD τ).loc main_arg1)) (m ((c : Thread nD τ).loc main_arg2)) (ix2 r d : S64x1024.Idx) := by
  rw [ref_out, pay_at (X0_0 m c t) v9 (iblk m c 2 t) d (fun i => strm m c s (n.val * 8 + i) d) h0 h1 (fun p => gated_at m c t s n ht p d) p]
  have e := row_val t s n ht p
  have es : s = ⟨r.val / 8, by omega⟩ := Fin.ext (by show s.val = r.val / 8; omega)
  unfold mixed
  refine Ideal.mul_congr (Ideal.mul_congr (row0 m c t p _ _ _ (hr.trans e.symm) rfl) (Ideal.add_congr (Ideal.add_congr (Ideal.mul_congr ?_ (blk2 m c t 0 d)) (Ideal.mul_congr ?_ (blk2 m c t 1 d))) (Ideal.mul_congr ?_ (blk2 m c t 2 d))))
    (Ideal.mul_congr (row0 m c t p _ _ _ (hr.trans e.symm) rfl) (congrArg Ideal.logistic (row0 m c t p _ _ _ (hr.trans e.symm) rfl)))
  · exact congrArg₂ (fun s n => strm m c s n d) es (by omega)
  · exact congrArg₂ (fun s n => strm m c s n d) es (by omega)
  · exact congrArg₂ (fun s n => strm m c s n d) es (by omega)

/-- A tile stores the reference's rows. -/
theorem out_at (p : Fin 8) (d : Fin 1024) (r : Fin 64) (hr : r.val = s.val * 8 + (n.val * 8 + p.val)) :
    (outsAt0 m c t).1 (ix2 p d : S8x1024.Idx)
      = val_main_v32 (F := Ideal) (m ((c : Thread nD τ).loc main_arg0)) (m ((c : Thread nD τ).loc main_arg1)) (m ((c : Thread nD τ).loc main_arg2)) (ix2 r d : S64x1024.Idx) := by
  unfold outsAt0
  have hn : n.val = 0 := by omega
  have hs : s.val = (grid0.coords t 0).val := by rw [(coords_at t).1]; omega
  frame_out
  refine out_spec m c t s n ht _ p d ?_ ?_ r hr
  · exact (pay_state _ 6 d).trans ((blk1 m c t s hs 6 0 rfl d).trans (stream_state _ _ s 0 _ d (by show n.val * 8 = 0; omega)).symm)
  · exact (pay_state _ 7 d).trans ((blk1 m c t s hs 7 1 rfl d).trans (stream_state _ _ s 1 _ d (by show n.val * 8 + 1 = 1; omega)).symm)

/-- What a tile writes as its tail. -/
theorem tail_at (j : Fin 8) (d : Fin 1024) : (outsAt0 m c t).2 (ix3 (0 : Fin 1) j d : S1x8x1024.Idx) = strm m c s (n.val * 8 + 2 + j.val) d := by
  unfold outsAt0
  frame_out
  exact (pay_tail _ j d).trans ((gated_at m c t s n ht _ d).trans (congrArg (fun n => strm m c s n d) (by show n.val * 8 + (2 + (j.val)) = n.val * 8 + 2 + j.val; omega)))

end point

/-- The tail of a sequence is written back after its last tile. -/
theorem flush4 : ∀ t : Fin cfg0.N, (cfg0.win 4).flush t = true → t.val % 1 = 0 := by decide +kernel

/-- What the kernel leaves in the branch's array: the reference's. -/
theorem final3 (c : Dev nD) : (dats m 0 c).arrAt 3 (cfgs 0).N
    = val_main_v32 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have tN : t.val < 8 := t.isLt
  generalize hj : ((cfg0.win 3).blk t).view.emb y = j
  have hj0 : (j 0).val = ((grid0.coords t 0).val * 1 + (grid0.coords t 1).val) * 8 + (y 0).val := by
    rw [← hj]; blk_simp [maps t]
  have hj1 : j 1 = y 1 := by
    rw [← hj]; refine Fin.ext ?_; blk_simp [maps t]
  have ht : t.val = t.val / 1 * 1 + t.val % 1 := by omega
  have hy : (y 0).val < 8 := (y 0).isLt
  refine (congrArg _ (eq_ix2 y)).trans ((out_at m c t ⟨t.val / 1, by omega⟩ ⟨t.val % 1, by omega⟩ ht (y 0) (y 1) (j 0) ?_).trans ?_)
  · exact hj0.trans (row_val t ⟨t.val / 1, by omega⟩ ⟨t.val % 1, by omega⟩ ht (y 0))
  · rw [← hj1]
    exact (congrArg _ (eq_ix2 j)).symm

/-- What the kernel leaves in the tails' array: the reference's. -/
theorem final4 (c : Dev nD) : (dats m 0 c).arrAt 4 (cfgs 0).N
    = val_main_v33 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  have tN : t.val < 8 := t.isLt
  have h7 : t.val % 1 = 0 := flush4 t hf
  generalize hj : ((cfg0.win 4).blk t).view.emb y = j
  have hj0 : (j 0).val = (grid0.coords t 0).val := by
    rw [← hj]; blk_simp [maps t]
  have hj1 : j 1 = y 1 := by
    rw [← hj]; refine Fin.ext ?_; blk_simp [maps t]
  have hj2 : j 2 = y 2 := by
    rw [← hj]; refine Fin.ext ?_; blk_simp [maps t]
  have ht : t.val = t.val / 1 * 1 + t.val % 1 := by omega
  have y0 : y 0 = (0 : Fin 1) := Fin.ext (by have h : (y 0).val < 1 := (y 0).isLt; show (y 0).val = 0; omega)
  refine (congrArg _ (eq_ix3 y)).trans ?_
  rw [y0]
  refine (tail_at m c t ⟨t.val / 1, by omega⟩ ⟨t.val % 1, by omega⟩ ht (y 1) (y 2)).trans ?_
  refine Eq.trans ?_ (congrArg _ (eq_ix3 j)).symm
  rw [hj1, hj2]
  refine Eq.trans ?_ (ref_tail _ _ (j 0) (y 1) (y 2)).symm
  refine congrArg₂ (fun s n => strm m c s n (y 2)) (Fin.ext ?_) ?_
  · exact (hj0.trans (coords_at t).1).symm
  · show t.val % 1 * 8 + 2 + (y 1).val = 2 + (y 1).val
    omega

end memory

/-- The reference's run, its results named by `val_main_v32` and `val_main_v33`. -/
theorem ref_run (m' : (ℓ : Loc Cert.ConvaSRefIdeal.nD Cert.ConvaSRefIdeal.τ Cert.ConvaSRefIdeal.sig) → Buf (Elt Ideal) ℓ) (g' : Dev Cert.ConvaSRefIdeal.nD → PrngReg) :
    θ_run Cert.ConvaSRefIdeal.defs (onTc (τ := Cert.ConvaSRefIdeal.τ) (Cert.ConvaSRefIdeal.main (F := Ideal))) ⟨m', fun _ => 0, g'⟩
      fun r => ∀ c : Dev Cert.ConvaSRefIdeal.nD,
        r.2.mem ((c.tc : Thread _ _).loc Cert.ConvaSRefIdeal.main_v32)
          = val_main_v32 (F := Ideal) (m' ((c.tc : Thread _ _).loc Cert.ConvaSRefIdeal.main_arg0)) (m' ((c.tc : Thread _ _).loc Cert.ConvaSRefIdeal.main_arg1)) (m' ((c.tc : Thread _ _).loc Cert.ConvaSRefIdeal.main_arg2))
        ∧ r.2.mem ((c.tc : Thread _ _).loc Cert.ConvaSRefIdeal.main_v33)
          = val_main_v33 (F := Ideal) (m' ((c.tc : Thread _ _).loc Cert.ConvaSRefIdeal.main_arg0)) (m' ((c.tc : Thread _ _).loc Cert.ConvaSRefIdeal.main_arg1))
        ∧ r.2.mem ((c.tc : Thread _ _).loc Cert.ConvaSRefIdeal.main_arg0) = m' ((c.tc : Thread _ _).loc Cert.ConvaSRefIdeal.main_arg0)
        ∧ r.2.mem ((c.tc : Thread _ _).loc Cert.ConvaSRefIdeal.main_arg1) = m' ((c.tc : Thread _ _).loc Cert.ConvaSRefIdeal.main_arg1)
        ∧ r.2.mem ((c.tc : Thread _ _).loc Cert.ConvaSRefIdeal.main_arg2) = m' ((c.tc : Thread _ _).loc Cert.ConvaSRefIdeal.main_arg2) :=
  (θ_run _ _ _).mono (fun r h c => ⟨(h c).1.trans (val_main_v32_eq _ _ _), (h c).2.1.trans (val_main_v33_eq _ _), (h c).2.2⟩) (Cert.ConvaSRefIdeal.Value.run m' g')

/-- The kernel's run, its results named by the reference's. -/
theorem ker_run (ρ : Dev nD → PrngReg) : θ_run defs (onTc (τ := τ) (main (F := Ideal))) ⟨m, fun _ => 0, ρ⟩ fun r => ∀ c : Dev nD,
      r.2.mem ((c : Thread nD τ).loc main_v2_0)
        = val_main_v32 (F := Ideal) (m ((c : Thread nD τ).loc main_arg0)) (m ((c : Thread nD τ).loc main_arg1)) (m ((c : Thread nD τ).loc main_arg2))
      ∧ r.2.mem ((c : Thread nD τ).loc main_v2_1)
        = val_main_v33 (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩) (Cert.ConvaSIdeal.Value.run_blocks m ρ)

/-- The gated convolution branch: the kernel and the reference end with equal branches and equal tails. -/
theorem algebraic : Cert.algebraic_ConvaSIdeal_ConvaSRefIdeal := by
  pair_intro
  · run_from ker_run m g
  · run_from ref_run m' g'

end Cert.ConvaSIdeal.Hand

end
-- ==== Proof.lean ====
module

public import proofs.«01_k».proof.Defs
public import proofs.«01_k».proof.Proof.GlaValue
public import proofs.«01_k».proof.Proof.Gen.Gla.Frame
public import proofs.«01_k».proof.Proof.Gen.GlaIdeal.Frame
public import proofs.«01_k».proof.Proof.Gen.GlaRefIdeal.Run
public import proofs.«01_k».proof.Proof.MergeValue
public import proofs.«01_k».proof.Proof.Gen.Merge.Frame
public import proofs.«01_k».proof.Proof.Gen.MergeIdeal.Frame
public import proofs.«01_k».proof.Proof.Gen.MergeRefIdeal.Run
public import proofs.«01_k».proof.Proof.InProjValue
public import proofs.«01_k».proof.Proof.Gen.InProj.Frame
public import proofs.«01_k».proof.Proof.Gen.InProjIdeal.Frame
public import proofs.«01_k».proof.Proof.Gen.InProjRefIdeal.Run
public import proofs.«01_k».proof.Proof.OutProjValue
public import proofs.«01_k».proof.Proof.Gen.OutProj.Frame
public import proofs.«01_k».proof.Proof.Gen.OutProjIdeal.Frame
public import proofs.«01_k».proof.Proof.Gen.OutProjRefIdeal.Run
public import proofs.«01_k».proof.Proof.FNormValue
public import proofs.«01_k».proof.Proof.Gen.FNorm.Frame
public import proofs.«01_k».proof.Proof.Gen.FNormIdeal.Frame
public import proofs.«01_k».proof.Proof.Gen.FNormRefIdeal.Run
public import proofs.«01_k».proof.Proof.FNormSValue
public import proofs.«01_k».proof.Proof.Gen.FNormS.Frame
public import proofs.«01_k».proof.Proof.Gen.FNormSIdeal.Frame
public import proofs.«01_k».proof.Proof.Gen.FNormSRefIdeal.Run
public import proofs.«01_k».proof.Proof.RopeSValue
public import proofs.«01_k».proof.Proof.Gen.RopeS.Frame
public import proofs.«01_k».proof.Proof.Gen.RopeSIdeal.Frame
public import proofs.«01_k».proof.Proof.Gen.RopeSRefIdeal.Run
public import proofs.«01_k».proof.Proof.ConvaValue
public import proofs.«01_k».proof.Proof.Gen.Conva.Frame
public import proofs.«01_k».proof.Proof.Gen.ConvaIdeal.Frame
public import proofs.«01_k».proof.Proof.Gen.ConvaRefIdeal.Run
public import proofs.«01_k».proof.Proof.ConvaSValue
public import proofs.«01_k».proof.Proof.Gen.ConvaS.Frame
public import proofs.«01_k».proof.Proof.Gen.ConvaSIdeal.Frame
public import proofs.«01_k».proof.Proof.Gen.ConvaSRefIdeal.Run
public import Idealize.ShloMosaic.Adequacy
public import Idealize.ShloMosaic.Init

@[expose] public section

noncomputable section

namespace Cert.Proof

open Idealize.ShloMosaic Idealize.SL.Sem

/-- The reference of `Gla` ends with its arguments unchanged and every counter at zero: it declares no semaphore. -/
theorem frame_GlaRef : Cert.quiescent_GlaRefIdeal := fun m ρ _ =>
  (θ_run Cert.GlaRefIdeal.defs _ _).mono (fun r h => ⟨fun c => (h c).2.2, Idealize.ShloMosaic.sem_eq_zero_of_no_sems (by decide) r.2⟩)
    (Cert.GlaRefIdeal.Value.run (F := Ideal) m ρ)

/-- The reference of `Merge` ends with its arguments unchanged and every counter at zero: it declares no semaphore. -/
theorem frame_MergeRef : Cert.quiescent_MergeRefIdeal := fun m ρ _ =>
  (θ_run Cert.MergeRefIdeal.defs _ _).mono (fun r h => ⟨fun c => (h c).2, Idealize.ShloMosaic.sem_eq_zero_of_no_sems (by decide) r.2⟩)
    (Cert.MergeRefIdeal.Value.run (F := Ideal) m ρ)

/-- The reference of `InProj` ends with its arguments unchanged and every counter at zero: it declares no semaphore. -/
theorem frame_InProjRef : Cert.quiescent_InProjRefIdeal := fun m ρ _ =>
  (θ_run Cert.InProjRefIdeal.defs _ _).mono (fun r h => ⟨fun c => (h c).2, Idealize.ShloMosaic.sem_eq_zero_of_no_sems (by decide) r.2⟩)
    (Cert.InProjRefIdeal.Value.run (F := Ideal) m ρ)

/-- The reference of `OutProj` ends with its arguments unchanged and every counter at zero: it declares no semaphore. -/
theorem frame_OutProjRef : Cert.quiescent_OutProjRefIdeal := fun m ρ _ =>
  (θ_run Cert.OutProjRefIdeal.defs _ _).mono (fun r h => ⟨fun c => (h c).2, Idealize.ShloMosaic.sem_eq_zero_of_no_sems (by decide) r.2⟩)
    (Cert.OutProjRefIdeal.Value.run (F := Ideal) m ρ)

/-- The reference of `FNorm` ends with its arguments unchanged and every counter at zero: it declares no semaphore. -/
theorem frame_FNormRef : Cert.quiescent_FNormRefIdeal := fun m ρ _ =>
  (θ_run Cert.FNormRefIdeal.defs _ _).mono (fun r h => ⟨fun c => (h c).2, Idealize.ShloMosaic.sem_eq_zero_of_no_sems (by decide) r.2⟩)
    (Cert.FNormRefIdeal.Value.run (F := Ideal) m ρ)

/-- The reference of `FNormS` ends with its arguments unchanged and every counter at zero: it declares no semaphore. -/
theorem frame_FNormSRef : Cert.quiescent_FNormSRefIdeal := fun m ρ _ =>
  (θ_run Cert.FNormSRefIdeal.defs _ _).mono (fun r h => ⟨fun c => (h c).2, Idealize.ShloMosaic.sem_eq_zero_of_no_sems (by decide) r.2⟩)
    (Cert.FNormSRefIdeal.Value.run (F := Ideal) m ρ)

/-- The reference of `RopeS` ends with its arguments unchanged and every counter at zero: it declares no semaphore. -/
theorem frame_RopeSRef : Cert.quiescent_RopeSRefIdeal := fun m ρ _ =>
  (θ_run Cert.RopeSRefIdeal.defs _ _).mono (fun r h => ⟨fun c => (h c).2.2.2.2.2, Idealize.ShloMosaic.sem_eq_zero_of_no_sems (by decide) r.2⟩)
    (Cert.RopeSRefIdeal.Value.run (F := Ideal) m ρ)

/-- The reference of `Conva` ends with its arguments unchanged and every counter at zero: it declares no semaphore. -/
theorem frame_ConvaRef : Cert.quiescent_ConvaRefIdeal := fun m ρ _ =>
  (θ_run Cert.ConvaRefIdeal.defs _ _).mono (fun r h => ⟨fun c => (h c).2.2, Idealize.ShloMosaic.sem_eq_zero_of_no_sems (by decide) r.2⟩)
    (Cert.ConvaRefIdeal.Value.run (F := Ideal) m ρ)

/-- The reference of `ConvaS` ends with its arguments unchanged and every counter at zero: it declares no semaphore. -/
theorem frame_ConvaSRef : Cert.quiescent_ConvaSRefIdeal := fun m ρ _ =>
  (θ_run Cert.ConvaSRefIdeal.defs _ _).mono (fun r h => ⟨fun c => (h c).2.2, Idealize.ShloMosaic.sem_eq_zero_of_no_sems (by decide) r.2⟩)
    (Cert.ConvaSRefIdeal.Value.run (F := Ideal) m ρ)

/-- Every claim about the calls holds. -/
theorem claim : Cert.Claim :=
  ⟨Cert.Gla.Gen.facts,
    Cert.GlaIdeal.Gen.facts,
    Cert.GlaRefIdeal.Gen.facts,
    Cert.Merge.Gen.facts,
    Cert.MergeIdeal.Gen.facts,
    Cert.MergeRefIdeal.Gen.facts,
    Cert.InProj.Gen.facts,
    Cert.InProjIdeal.Gen.facts,
    Cert.InProjRefIdeal.Gen.facts,
    Cert.OutProj.Gen.facts,
    Cert.OutProjIdeal.Gen.facts,
    Cert.OutProjRefIdeal.Gen.facts,
    Cert.FNorm.Gen.facts,
    Cert.FNormIdeal.Gen.facts,
    Cert.FNormRefIdeal.Gen.facts,
    Cert.FNormS.Gen.facts,
    Cert.FNormSIdeal.Gen.facts,
    Cert.FNormSRefIdeal.Gen.facts,
    Cert.RopeS.Gen.facts,
    Cert.RopeSIdeal.Gen.facts,
    Cert.RopeSRefIdeal.Gen.facts,
    Cert.Conva.Gen.facts,
    Cert.ConvaIdeal.Gen.facts,
    Cert.ConvaRefIdeal.Gen.facts,
    Cert.ConvaS.Gen.facts,
    Cert.ConvaSIdeal.Gen.facts,
    Cert.ConvaSRefIdeal.Gen.facts,
    fun m ρ _ => Cert.Gla.Gen.frame m ρ,
    fun m ρ _ => Cert.GlaIdeal.Gen.frame m ρ,
    frame_GlaRef,
    fun m ρ _ => Cert.Merge.Gen.frame m ρ,
    fun m ρ _ => Cert.MergeIdeal.Gen.frame m ρ,
    frame_MergeRef,
    fun m ρ _ => Cert.InProj.Gen.frame m ρ,
    fun m ρ _ => Cert.InProjIdeal.Gen.frame m ρ,
    frame_InProjRef,
    fun m ρ _ => Cert.OutProj.Gen.frame m ρ,
    fun m ρ _ => Cert.OutProjIdeal.Gen.frame m ρ,
    frame_OutProjRef,
    fun m ρ _ => Cert.FNorm.Gen.frame m ρ,
    fun m ρ _ => Cert.FNormIdeal.Gen.frame m ρ,
    frame_FNormRef,
    fun m ρ _ => Cert.FNormS.Gen.frame m ρ,
    fun m ρ _ => Cert.FNormSIdeal.Gen.frame m ρ,
    frame_FNormSRef,
    fun m ρ _ => Cert.RopeS.Gen.frame m ρ,
    fun m ρ _ => Cert.RopeSIdeal.Gen.frame m ρ,
    frame_RopeSRef,
    fun m ρ _ => Cert.Conva.Gen.frame m ρ,
    fun m ρ _ => Cert.ConvaIdeal.Gen.frame m ρ,
    frame_ConvaRef,
    fun m ρ _ => Cert.ConvaS.Gen.frame m ρ,
    fun m ρ _ => Cert.ConvaSIdeal.Gen.frame m ρ,
    frame_ConvaSRef,
    trivial,
    Cert.GlaIdeal.Hand.algebraic,
    trivial,
    Cert.MergeIdeal.Hand.algebraic,
    trivial,
    Cert.InProjIdeal.Hand.algebraic,
    trivial,
    Cert.OutProjIdeal.Hand.algebraic,
    trivial,
    Cert.FNormIdeal.Hand.algebraic,
    trivial,
    Cert.FNormSIdeal.Hand.algebraic,
    trivial,
    Cert.RopeSIdeal.Hand.algebraic,
    trivial,
    Cert.ConvaIdeal.Hand.algebraic,
    trivial,
    Cert.ConvaSIdeal.Hand.algebraic⟩

end Cert.Proof

end
